-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12)
      ∧ r.2.mem ((c.tc : Thread Cert.Mixer.nD Cert.Mixer.τ).loc Cert.Mixer.main_arg13) = m ((c.tc : Thread Cert.Mixer.nD Cert.Mixer.τ).loc Cert.Mixer.main_arg13))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
      ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6)
      ∧ r.2.mem ((c.tc : Thread Cert.MixerRefIdeal.nD Cert.MixerRefIdeal.τ).loc Cert.MixerRefIdeal.main_arg7) = m ((c.tc : Thread Cert.MixerRefIdeal.nD Cert.MixerRefIdeal.τ).loc Cert.MixerRefIdeal.main_arg7)
      ∧ r.2.mem ((c.tc : Thread Cert.MixerRefIdeal.nD Cert.MixerRefIdeal.τ).loc Cert.MixerRefIdeal.main_arg8) = m ((c.tc : Thread Cert.MixerRefIdeal.nD Cert.MixerRefIdeal.τ).loc Cert.MixerRefIdeal.main_arg8)
      ∧ r.2.mem ((c.tc : Thread Cert.MixerRefIdeal.nD Cert.MixerRefIdeal.τ).loc Cert.MixerRefIdeal.main_arg9) = m ((c.tc : Thread Cert.MixerRefIdeal.nD Cert.MixerRefIdeal.τ).loc Cert.MixerRefIdeal.main_arg9)
      ∧ r.2.mem ((c.tc : Thread Cert.MixerRefIdeal.nD Cert.MixerRefIdeal.τ).loc Cert.MixerRefIdeal.main_arg10) = m ((c.tc : Thread Cert.MixerRefIdeal.nD Cert.MixerRefIdeal.τ).loc Cert.MixerRefIdeal.main_arg10)
      ∧ r.2.mem ((c.tc : Thread Cert.MixerRefIdeal.nD Cert.MixerRefIdeal.τ).loc Cert.MixerRefIdeal.main_arg11) = m ((c.tc : Thread Cert.MixerRefIdeal.nD Cert.MixerRefIdeal.τ).loc Cert.MixerRefIdeal.main_arg11)
      ∧ r.2.mem ((c.tc : Thread Cert.MixerRefIdeal.nD Cert.MixerRefIdeal.τ).loc Cert.MixerRefIdeal.main_arg12) = m ((c.tc : Thread Cert.MixerRefIdeal.nD Cert.MixerRefIdeal.τ).loc Cert.MixerRefIdeal.main_arg12)
      ∧ r.2.mem ((c.tc : Thread Cert.MixerRefIdeal.nD Cert.MixerRefIdeal.τ).loc Cert.MixerRefIdeal.main_arg13) = m ((c.tc : Thread Cert.MixerRefIdeal.nD Cert.MixerRefIdeal.τ).loc Cert.MixerRefIdeal.main_arg13))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_2)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v18)) (v4 : (c : Dev Cert.KernelIdeal.nD) → Buf (Elt Ideal) ((c.tc : Thread Cert.KernelIdeal.nD Cert.KernelIdeal.τ).loc Cert.KernelIdeal.main_v11)) (v5 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_2) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v18) = v3 c
          ∧ r.2.mem ((c.tc : Thread Cert.KernelIdeal.nD Cert.KernelIdeal.τ).loc Cert.KernelIdeal.main_v11) = v4 c
          ∧ r.2.mem ((c.tc : Thread Cert.KernelIdeal.nD Cert.KernelIdeal.τ).loc Cert.KernelIdeal.main_v8) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_v27) = v4 c
          ∧ r.2.mem ((c.tc : Thread Cert.ReferenceIdeal.nD Cert.ReferenceIdeal.τ).loc Cert.ReferenceIdeal.main_v22) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)
      ∧ m' ((c.tc : Thread Cert.MixerRefIdeal.nD Cert.MixerRefIdeal.τ).loc Cert.MixerRefIdeal.main_arg7) = m ((c.tc : Thread Cert.MixerIdeal.nD Cert.MixerIdeal.τ).loc Cert.MixerIdeal.main_arg7)
      ∧ m' ((c.tc : Thread Cert.MixerRefIdeal.nD Cert.MixerRefIdeal.τ).loc Cert.MixerRefIdeal.main_arg8) = m ((c.tc : Thread Cert.MixerIdeal.nD Cert.MixerIdeal.τ).loc Cert.MixerIdeal.main_arg8)
      ∧ m' ((c.tc : Thread Cert.MixerRefIdeal.nD Cert.MixerRefIdeal.τ).loc Cert.MixerRefIdeal.main_arg9) = m ((c.tc : Thread Cert.MixerIdeal.nD Cert.MixerIdeal.τ).loc Cert.MixerIdeal.main_arg9)
      ∧ m' ((c.tc : Thread Cert.MixerRefIdeal.nD Cert.MixerRefIdeal.τ).loc Cert.MixerRefIdeal.main_arg10) = m ((c.tc : Thread Cert.MixerIdeal.nD Cert.MixerIdeal.τ).loc Cert.MixerIdeal.main_arg10)
      ∧ m' ((c.tc : Thread Cert.MixerRefIdeal.nD Cert.MixerRefIdeal.τ).loc Cert.MixerRefIdeal.main_arg11) = m ((c.tc : Thread Cert.MixerIdeal.nD Cert.MixerIdeal.τ).loc Cert.MixerIdeal.main_arg11)
      ∧ m' ((c.tc : Thread Cert.MixerRefIdeal.nD Cert.MixerRefIdeal.τ).loc Cert.MixerRefIdeal.main_arg12) = m ((c.tc : Thread Cert.MixerIdeal.nD Cert.MixerIdeal.τ).loc Cert.MixerIdeal.main_arg12)
      ∧ m' ((c.tc : Thread Cert.MixerRefIdeal.nD Cert.MixerRefIdeal.τ).loc Cert.MixerRefIdeal.main_arg13) = m ((c.tc : Thread Cert.MixerIdeal.nD Cert.MixerIdeal.τ).loc Cert.MixerIdeal.main_arg13)) →
    ∃ (v0 : (c : Dev Cert.MixerIdeal.nD) → Buf (Elt Ideal) ((c.tc : Thread Cert.MixerIdeal.nD Cert.MixerIdeal.τ).loc Cert.MixerIdeal.main_v22_0)) (v1 : (c : Dev Cert.MixerIdeal.nD) → Buf (Elt Ideal) ((c.tc : Thread Cert.MixerIdeal.nD Cert.MixerIdeal.τ).loc Cert.MixerIdeal.main_v22_1)) (v2 : (c : Dev Cert.MixerIdeal.nD) → Buf (Elt Ideal) ((c.tc : Thread Cert.MixerIdeal.nD Cert.MixerIdeal.τ).loc Cert.MixerIdeal.main_v16_0)) (v3 : (c : Dev Cert.MixerIdeal.nD) → Buf (Elt Ideal) ((c.tc : Thread Cert.MixerIdeal.nD Cert.MixerIdeal.τ).loc Cert.MixerIdeal.main_v23)) (v4 : (c : Dev Cert.MixerIdeal.nD) → Buf (Elt Ideal) ((c.tc : Thread Cert.MixerIdeal.nD Cert.MixerIdeal.τ).loc Cert.MixerIdeal.main_v24)) (v5 : (c : Dev Cert.MixerIdeal.nD) → Buf (Elt Ideal) ((c.tc : Thread Cert.MixerIdeal.nD Cert.MixerIdeal.τ).loc Cert.MixerIdeal.main_v22_2)) (v6 : (c : Dev Cert.MixerIdeal.nD) → Buf (Elt Ideal) ((c.tc : Thread Cert.MixerIdeal.nD Cert.MixerIdeal.τ).loc Cert.MixerIdeal.main_v20)) (v7 : (c : Dev Cert.MixerIdeal.nD) → Buf (Elt Ideal) ((c.tc : Thread Cert.MixerIdeal.nD Cert.MixerIdeal.τ).loc Cert.MixerIdeal.main_v22_3)) (v8 : (c : Dev Cert.MixerIdeal.nD) → Buf (Elt Ideal) ((c.tc : Thread Cert.MixerIdeal.nD Cert.MixerIdeal.τ).loc Cert.MixerIdeal.main_v18)) (v9 : (c : Dev Cert.MixerIdeal.nD) → Buf (Elt Ideal) ((c.tc : Thread Cert.MixerIdeal.nD Cert.MixerIdeal.τ).loc Cert.MixerIdeal.main_v16_2)) (v10 : (c : Dev Cert.MixerIdeal.nD) → Buf (Elt Ideal) ((c.tc : Thread Cert.MixerIdeal.nD Cert.MixerIdeal.τ).loc Cert.MixerIdeal.main_v15)) (v11 : (c : Dev Cert.MixerIdeal.nD) → Buf (Elt Ideal) ((c.tc : Thread Cert.MixerIdeal.nD Cert.MixerIdeal.τ).loc Cert.MixerIdeal.main_v13_3)) (v12 : (c : Dev Cert.MixerIdeal.nD) → Buf (Elt Ideal) ((c.tc : Thread Cert.MixerIdeal.nD Cert.MixerIdeal.τ).loc Cert.MixerIdeal.main_v12)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v22_0) = v0 c
          ∧ r.2.mem ((c.tc : Thread Cert.MixerIdeal.nD Cert.MixerIdeal.τ).loc Cert.MixerIdeal.main_v22_1) = v1 c
          ∧ r.2.mem ((c.tc : Thread Cert.MixerIdeal.nD Cert.MixerIdeal.τ).loc Cert.MixerIdeal.main_v16_0) = v2 c
          ∧ r.2.mem ((c.tc : Thread Cert.MixerIdeal.nD Cert.MixerIdeal.τ).loc Cert.MixerIdeal.main_v23) = v3 c
          ∧ r.2.mem ((c.tc : Thread Cert.MixerIdeal.nD Cert.MixerIdeal.τ).loc Cert.MixerIdeal.main_v24) = v4 c
          ∧ r.2.mem ((c.tc : Thread Cert.MixerIdeal.nD Cert.MixerIdeal.τ).loc Cert.MixerIdeal.main_v22_2) = v5 c
          ∧ r.2.mem ((c.tc : Thread Cert.MixerIdeal.nD Cert.MixerIdeal.τ).loc Cert.MixerIdeal.main_v20) = v6 c
          ∧ r.2.mem ((c.tc : Thread Cert.MixerIdeal.nD Cert.MixerIdeal.τ).loc Cert.MixerIdeal.main_v22_3) = v7 c
          ∧ r.2.mem ((c.tc : Thread Cert.MixerIdeal.nD Cert.MixerIdeal.τ).loc Cert.MixerIdeal.main_v18) = v8 c
          ∧ r.2.mem ((c.tc : Thread Cert.MixerIdeal.nD Cert.MixerIdeal.τ).loc Cert.MixerIdeal.main_v16_2) = v9 c
          ∧ r.2.mem ((c.tc : Thread Cert.MixerIdeal.nD Cert.MixerIdeal.τ).loc Cert.MixerIdeal.main_v15) = v10 c
          ∧ r.2.mem ((c.tc : Thread Cert.MixerIdeal.nD Cert.MixerIdeal.τ).loc Cert.MixerIdeal.main_v13_3) = v11 c
          ∧ r.2.mem ((c.tc : Thread Cert.MixerIdeal.nD Cert.MixerIdeal.τ).loc Cert.MixerIdeal.main_v12) = v12 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)
          ∧ r.2.mem ((c.tc : Thread Cert.MixerIdeal.nD Cert.MixerIdeal.τ).loc Cert.MixerIdeal.main_arg13) = m ((c.tc : Thread Cert.MixerIdeal.nD Cert.MixerIdeal.τ).loc Cert.MixerIdeal.main_arg13))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v134) = v0 c
          ∧ r.2.mem ((c.tc : Thread Cert.MixerRefIdeal.nD Cert.MixerRefIdeal.τ).loc Cert.MixerRefIdeal.main_v136) = v1 c
          ∧ r.2.mem ((c.tc : Thread Cert.MixerRefIdeal.nD Cert.MixerRefIdeal.τ).loc Cert.MixerRefIdeal.main_v112) = v2 c
          ∧ r.2.mem ((c.tc : Thread Cert.MixerRefIdeal.nD Cert.MixerRefIdeal.τ).loc Cert.MixerRefIdeal.main_v113) = v3 c
          ∧ r.2.mem ((c.tc : Thread Cert.MixerRefIdeal.nD Cert.MixerRefIdeal.τ).loc Cert.MixerRefIdeal.main_v89) = v4 c
          ∧ r.2.mem ((c.tc : Thread Cert.MixerRefIdeal.nD Cert.MixerRefIdeal.τ).loc Cert.MixerRefIdeal.main_v139) = v5 c
          ∧ r.2.mem ((c.tc : Thread Cert.MixerRefIdeal.nD Cert.MixerRefIdeal.τ).loc Cert.MixerRefIdeal.main_v120) = v6 c
          ∧ r.2.mem ((c.tc : Thread Cert.MixerRefIdeal.nD Cert.MixerRefIdeal.τ).loc Cert.MixerRefIdeal.main_v118) = v7 c
          ∧ r.2.mem ((c.tc : Thread Cert.MixerRefIdeal.nD Cert.MixerRefIdeal.τ).loc Cert.MixerRefIdeal.main_v85) = v8 c
          ∧ r.2.mem ((c.tc : Thread Cert.MixerRefIdeal.nD Cert.MixerRefIdeal.τ).loc Cert.MixerRefIdeal.main_v94) = v9 c
          ∧ r.2.mem ((c.tc : Thread Cert.MixerRefIdeal.nD Cert.MixerRefIdeal.τ).loc Cert.MixerRefIdeal.main_v79) = v10 c
          ∧ r.2.mem ((c.tc : Thread Cert.MixerRefIdeal.nD Cert.MixerRefIdeal.τ).loc Cert.MixerRefIdeal.main_v91) = v11 c
          ∧ r.2.mem ((c.tc : Thread Cert.MixerRefIdeal.nD Cert.MixerRefIdeal.τ).loc Cert.MixerRefIdeal.main_v74) = v12 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6)
          ∧ r.2.mem ((c.tc : Thread Cert.MixerRefIdeal.nD Cert.MixerRefIdeal.τ).loc Cert.MixerRefIdeal.main_arg7) = m' ((c.tc : Thread Cert.MixerRefIdeal.nD Cert.MixerRefIdeal.τ).loc Cert.MixerRefIdeal.main_arg7)
          ∧ r.2.mem ((c.tc : Thread Cert.MixerRefIdeal.nD Cert.MixerRefIdeal.τ).loc Cert.MixerRefIdeal.main_arg8) = m' ((c.tc : Thread Cert.MixerRefIdeal.nD Cert.MixerRefIdeal.τ).loc Cert.MixerRefIdeal.main_arg8)
          ∧ r.2.mem ((c.tc : Thread Cert.MixerRefIdeal.nD Cert.MixerRefIdeal.τ).loc Cert.MixerRefIdeal.main_arg9) = m' ((c.tc : Thread Cert.MixerRefIdeal.nD Cert.MixerRefIdeal.τ).loc Cert.MixerRefIdeal.main_arg9)
          ∧ r.2.mem ((c.tc : Thread Cert.MixerRefIdeal.nD Cert.MixerRefIdeal.τ).loc Cert.MixerRefIdeal.main_arg10) = m' ((c.tc : Thread Cert.MixerRefIdeal.nD Cert.MixerRefIdeal.τ).loc Cert.MixerRefIdeal.main_arg10)
          ∧ r.2.mem ((c.tc : Thread Cert.MixerRefIdeal.nD Cert.MixerRefIdeal.τ).loc Cert.MixerRefIdeal.main_arg11) = m' ((c.tc : Thread Cert.MixerRefIdeal.nD Cert.MixerRefIdeal.τ).loc Cert.MixerRefIdeal.main_arg11)
          ∧ r.2.mem ((c.tc : Thread Cert.MixerRefIdeal.nD Cert.MixerRefIdeal.τ).loc Cert.MixerRefIdeal.main_arg12) = m' ((c.tc : Thread Cert.MixerRefIdeal.nD Cert.MixerRefIdeal.τ).loc Cert.MixerRefIdeal.main_arg12)
          ∧ r.2.mem ((c.tc : Thread Cert.MixerRefIdeal.nD Cert.MixerRefIdeal.τ).loc Cert.MixerRefIdeal.main_arg13) = m' ((c.tc : Thread Cert.MixerRefIdeal.nD Cert.MixerRefIdeal.τ).loc Cert.MixerRefIdeal.main_arg13))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)) →
    ∃ (v0 : (c : Dev Cert.ProjIdeal.nD) → Buf (Elt Ideal) ((c.tc : Thread Cert.ProjIdeal.nD Cert.ProjIdeal.τ).loc Cert.ProjIdeal.main_v4)) (v1 : (c : Dev Cert.ProjIdeal.nD) → Buf (Elt Ideal) ((c.tc : Thread Cert.ProjIdeal.nD Cert.ProjIdeal.τ).loc Cert.ProjIdeal.main_v6)) (v2 : (c : Dev Cert.ProjIdeal.nD) → Buf (Elt Ideal) ((c.tc : Thread Cert.ProjIdeal.nD Cert.ProjIdeal.τ).loc Cert.ProjIdeal.main_v8)) (v3 : (c : Dev Cert.ProjIdeal.nD) → Buf (Elt Ideal) ((c.tc : Thread Cert.ProjIdeal.nD Cert.ProjIdeal.τ).loc Cert.ProjIdeal.main_v10)) (v4 : (c : Dev Cert.ProjIdeal.nD) → Buf (Elt Ideal) ((c.tc : Thread Cert.ProjIdeal.nD Cert.ProjIdeal.τ).loc Cert.ProjIdeal.main_v12)) (v5 : (c : Dev Cert.ProjIdeal.nD) → Buf (Elt Ideal) ((c.tc : Thread Cert.ProjIdeal.nD Cert.ProjIdeal.τ).loc Cert.ProjIdeal.main_v40_0)) (v6 : (c : Dev Cert.ProjIdeal.nD) → Buf (Elt Ideal) ((c.tc : Thread Cert.ProjIdeal.nD Cert.ProjIdeal.τ).loc Cert.ProjIdeal.main_v40_2)) (v7 : (c : Dev Cert.ProjIdeal.nD) → Buf (Elt Ideal) ((c.tc : Thread Cert.ProjIdeal.nD Cert.ProjIdeal.τ).loc Cert.ProjIdeal.main_v41)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_v6) = v1 c
          ∧ r.2.mem ((c.tc : Thread Cert.ProjIdeal.nD Cert.ProjIdeal.τ).loc Cert.ProjIdeal.main_v8) = v2 c
          ∧ r.2.mem ((c.tc : Thread Cert.ProjIdeal.nD Cert.ProjIdeal.τ).loc Cert.ProjIdeal.main_v10) = v3 c
          ∧ r.2.mem ((c.tc : Thread Cert.ProjIdeal.nD Cert.ProjIdeal.τ).loc Cert.ProjIdeal.main_v12) = v4 c
          ∧ r.2.mem ((c.tc : Thread Cert.ProjIdeal.nD Cert.ProjIdeal.τ).loc Cert.ProjIdeal.main_v40_0) = v5 c
          ∧ r.2.mem ((c.tc : Thread Cert.ProjIdeal.nD Cert.ProjIdeal.τ).loc Cert.ProjIdeal.main_v40_2) = v6 c
          ∧ r.2.mem ((c.tc : Thread Cert.ProjIdeal.nD Cert.ProjIdeal.τ).loc Cert.ProjIdeal.main_v41) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v16) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v18) = v2 c
          ∧ r.2.mem ((c.tc : Thread Cert.ProjRefIdeal.nD Cert.ProjRefIdeal.τ).loc Cert.ProjRefIdeal.main_v19) = v3 c
          ∧ r.2.mem ((c.tc : Thread Cert.ProjRefIdeal.nD Cert.ProjRefIdeal.τ).loc Cert.ProjRefIdeal.main_v20) = v4 c
          ∧ r.2.mem ((c.tc : Thread Cert.ProjRefIdeal.nD Cert.ProjRefIdeal.τ).loc Cert.ProjRefIdeal.main_v45) = v5 c
          ∧ r.2.mem ((c.tc : Thread Cert.ProjRefIdeal.nD Cert.ProjRefIdeal.τ).loc Cert.ProjRefIdeal.main_v28) = v6 c
          ∧ r.2.mem ((c.tc : Thread Cert.ProjRefIdeal.nD Cert.ProjRefIdeal.τ).loc Cert.ProjRefIdeal.main_v24) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v0)) (v1 : (c : Dev Cert.ConvIdeal.nD) → Buf (Elt Ideal) ((c.tc : Thread Cert.ConvIdeal.nD Cert.ConvIdeal.τ).loc Cert.ConvIdeal.main_v4)) (v2 : (c : Dev Cert.ConvIdeal.nD) → Buf (Elt Ideal) ((c.tc : Thread Cert.ConvIdeal.nD Cert.ConvIdeal.τ).loc Cert.ConvIdeal.main_v5)) (v3 : (c : Dev Cert.ConvIdeal.nD) → Buf (Elt Ideal) ((c.tc : Thread Cert.ConvIdeal.nD Cert.ConvIdeal.τ).loc Cert.ConvIdeal.main_v6)) (v4 : (c : Dev Cert.ConvIdeal.nD) → Buf (Elt Ideal) ((c.tc : Thread Cert.ConvIdeal.nD Cert.ConvIdeal.τ).loc Cert.ConvIdeal.main_v7)) (v5 : (c : Dev Cert.ConvIdeal.nD) → Buf (Elt Ideal) ((c.tc : Thread Cert.ConvIdeal.nD Cert.ConvIdeal.τ).loc Cert.ConvIdeal.main_v8)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_v4) = v1 c
          ∧ r.2.mem ((c.tc : Thread Cert.ConvIdeal.nD Cert.ConvIdeal.τ).loc Cert.ConvIdeal.main_v5) = v2 c
          ∧ r.2.mem ((c.tc : Thread Cert.ConvIdeal.nD Cert.ConvIdeal.τ).loc Cert.ConvIdeal.main_v6) = v3 c
          ∧ r.2.mem ((c.tc : Thread Cert.ConvIdeal.nD Cert.ConvIdeal.τ).loc Cert.ConvIdeal.main_v7) = v4 c
          ∧ r.2.mem ((c.tc : Thread Cert.ConvIdeal.nD Cert.ConvIdeal.τ).loc Cert.ConvIdeal.main_v8) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v34_0) = v0 c
          ∧ r.2.mem ((c.tc : Thread Cert.ConvRefIdeal.nD Cert.ConvRefIdeal.τ).loc Cert.ConvRefIdeal.main_v83) = v1 c
          ∧ r.2.mem ((c.tc : Thread Cert.ConvRefIdeal.nD Cert.ConvRefIdeal.τ).loc Cert.ConvRefIdeal.main_v84) = v2 c
          ∧ r.2.mem ((c.tc : Thread Cert.ConvRefIdeal.nD Cert.ConvRefIdeal.τ).loc Cert.ConvRefIdeal.main_v85) = v3 c
          ∧ r.2.mem ((c.tc : Thread Cert.ConvRefIdeal.nD Cert.ConvRefIdeal.τ).loc Cert.ConvRefIdeal.main_v78) = v4 c
          ∧ r.2.mem ((c.tc : Thread Cert.ConvRefIdeal.nD Cert.ConvRefIdeal.τ).loc Cert.ConvRefIdeal.main_v38) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_2)) (v1 : (c : Dev Cert.LossIdeal.nD) → Buf (Elt Ideal) ((c.tc : Thread Cert.LossIdeal.nD Cert.LossIdeal.τ).loc Cert.LossIdeal.main_v0_0)) (v2 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_2) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_v0_3) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v49) = v0 c
          ∧ r.2.mem ((c.tc : Thread Cert.LossRefIdeal.nD Cert.LossRefIdeal.τ).loc Cert.LossRefIdeal.main_v48) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v1) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v6) = v2 c
          ∧ r.2.mem ((c.tc : Thread Cert.AdamRefIdeal.nD Cert.AdamRefIdeal.τ).loc Cert.AdamRefIdeal.main_v12) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4))

def Claim : Prop :=
  ∃ (hKernel : Cert.Kernel.Facts) (hKernelIdeal : Cert.KernelIdeal.Facts) (hReferenceIdeal : Cert.ReferenceIdeal.Facts) (hMixer : Cert.Mixer.Facts) (hMixerIdeal : Cert.MixerIdeal.Facts) (hMixerRefIdeal : Cert.MixerRefIdeal.Facts) (hProj : Cert.Proj.Facts) (hProjIdeal : Cert.ProjIdeal.Facts) (hProjRefIdeal : Cert.ProjRefIdeal.Facts) (hConv : Cert.Conv.Facts) (hConvIdeal : Cert.ConvIdeal.Facts) (hConvRefIdeal : Cert.ConvRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Mixer (hMixer := hMixer)
    ∧ quiescent_MixerIdeal (hMixerIdeal := hMixerIdeal)
    ∧ quiescent_MixerRefIdeal (hMixerRefIdeal := hMixerRefIdeal)
    ∧ quiescent_Proj (hProj := hProj)
    ∧ quiescent_ProjIdeal (hProjIdeal := hProjIdeal)
    ∧ quiescent_ProjRefIdeal (hProjRefIdeal := hProjRefIdeal)
    ∧ quiescent_Conv (hConv := hConv)
    ∧ quiescent_ConvIdeal (hConvIdeal := hConvIdeal)
    ∧ quiescent_ConvRefIdeal (hConvRefIdeal := hConvRefIdeal)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Mixer_MixerIdeal
    ∧ algebraic_MixerIdeal_MixerRefIdeal (hMixerIdeal := hMixerIdeal) (hMixerRefIdeal := hMixerRefIdeal)
    ∧ preserves_Proj_ProjIdeal
    ∧ algebraic_ProjIdeal_ProjRefIdeal (hProjIdeal := hProjIdeal) (hProjRefIdeal := hProjRefIdeal)
    ∧ preserves_Conv_ConvIdeal
    ∧ algebraic_ConvIdeal_ConvRefIdeal (hConvIdeal := hConvIdeal) (hConvRefIdeal := hConvRefIdeal)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
-- ==== Pre_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S2816x1024 .f32) : IVec S4096x1024 1 × IVec S1x1024 1 × IVec S1024x2816 1 × IVec S1024x2816 1 × IVec S2816x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg3
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg5
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Kernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩
abbrev S2816x512 : Shape := ⟨2, ![2816, 512]⟩
abbrev S1024x512 : Shape := ⟨2, ![1024, 512]⟩
abbrev S4096x256 : Shape := ⟨2, ![4096, 256]⟩
abbrev S256x1024 : Shape := ⟨2, ![256, 1024]⟩
abbrev S1024 : Shape := ⟨1, ![1024]⟩

abbrev nBuf : Space → Nat
  | .hbm => 29
  | .vmem => 81
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S4096x1024, .bf16⟩
  | .hbm, ⟨12, _⟩ => ⟨S4096x2816, .bf16⟩
  | .hbm, ⟨13, _⟩ => ⟨S4096x2816, .bf16⟩
  | .hbm, ⟨14, _⟩ => ⟨S4096x2816, .bf16⟩
  | .hbm, ⟨15, _⟩ => ⟨S4096x1024, .f32⟩
  | .hbm, ⟨16, _⟩ => ⟨S4096x1024, .bf16⟩
  | .hbm, ⟨17, _⟩ => ⟨S4096x2816, .bf16⟩
  | .hbm, ⟨18, _⟩ => ⟨S4096x2816, .bf16⟩
  | .hbm, ⟨19, _⟩ => ⟨S2816x1024, .f32⟩
  | .hbm, ⟨20, _⟩ => ⟨S2816x1024, .f32⟩
  | .hbm, ⟨21, _⟩ => ⟨S2816x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | .hbm, ⟨26, _⟩ => ⟨S1x1024, .f32⟩
  | .hbm, ⟨27, _⟩ => ⟨S1024x2816, .f32⟩
  | .hbm, ⟨28, _⟩ => ⟨S1024x2816, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1024, .bf16⟩
  | .local _ .vmem, ⟨12, _⟩ => ⟨S1024x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1024x1408, .bf16⟩
  | .local _ .vmem, ⟨16, _⟩ => ⟨S1024x1408, .bf16⟩
  | .local _ .vmem, ⟨17, _⟩ => ⟨S1024x1408, .bf16⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x2816, .bf16⟩
  | .local _ .vmem, ⟨22, _⟩ => ⟨S1024x2816, .bf16⟩
  | .local _ .vmem, ⟨23, _⟩ => ⟨S2816x512, .bf16⟩
  | .local _ .vmem, ⟨24, _⟩ => ⟨S2816x512, .bf16⟩
  | .local _ .vmem, ⟨25, _⟩ => ⟨S1024x512, .f32⟩
  | .local _ .vmem, ⟨26, _⟩ => ⟨S1024x512, .f32⟩
  | .local _ .vmem, ⟨27, _⟩ => ⟨S1024x512, .f32⟩
  | .local _ .vmem, ⟨28, _⟩ => ⟨S1024x512, .f32⟩
  | .local _ .vmem, ⟨29, _⟩ => ⟨S1024x1024, .bf16⟩
  | .local _ .vmem, ⟨30, _⟩ => ⟨S1024x1024, .bf16⟩
  | .local _ .vmem, ⟨31, _⟩ => ⟨S1408x1024, .bf16⟩
  | .local _ .vmem, ⟨32, _⟩ => ⟨S1408x1024, .bf16⟩
  | .local _ .vmem, ⟨33, _⟩ => ⟨S1024x1408, .bf16⟩
  | .local _ .vmem, ⟨34, _⟩ => ⟨S1024x1408, .bf16⟩
  | .local _ .vmem, ⟨35, _⟩ => ⟨S1024x1408, .bf16⟩
  | .local _ .vmem, ⟨36, _⟩ => ⟨S1024x1408, .bf16⟩
  | .local _ .vmem, ⟨37, _⟩ => ⟨S1024x1408, .bf16⟩
  | .local _ .vmem, ⟨38, _⟩ => ⟨S1024x1408, .bf16⟩
  | .local _ .vmem, ⟨39, _⟩ => ⟨S1024x1408, .bf16⟩
  | .local _ .vmem, ⟨40, _⟩ => ⟨S1024x1408, .bf16⟩
  | .local _ .vmem, ⟨41, _⟩ => ⟨S4096x256, .bf16⟩
  | .local _ .vmem, ⟨42, _⟩ => ⟨S4096x256, .bf16⟩
  | .local _ .vmem, ⟨43, _⟩ => ⟨S4096x1024, .bf16⟩
  | .local _ .vmem, ⟨44, _⟩ => ⟨S256x1024, .f32⟩
  | .local _ .vmem, ⟨45, _⟩ => ⟨S256x1024, .f32⟩
  | .local _ .vmem, ⟨46, _⟩ => ⟨S4096x256, .bf16⟩
  | .local _ .vmem, ⟨47, _⟩ => ⟨S4096x256, .bf16⟩
  | .local _ .vmem, ⟨48, _⟩ => ⟨S4096x1024, .bf16⟩
  | .local _ .vmem, ⟨49, _⟩ => ⟨S256x1024, .f32⟩
  | .local _ .vmem, ⟨50, _⟩ => ⟨S256x1024, .f32⟩
  | .local _ .vmem, ⟨51, _⟩ => ⟨S4096x256, .bf16⟩
  | .local _ .vmem, ⟨52, _⟩ => ⟨S4096x256, .bf16⟩
  | .local _ .vmem, ⟨53, _⟩ => ⟨S4096x1024, .bf16⟩
  | .local _ .vmem, ⟨54, _⟩ => ⟨S256x1024, .f32⟩
  | .local _ .vmem, ⟨55, _⟩ => ⟨S256x1024, .f32⟩
  | .local _ .vmem, ⟨56, _⟩ => ⟨S1024x2816, .bf16⟩
  | .local _ .vmem, ⟨57, _⟩ => ⟨S1024x2816, .bf16⟩
  | .local _ .vmem, ⟨58, _⟩ => ⟨S2816x1024, .bf16⟩
  | .local _ .vmem, ⟨59, _⟩ => ⟨S1024x1024, .f32⟩
  | .local _ .vmem, ⟨60, _⟩ => ⟨S1024x1024, .f32⟩
  | .local _ .vmem, ⟨61, _⟩ => ⟨S1024x2816, .bf16⟩
  | .local _ .vmem, ⟨62, _⟩ => ⟨S1024x2816, .bf16⟩
  | .local _ .vmem, ⟨63, _⟩ => ⟨S2816x512, .bf16⟩
  | .local _ .vmem, ⟨64, _⟩ => ⟨S2816x512, .bf16⟩
  | .local _ .vmem, ⟨65, _⟩ => ⟨S1024x512, .f32⟩
  | .local _ .vmem, ⟨66, _⟩ => ⟨S1024x512, .f32⟩
  | .local _ .vmem, ⟨67, _⟩ => ⟨S1024x512, .f32⟩
  | .local _ .vmem, ⟨68, _⟩ => ⟨S1024x512, .f32⟩
  | .local _ .vmem, ⟨69, _⟩ => ⟨S512x1024, .f32⟩
  | .local _ .vmem, ⟨70, _⟩ => ⟨S512x1024, .f32⟩
  | .local _ .vmem, ⟨71, _⟩ => ⟨S512x1024, .f32⟩
  | .local _ .vmem, ⟨72, _⟩ => ⟨S512x1024, .f32⟩
  | .local _ .vmem, ⟨73, _⟩ => ⟨S512x1024, .f32⟩
  | .local _ .vmem, ⟨74, _⟩ => ⟨S512x1024, .f32⟩
  | .local _ .vmem, ⟨75, _⟩ => ⟨S1x1024, .f32⟩
  | .local _ .vmem, ⟨76, _⟩ => ⟨S512x1024, .f32⟩
  | .local _ .vmem, ⟨77, _⟩ => ⟨S512x1024, .f32⟩
  | .local _ .vmem, ⟨78, _⟩ => ⟨S512x1024, .bf16⟩
  | .local _ .vmem, ⟨79, _⟩ => ⟨S512x1024, .bf16⟩
  | .local _ .vmem, ⟨80, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v16_2 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc4_stg5_0 : Ref sig .tc := ⟨.vmem, 39, rfl⟩
abbrev cc4_stg5_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg2_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg2_1 : Ref sig .tc := ⟨.vmem, 55, rfl⟩
abbrev cc8_stg0_0 : Ref sig .tc := ⟨.vmem, 56, rfl⟩
abbrev cc8_stg0_1 : Ref sig .tc := ⟨.vmem, 57, rfl⟩
abbrev cc8_stg1_0 : Ref sig .tc := ⟨.vmem, 58, rfl⟩
abbrev cc8_stg2_0 : Ref sig .tc := ⟨.vmem, 59, rfl⟩
abbrev cc8_stg2_1 : Ref sig .tc := ⟨.vmem, 60, rfl⟩
abbrev cc9_stg0_0 : Ref sig .tc := ⟨.vmem, 61, rfl⟩
abbrev cc9_stg0_1 : Ref sig .tc := ⟨.vmem, 62, rfl⟩
abbrev cc9_stg1_0 : Ref sig .tc := ⟨.vmem, 63, rfl⟩
abbrev cc9_stg1_1 : Ref sig .tc := ⟨.vmem, 64, rfl⟩
abbrev cc9_stg2_0 : Ref sig .tc := ⟨.vmem, 65, rfl⟩
abbrev cc9_stg2_1 : Ref sig .tc := ⟨.vmem, 66, rfl⟩
abbrev cc9_stg3_0 : Ref sig .tc := ⟨.vmem, 67, rfl⟩
abbrev cc9_stg3_1 : Ref sig .tc := ⟨.vmem, 68, rfl⟩
abbrev cc10_stg0_0 : Ref sig .tc := ⟨.vmem, 69, rfl⟩
abbrev cc10_stg0_1 : Ref sig .tc := ⟨.vmem, 70, rfl⟩
abbrev cc10_stg1_0 : Ref sig .tc := ⟨.vmem, 71, rfl⟩
abbrev cc10_stg1_1 : Ref sig .tc := ⟨.vmem, 72, rfl⟩
abbrev cc10_stg2_0 : Ref sig .tc := ⟨.vmem, 73, rfl⟩
abbrev cc10_stg2_1 : Ref sig .tc := ⟨.vmem, 74, rfl⟩
abbrev cc10_stg3_0 : Ref sig .tc := ⟨.vmem, 75, rfl⟩
abbrev cc10_stg4_0 : Ref sig .tc := ⟨.vmem, 76, rfl⟩
abbrev cc10_stg4_1 : Ref sig .tc := ⟨.vmem, 77, rfl⟩
abbrev cc10_stg5_0 : Ref sig .tc := ⟨.vmem, 78, rfl⟩
abbrev cc10_stg5_1 : Ref sig .tc := ⟨.vmem, 79, rfl⟩
abbrev cc10_stg6_0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38
abbrev cc4_sem5_0 : DmaSem sig := 39
abbrev cc4_sem5_1 : DmaSem sig := 40
abbrev cc5_sem0_0 : DmaSem sig := 41
abbrev cc5_sem0_1 : DmaSem sig := 42
abbrev cc5_sem1_0 : DmaSem sig := 43
abbrev cc5_sem2_0 : DmaSem sig := 44
abbrev cc5_sem2_1 : DmaSem sig := 45
abbrev cc6_sem0_0 : DmaSem sig := 46
abbrev cc6_sem0_1 : DmaSem sig := 47
abbrev cc6_sem1_0 : DmaSem sig := 48
abbrev cc6_sem2_0 : DmaSem sig := 49
abbrev cc6_sem2_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem2_1 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem2_1 : DmaSem sig := 60
abbrev cc9_sem0_0 : DmaSem sig := 61
abbrev cc9_sem0_1 : DmaSem sig := 62
abbrev cc9_sem1_0 : DmaSem sig := 63
abbrev cc9_sem1_1 : DmaSem sig := 64
abbrev cc9_sem2_0 : DmaSem sig := 65
abbrev cc9_sem2_1 : DmaSem sig := 66
abbrev cc9_sem3_0 : DmaSem sig := 67
abbrev cc9_sem3_1 : DmaSem sig := 68
abbrev cc10_sem0_0 : DmaSem sig := 69
abbrev cc10_sem0_1 : DmaSem sig := 70
abbrev cc10_sem1_0 : DmaSem sig := 71
abbrev cc10_sem1_1 : DmaSem sig := 72
abbrev cc10_sem2_0 : DmaSem sig := 73
abbrev cc10_sem2_1 : DmaSem sig := 74
abbrev cc10_sem3_0 : DmaSem sig := 75
abbrev cc10_sem4_0 : DmaSem sig := 76
abbrev cc10_sem4_1 : DmaSem sig := 77
abbrev cc10_sem5_0 : DmaSem sig := 78
abbrev cc10_sem5_1 : DmaSem sig := 79
abbrev cc10_sem6_0 : DmaSem sig := 80

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1408x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1408 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1408 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1024x1408 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2816x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![2, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1408x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x1408 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1024x1408 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]

abbrev stage4_5 : Fin 2 → Memref sig .tc .vmem S1024x1408 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev grid5 : Pipeline.Grid := ⟨2, ![1, 11], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S4096x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 1 → Memref sig .tc .vmem S4096x1024 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, false]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 11], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S4096x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S4096x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 11], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S4096x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 1 → Memref sig .tc .vmem S4096x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage8_0 : Fin 2 → Memref sig .tc .vmem S1024x2816 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![false, true]

abbrev stage8_1 : Fin 1 → Memref sig .tc .vmem S2816x1024 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![true, false]

abbrev stage8_2 : Fin 2 → Memref sig .tc .vmem S1024x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 2], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1024x2816 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S2816x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1024x512 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1024x512 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S512x1024 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S512x1024 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S512x1024 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S1x1024 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S512x1024 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 2 → Memref sig .tc .vmem S512x1024 .bf16 := fun | 0 => Memref.whole cc10_stg5_0 | 1 => Memref.whole cc10_stg5_1 | ⟨_ + 2, h⟩ => absurd h (Nat.not_lt.2 (Nat.le_add_left _ _))
abbrev sem10_5 : Fin 2 → DmaSem sig := fun | 0 => cc10_sem5_0 | 1 => cc10_sem5_1 | ⟨_ + 2, h⟩ => absurd h (Nat.not_lt.2 (Nat.le_add_left _ _))
abbrev reads10_5 : Fin grid10.rank → Bool := ![true]

abbrev stage10_6 : Fin 1 → Memref sig .tc .vmem S1x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]
-- ==== ReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S1024x2816, .f32⟩
  | .hbm, ⟨51, _⟩ => ⟨S2816x1024, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S2816x1024, .f32⟩
  | .hbm, ⟨56, _⟩ => ⟨S1024x2816, .f32⟩
  | .hbm, ⟨57, _⟩ => ⟨S4096x1024, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S2816x1024, .f32⟩
  | .hbm, ⟨63, _⟩ => ⟨S1024x2816, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩

abbrev nD : Nat := 1
abbrev τ : Topo := Topo.v7x

variable {F : FTy → Type} [FloatOps F]
-- ==== Mixer.lean ====
abbrev S4096x1024 : Shape := ⟨2, ![4096, 1024]⟩
abbrev S4096x2048 : Shape := ⟨2, ![4096, 2048]⟩
abbrev S1x1024 : Shape := ⟨2, ![1, 1024]⟩
abbrev S1024x1024 : Shape := ⟨2, ![1024, 1024]⟩
abbrev S1x2048 : Shape := ⟨2, ![1, 2048]⟩
abbrev S2048x1024 : Shape := ⟨2, ![2048, 1024]⟩
abbrev S512x1024 : Shape := ⟨2, ![512, 1024]⟩
abbrev S256x2048 : Shape := ⟨2, ![256, 2048]⟩
abbrev S256 : Shape := ⟨1, ![256]⟩
abbrev S256x1 : Shape := ⟨2, ![256, 1]⟩
abbrev S1024x2048 : Shape := ⟨2, ![1024, 2048]⟩
abbrev S256x1024 : Shape := ⟨2, ![256, 1024]⟩
abbrev S4096x512 : Shape := ⟨2, ![4096, 512]⟩
abbrev S1024x512 : Shape := ⟨2, ![1024, 512]⟩
abbrev S2048 : Shape := ⟨1, ![2048]⟩
abbrev S1x512 : Shape := ⟨2, ![1, 512]⟩
abbrev S512x512 : Shape := ⟨2, ![512, 512]⟩
abbrev S1024 : Shape := ⟨1, ![1024]⟩

abbrev nBuf : Space → Nat
  | .hbm => 48
  | .vmem => 143
  | .smem => 0
  | _ => 0

abbrev vmemTy0_0 (i : Nat) : BufTy := match i % 128 with
  | 0 => ⟨S512x1024, .f32⟩
  | 1 => ⟨S512x1024, .f32⟩
  | 2 => ⟨S512x1024, .f32⟩
  | 3 => ⟨S512x1024, .f32⟩
  | 4 => ⟨S1x1024, .f32⟩
  | 5 => ⟨S512x1024, .f32⟩
  | 6 => ⟨S512x1024, .f32⟩
  | 7 => ⟨S1024x1024, .f32⟩
  | 8 => ⟨S1024x1024, .f32⟩
  | 9 => ⟨S1024x1024, .bf16⟩
  | 10 => ⟨S1024x1024, .f32⟩
  | 11 => ⟨S1024x1024, .f32⟩
  | 12 => ⟨S1x1024, .f32⟩
  | 13 => ⟨S1024x1024, .bf16⟩
  | 14 => ⟨S1024x1024, .bf16⟩
  | 15 => ⟨S256x2048, .f32⟩
  | 16 => ⟨S256x2048, .f32⟩
  | 17 => ⟨S256x2048, .f32⟩
  | 18 => ⟨S256x2048, .f32⟩
  | 19 => ⟨S1x2048, .f32⟩
  | 20 => ⟨S256x2048, .bf16⟩
  | 21 => ⟨S256x2048, .bf16⟩
  | 22 => ⟨S1024x1024, .bf16⟩
  | 23 => ⟨S1024x1024, .bf16⟩
  | 24 => ⟨S1024x1024, .bf16⟩
  | 25 => ⟨S1024x1024, .f32⟩
  | 26 => ⟨S1024x1024, .f32⟩
  | 27 => ⟨S1024x2048, .bf16⟩
  | 28 => ⟨S1024x2048, .bf16⟩
  | 29 => ⟨S2048x1024, .bf16⟩
  | 30 => ⟨S1024x1024, .f32⟩
  | 31 => ⟨S1024x1024, .f32⟩
  | 32 => ⟨S256x2048, .f32⟩
  | 33 => ⟨S256x2048, .f32⟩
  | 34 => ⟨S256x1024, .f32⟩
  | 35 => ⟨S256x1024, .f32⟩
  | 36 => ⟨S256x1024, .f32⟩
  | 37 => ⟨S256x1024, .f32⟩
  | 38 => ⟨S1x2048, .f32⟩
  | 39 => ⟨S256x1024, .bf16⟩
  | 40 => ⟨S256x1024, .bf16⟩
  | 41 => ⟨S1024x1024, .bf16⟩
  | 42 => ⟨S1024x1024, .bf16⟩
  | 43 => ⟨S1024x1024, .bf16⟩
  | 44 => ⟨S1024x1024, .f32⟩
  | 45 => ⟨S1024x1024, .f32⟩
  | 46 => ⟨S4096x1024, .bf16⟩
  | 47 => ⟨S4096x512, .bf16⟩
  | 48 => ⟨S4096x512, .bf16⟩
  | 49 => ⟨S1024x512, .f32⟩
  | 50 => ⟨S1024x512, .f32⟩
  | 51 => ⟨S256x2048, .f32⟩
  | 52 => ⟨S256x2048, .f32⟩
  | 53 => ⟨S256x1024, .f32⟩
  | 54 => ⟨S256x1024, .f32⟩
  | 55 => ⟨S256x1024, .f32⟩
  | 56 => ⟨S256x1024, .f32⟩
  | 57 => ⟨S256x1024, .f32⟩
  | 58 => ⟨S256x1024, .f32⟩
  | 59 => ⟨S1x2048, .f32⟩
  | 60 => ⟨S256x1024, .bf16⟩
  | 61 => ⟨S256x1024, .bf16⟩
  | 62 => ⟨S256x1024, .bf16⟩
  | 63 => ⟨S256x1024, .bf16⟩
  | 64 => ⟨S256x2048, .bf16⟩
  | 65 => ⟨S256x2048, .bf16⟩
  | 66 => ⟨S1x2048, .f32⟩
  | 67 => ⟨S1024x1024, .bf16⟩
  | 68 => ⟨S1024x1024, .bf16⟩
  | 69 => ⟨S1024x1024, .bf16⟩
  | 70 => ⟨S1024x1024, .bf16⟩
  | 71 => ⟨S1024x1024, .f32⟩
  | 72 => ⟨S1024x1024, .f32⟩
  | 73 => ⟨S4096x1024, .bf16⟩
  | 74 => ⟨S4096x1024, .bf16⟩
  | 75 => ⟨S4096x512, .bf16⟩
  | 76 => ⟨S4096x512, .bf16⟩
  | 77 => ⟨S1024x512, .f32⟩
  | 78 => ⟨S1024x512, .f32⟩
  | 79 => ⟨S256x2048, .f32⟩
  | 80 => ⟨S256x2048, .f32⟩
  | 81 => ⟨S256x2048, .f32⟩
  | 82 => ⟨S256x2048, .f32⟩
  | 83 => ⟨S256x2048, .f32⟩
  | 84 => ⟨S256x2048, .f32⟩
  | 85 => ⟨S1x2048, .f32⟩
  | 86 => ⟨S256x2048, .f32⟩
  | 87 => ⟨S256x2048, .f32⟩
  | 88 => ⟨S256x2048, .bf16⟩
  | 89 => ⟨S256x2048, .bf16⟩
  | 90 => ⟨S1x2048, .f32⟩
  | 91 => ⟨S1024x1024, .bf16⟩
  | 92 => ⟨S1024x1024, .bf16⟩
  | 93 => ⟨S1024x1024, .bf16⟩
  | 94 => ⟨S1024x1024, .f32⟩
  | 95 => ⟨S1024x1024, .f32⟩
  | 96 => ⟨S4096x1024, .bf16⟩
  | 97 => ⟨S4096x512, .bf16⟩
  | 98 => ⟨S4096x512, .bf16⟩
  | 99 => ⟨S1024x512, .f32⟩
  | 100 => ⟨S1024x512, .f32⟩
  | 101 => ⟨S1024x1024, .f32⟩
  | 102 => ⟨S1024x1024, .f32⟩
  | 103 => ⟨S1024x512, .bf16⟩
  | 104 => ⟨S1024x512, .bf16⟩
  | 105 => ⟨S1024x512, .f32⟩
  | 106 => ⟨S1024x512, .f32⟩
  | 107 => ⟨S1x512, .f32⟩
  | 108 => ⟨S1x512, .f32⟩
  | 109 => ⟨S1024x512, .f32⟩
  | 110 => ⟨S1024x512, .f32⟩
  | 111 => ⟨S1024x512, .f32⟩
  | 112 => ⟨S1024x512, .f32⟩
  | 113 => ⟨S1024x512, .bf16⟩
  | 114 => ⟨S1024x512, .bf16⟩
  | 115 => ⟨S4096x512, .f32⟩
  | 116 => ⟨S4096x512, .f32⟩
  | 117 => ⟨S4096x512, .bf16⟩
  | 118 => ⟨S4096x512, .bf16⟩
  | 119 => ⟨S512x512, .f32⟩
  | 120 => ⟨S512x512, .f32⟩
  | 121 => ⟨S1024x1024, .bf16⟩
  | 122 => ⟨S1024x1024, .bf16⟩
  | 123 => ⟨S1024x1024, .bf16⟩
  | 124 => ⟨S1024x1024, .f32⟩
  | 125 => ⟨S1024x1024, .f32⟩
  | 126 => ⟨S1024x1024, .f32⟩
  | 127 => ⟨S1024x1024, .f32⟩
  | _ => ⟨S4096x1024, .f32⟩

abbrev vmemTy0_1 (i : Nat) : BufTy := match i % 128 with
  | 0 => ⟨S512x1024, .f32⟩
  | 1 => ⟨S512x1024, .f32⟩
  | 2 => ⟨S512x1024, .f32⟩
  | 3 => ⟨S512x1024, .f32⟩
  | 4 => ⟨S512x1024, .f32⟩
  | 5 => ⟨S512x1024, .f32⟩
  | 6 => ⟨S512x1024, .bf16⟩
  | 7 => ⟨S512x1024, .bf16⟩
  | 8 => ⟨S1x1024, .f32⟩
  | 9 => ⟨S512x1024, .f32⟩
  | 10 => ⟨S512x1024, .f32⟩
  | 11 => ⟨S512x1024, .f32⟩
  | 12 => ⟨S512x1024, .f32⟩
  | 13 => ⟨S1x1024, .f32⟩
  | 14 => ⟨S1x1024, .f32⟩
  | _ => ⟨S4096x1024, .f32⟩

abbrev vmemTy (i : Nat) : BufTy := match i / 128 with
  | 0 => vmemTy0_0 i
  | 1 => vmemTy0_1 i
  | _ => ⟨S4096x1024, .f32⟩

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S1x1024, .f32⟩
  | .hbm, ⟨7, _⟩ => ⟨S1024x1024, .f32⟩
  | .hbm, ⟨8, _⟩ => ⟨S1x1024, .f32⟩
  | .hbm, ⟨9, _⟩ => ⟨S1024x1024, .f32⟩
  | .hbm, ⟨10, _⟩ => ⟨S1x2048, .f32⟩
  | .hbm, ⟨11, _⟩ => ⟨S2048x1024, .f32⟩
  | .hbm, ⟨12, _⟩ => ⟨S1x2048, .f32⟩
  | .hbm, ⟨13, _⟩ => ⟨S1024x1024, .f32⟩
  | .hbm, ⟨14, _⟩ => ⟨S1024x1024, .bf16⟩
  | .hbm, ⟨15, _⟩ => ⟨S1024x1024, .bf16⟩
  | .hbm, ⟨16, _⟩ => ⟨S2048x1024, .bf16⟩
  | .hbm, ⟨17, _⟩ => ⟨S1024x1024, .bf16⟩
  | .hbm, ⟨18, _⟩ => ⟨S4096x1024, .f32⟩
  | .hbm, ⟨19, _⟩ => ⟨S4096x1024, .bf16⟩
  | .hbm, ⟨20, _⟩ => ⟨S4096x2048, .bf16⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S4096x1024, .f32⟩
  | .hbm, ⟨26, _⟩ => ⟨S1024x1024, .f32⟩
  | .hbm, ⟨27, _⟩ => ⟨S4096x1024, .bf16⟩
  | .hbm, ⟨28, _⟩ => ⟨S4096x1024, .bf16⟩
  | .hbm, ⟨29, _⟩ => ⟨S4096x2048, .bf16⟩
  | .hbm, ⟨30, _⟩ => ⟨S1x2048, .f32⟩
  | .hbm, ⟨31, _⟩ => ⟨S4096x2048, .f32⟩
  | .hbm, ⟨32, _⟩ => ⟨S2048x1024, .f32⟩
  | .hbm, ⟨33, _⟩ => ⟨S4096x2048, .f32⟩
  | .hbm, ⟨34, _⟩ => ⟨S4096x2048, .bf16⟩
  | .hbm, ⟨35, _⟩ => ⟨S1x2048, .f32⟩
  | .hbm, ⟨36, _⟩ => ⟨S4096x1024, .f32⟩
  | .hbm, ⟨37, _⟩ => ⟨S1024x1024, .f32⟩
  | .hbm, ⟨38, _⟩ => ⟨S4096x1024, .f32⟩
  | .hbm, ⟨39, _⟩ => ⟨S4096x1024, .bf16⟩
  | .hbm, ⟨40, _⟩ => ⟨S1024x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S1x1024, .f32⟩
  | .hbm, ⟨46, _⟩ => ⟨S4096x2048, .f32⟩
  | .hbm, ⟨47, _⟩ => ⟨S4096x2048, .f32⟩
  | .local _ .vmem, ⟨i, _⟩ => vmemTy i
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 143 → Bool
  | ⟨i, _⟩ => dmaSemScopedAt i

abbrev sig : RefSig :=
  ofTc nBuf bufTy 0 143 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v16_2 : Ref sig .tc := ⟨.hbm, 35, rfl⟩
abbrev main_v17 : Ref sig .tc := ⟨.hbm, 36, rfl⟩
abbrev main_v18 : Ref sig .tc := ⟨.hbm, 37, rfl⟩
abbrev main_v19_0 : Ref sig .tc := ⟨.hbm, 38, rfl⟩
abbrev main_v19_1 : Ref sig .tc := ⟨.hbm, 39, rfl⟩
abbrev main_v20 : Ref sig .tc := ⟨.hbm, 40, rfl⟩
abbrev main_v21 : Ref sig .tc := ⟨.hbm, 41, rfl⟩
abbrev main_v22_0 : Ref sig .tc := ⟨.hbm, 42, rfl⟩
abbrev main_v22_1 : Ref sig .tc := ⟨.hbm, 43, rfl⟩
abbrev main_v22_2 : Ref sig .tc := ⟨.hbm, 44, rfl⟩
abbrev main_v22_3 : Ref sig .tc := ⟨.hbm, 45, rfl⟩
abbrev main_v23 : Ref sig .tc := ⟨.hbm, 46, rfl⟩
abbrev main_v24 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg4_0 : Ref sig .tc := ⟨.vmem, 39, rfl⟩
abbrev cc5_stg4_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg2_1 : Ref sig .tc := ⟨.vmem, 45, rfl⟩
abbrev cc7_stg0_0 : Ref sig .tc := ⟨.vmem, 46, rfl⟩
abbrev cc7_stg1_0 : Ref sig .tc := ⟨.vmem, 47, rfl⟩
abbrev cc7_stg1_1 : Ref sig .tc := ⟨.vmem, 48, rfl⟩
abbrev cc7_stg2_0 : Ref sig .tc := ⟨.vmem, 49, rfl⟩
abbrev cc7_stg2_1 : Ref sig .tc := ⟨.vmem, 50, rfl⟩
abbrev cc8_stg0_0 : Ref sig .tc := ⟨.vmem, 51, rfl⟩
abbrev cc8_stg0_1 : Ref sig .tc := ⟨.vmem, 52, rfl⟩
abbrev cc8_stg1_0 : Ref sig .tc := ⟨.vmem, 53, rfl⟩
abbrev cc8_stg1_1 : Ref sig .tc := ⟨.vmem, 54, rfl⟩
abbrev cc8_stg2_0 : Ref sig .tc := ⟨.vmem, 55, rfl⟩
abbrev cc8_stg2_1 : Ref sig .tc := ⟨.vmem, 56, rfl⟩
abbrev cc8_stg3_0 : Ref sig .tc := ⟨.vmem, 57, rfl⟩
abbrev cc8_stg3_1 : Ref sig .tc := ⟨.vmem, 58, rfl⟩
abbrev cc8_stg4_0 : Ref sig .tc := ⟨.vmem, 59, rfl⟩
abbrev cc8_stg5_0 : Ref sig .tc := ⟨.vmem, 60, rfl⟩
abbrev cc8_stg5_1 : Ref sig .tc := ⟨.vmem, 61, rfl⟩
abbrev cc8_stg6_0 : Ref sig .tc := ⟨.vmem, 62, rfl⟩
abbrev cc8_stg6_1 : Ref sig .tc := ⟨.vmem, 63, rfl⟩
abbrev cc8_stg7_0 : Ref sig .tc := ⟨.vmem, 64, rfl⟩
abbrev cc8_stg7_1 : Ref sig .tc := ⟨.vmem, 65, rfl⟩
abbrev cc8_stg8_0 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg2_1 : Ref sig .tc := ⟨.vmem, 72, rfl⟩
abbrev cc10_stg0_0 : Ref sig .tc := ⟨.vmem, 73, rfl⟩
abbrev cc10_stg0_1 : Ref sig .tc := ⟨.vmem, 74, rfl⟩
abbrev cc10_stg1_0 : Ref sig .tc := ⟨.vmem, 75, rfl⟩
abbrev cc10_stg1_1 : Ref sig .tc := ⟨.vmem, 76, rfl⟩
abbrev cc10_stg2_0 : Ref sig .tc := ⟨.vmem, 77, rfl⟩
abbrev cc10_stg2_1 : Ref sig .tc := ⟨.vmem, 78, rfl⟩
abbrev cc11_stg0_0 : Ref sig .tc := ⟨.vmem, 79, rfl⟩
abbrev cc11_stg0_1 : Ref sig .tc := ⟨.vmem, 80, rfl⟩
abbrev cc11_stg1_0 : Ref sig .tc := ⟨.vmem, 81, rfl⟩
abbrev cc11_stg1_1 : Ref sig .tc := ⟨.vmem, 82, rfl⟩
abbrev cc11_stg2_0 : Ref sig .tc := ⟨.vmem, 83, rfl⟩
abbrev cc11_stg2_1 : Ref sig .tc := ⟨.vmem, 84, rfl⟩
abbrev cc11_stg3_0 : Ref sig .tc := ⟨.vmem, 85, rfl⟩
abbrev cc11_stg4_0 : Ref sig .tc := ⟨.vmem, 86, rfl⟩
abbrev cc11_stg4_1 : Ref sig .tc := ⟨.vmem, 87, rfl⟩
abbrev cc11_stg5_0 : Ref sig .tc := ⟨.vmem, 88, rfl⟩
abbrev cc11_stg5_1 : Ref sig .tc := ⟨.vmem, 89, rfl⟩
abbrev cc11_stg6_0 : Ref sig .tc := ⟨.vmem, 90, rfl⟩
abbrev cc12_stg0_0 : Ref sig .tc := ⟨.vmem, 91, rfl⟩
abbrev cc12_stg0_1 : Ref sig .tc := ⟨.vmem, 92, rfl⟩
abbrev cc12_stg1_0 : Ref sig .tc := ⟨.vmem, 93, rfl⟩
abbrev cc12_stg2_0 : Ref sig .tc := ⟨.vmem, 94, rfl⟩
abbrev cc12_stg2_1 : Ref sig .tc := ⟨.vmem, 95, rfl⟩
abbrev cc13_stg0_0 : Ref sig .tc := ⟨.vmem, 96, rfl⟩
abbrev cc13_stg1_0 : Ref sig .tc := ⟨.vmem, 97, rfl⟩
abbrev cc13_stg1_1 : Ref sig .tc := ⟨.vmem, 98, rfl⟩
abbrev cc13_stg2_0 : Ref sig .tc := ⟨.vmem, 99, rfl⟩
abbrev cc13_stg2_1 : Ref sig .tc := ⟨.vmem, 100, rfl⟩
abbrev cc14_stg0_0 : Ref sig .tc := ⟨.vmem, 101, rfl⟩
abbrev cc14_stg0_1 : Ref sig .tc := ⟨.vmem, 102, rfl⟩
abbrev cc14_stg1_0 : Ref sig .tc := ⟨.vmem, 103, rfl⟩
abbrev cc14_stg1_1 : Ref sig .tc := ⟨.vmem, 104, rfl⟩
abbrev cc14_stg2_0 : Ref sig .tc := ⟨.vmem, 105, rfl⟩
abbrev cc14_stg2_1 : Ref sig .tc := ⟨.vmem, 106, rfl⟩
abbrev cc14_stg3_0 : Ref sig .tc := ⟨.vmem, 107, rfl⟩
abbrev cc14_stg3_1 : Ref sig .tc := ⟨.vmem, 108, rfl⟩
abbrev cc14_stg4_0 : Ref sig .tc := ⟨.vmem, 109, rfl⟩
abbrev cc14_stg4_1 : Ref sig .tc := ⟨.vmem, 110, rfl⟩
abbrev cc14_stg5_0 : Ref sig .tc := ⟨.vmem, 111, rfl⟩
abbrev cc14_stg5_1 : Ref sig .tc := ⟨.vmem, 112, rfl⟩
abbrev cc14_stg6_0 : Ref sig .tc := ⟨.vmem, 113, rfl⟩
abbrev cc14_stg6_1 : Ref sig .tc := ⟨.vmem, 114, rfl⟩
abbrev cc15_stg0_0 : Ref sig .tc := ⟨.vmem, 115, rfl⟩
abbrev cc15_stg0_1 : Ref sig .tc := ⟨.vmem, 116, rfl⟩
abbrev cc15_stg1_0 : Ref sig .tc := ⟨.vmem, 117, rfl⟩
abbrev cc15_stg1_1 : Ref sig .tc := ⟨.vmem, 118, rfl⟩
abbrev cc15_stg2_0 : Ref sig .tc := ⟨.vmem, 119, rfl⟩
abbrev cc15_stg2_1 : Ref sig .tc := ⟨.vmem, 120, rfl⟩
abbrev cc16_stg0_0 : Ref sig .tc := ⟨.vmem, 121, rfl⟩
abbrev cc16_stg0_1 : Ref sig .tc := ⟨.vmem, 122, rfl⟩
abbrev cc16_stg1_0 : Ref sig .tc := ⟨.vmem, 123, rfl⟩
abbrev cc16_stg2_0 : Ref sig .tc := ⟨.vmem, 124, rfl⟩
abbrev cc16_stg2_1 : Ref sig .tc := ⟨.vmem, 125, rfl⟩
abbrev cc16_stg3_0 : Ref sig .tc := ⟨.vmem, 126, rfl⟩
abbrev cc16_stg3_1 : Ref sig .tc := ⟨.vmem, 127, rfl⟩
abbrev cc17_stg0_0 : Ref sig .tc := ⟨.vmem, 128, rfl⟩
abbrev cc17_stg0_1 : Ref sig .tc := ⟨.vmem, 129, rfl⟩
abbrev cc17_stg1_0 : Ref sig .tc := ⟨.vmem, 130, rfl⟩
abbrev cc17_stg1_1 : Ref sig .tc := ⟨.vmem, 131, rfl⟩
abbrev cc17_stg2_0 : Ref sig .tc := ⟨.vmem, 132, rfl⟩
abbrev cc17_stg2_1 : Ref sig .tc := ⟨.vmem, 133, rfl⟩
abbrev cc17_stg3_0 : Ref sig .tc := ⟨.vmem, 134, rfl⟩
abbrev cc17_stg3_1 : Ref sig .tc := ⟨.vmem, 135, rfl⟩
abbrev cc17_stg4_0 : Ref sig .tc := ⟨.vmem, 136, rfl⟩
abbrev cc17_stg5_0 : Ref sig .tc := ⟨.vmem, 137, rfl⟩
abbrev cc17_stg5_1 : Ref sig .tc := ⟨.vmem, 138, rfl⟩
abbrev cc17_stg6_0 : Ref sig .tc := ⟨.vmem, 139, rfl⟩
abbrev cc17_stg6_1 : Ref sig .tc := ⟨.vmem, 140, rfl⟩
abbrev cc17_stg7_0 : Ref sig .tc := ⟨.vmem, 141, rfl⟩
abbrev cc17_stg8_0 : Ref sig .tc := ⟨.vmem, 142, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc5_sem3_0 : DmaSem sig := 38
abbrev cc5_sem4_0 : DmaSem sig := 39
abbrev cc5_sem4_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem2_1 : DmaSem sig := 45
abbrev cc7_sem0_0 : DmaSem sig := 46
abbrev cc7_sem1_0 : DmaSem sig := 47
abbrev cc7_sem1_1 : DmaSem sig := 48
abbrev cc7_sem2_0 : DmaSem sig := 49
abbrev cc7_sem2_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem2_1 : DmaSem sig := 56
abbrev cc8_sem3_0 : DmaSem sig := 57
abbrev cc8_sem3_1 : DmaSem sig := 58
abbrev cc8_sem4_0 : DmaSem sig := 59
abbrev cc8_sem5_0 : DmaSem sig := 60
abbrev cc8_sem5_1 : DmaSem sig := 61
abbrev cc8_sem6_0 : DmaSem sig := 62
abbrev cc8_sem6_1 : DmaSem sig := 63
abbrev cc8_sem7_0 : DmaSem sig := 64
abbrev cc8_sem7_1 : DmaSem sig := 65
abbrev cc8_sem8_0 : DmaSem sig := 66
abbrev cc9_sem0_0 : DmaSem sig := 67
abbrev cc9_sem0_1 : DmaSem sig := 68
abbrev cc9_sem1_0 : DmaSem sig := 69
abbrev cc9_sem1_1 : DmaSem sig := 70
abbrev cc9_sem2_0 : DmaSem sig := 71
abbrev cc9_sem2_1 : DmaSem sig := 72
abbrev cc10_sem0_0 : DmaSem sig := 73
abbrev cc10_sem0_1 : DmaSem sig := 74
abbrev cc10_sem1_0 : DmaSem sig := 75
abbrev cc10_sem1_1 : DmaSem sig := 76
abbrev cc10_sem2_0 : DmaSem sig := 77
abbrev cc10_sem2_1 : DmaSem sig := 78
abbrev cc11_sem0_0 : DmaSem sig := 79
abbrev cc11_sem0_1 : DmaSem sig := 80
abbrev cc11_sem1_0 : DmaSem sig := 81
abbrev cc11_sem1_1 : DmaSem sig := 82
abbrev cc11_sem2_0 : DmaSem sig := 83
abbrev cc11_sem2_1 : DmaSem sig := 84
abbrev cc11_sem3_0 : DmaSem sig := 85
abbrev cc11_sem4_0 : DmaSem sig := 86
abbrev cc11_sem4_1 : DmaSem sig := 87
abbrev cc11_sem5_0 : DmaSem sig := 88
abbrev cc11_sem5_1 : DmaSem sig := 89
abbrev cc11_sem6_0 : DmaSem sig := 90
abbrev cc12_sem0_0 : DmaSem sig := 91
abbrev cc12_sem0_1 : DmaSem sig := 92
abbrev cc12_sem1_0 : DmaSem sig := 93
abbrev cc12_sem2_0 : DmaSem sig := 94
abbrev cc12_sem2_1 : DmaSem sig := 95
abbrev cc13_sem0_0 : DmaSem sig := 96
abbrev cc13_sem1_0 : DmaSem sig := 97
abbrev cc13_sem1_1 : DmaSem sig := 98
abbrev cc13_sem2_0 : DmaSem sig := 99
abbrev cc13_sem2_1 : DmaSem sig := 100
abbrev cc14_sem0_0 : DmaSem sig := 101
abbrev cc14_sem0_1 : DmaSem sig := 102
abbrev cc14_sem1_0 : DmaSem sig := 103
abbrev cc14_sem1_1 : DmaSem sig := 104
abbrev cc14_sem2_0 : DmaSem sig := 105
abbrev cc14_sem2_1 : DmaSem sig := 106
abbrev cc14_sem3_0 : DmaSem sig := 107
abbrev cc14_sem3_1 : DmaSem sig := 108
abbrev cc14_sem4_0 : DmaSem sig := 109
abbrev cc14_sem4_1 : DmaSem sig := 110
abbrev cc14_sem5_0 : DmaSem sig := 111
abbrev cc14_sem5_1 : DmaSem sig := 112
abbrev cc14_sem6_0 : DmaSem sig := 113
abbrev cc14_sem6_1 : DmaSem sig := 114
abbrev cc15_sem0_0 : DmaSem sig := 115
abbrev cc15_sem0_1 : DmaSem sig := 116
abbrev cc15_sem1_0 : DmaSem sig := 117
abbrev cc15_sem1_1 : DmaSem sig := 118
abbrev cc15_sem2_0 : DmaSem sig := 119
abbrev cc15_sem2_1 : DmaSem sig := 120
abbrev cc16_sem0_0 : DmaSem sig := 121
abbrev cc16_sem0_1 : DmaSem sig := 122
abbrev cc16_sem1_0 : DmaSem sig := 123
abbrev cc16_sem2_0 : DmaSem sig := 124
abbrev cc16_sem2_1 : DmaSem sig := 125
abbrev cc16_sem3_0 : DmaSem sig := 126
abbrev cc16_sem3_1 : DmaSem sig := 127
abbrev cc17_sem0_0 : DmaSem sig := 128
abbrev cc17_sem0_1 : DmaSem sig := 129
abbrev cc17_sem1_0 : DmaSem sig := 130
abbrev cc17_sem1_1 : DmaSem sig := 131
abbrev cc17_sem2_0 : DmaSem sig := 132
abbrev cc17_sem2_1 : DmaSem sig := 133
abbrev cc17_sem3_0 : DmaSem sig := 134
abbrev cc17_sem3_1 : DmaSem sig := 135
abbrev cc17_sem4_0 : DmaSem sig := 136
abbrev cc17_sem5_0 : DmaSem sig := 137
abbrev cc17_sem5_1 : DmaSem sig := 138
abbrev cc17_sem6_0 : DmaSem sig := 139
abbrev cc17_sem6_1 : DmaSem sig := 140
abbrev cc17_sem7_0 : DmaSem sig := 141
abbrev cc17_sem8_0 : DmaSem sig := 142

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2048 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S256x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage6_0 : Fin 2 → Memref sig .tc .vmem S1024x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 1 → Memref sig .tc .vmem S1024x1024 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![true, false]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S4096x1024 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4096x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![16], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S256x2048 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S256x1024 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S256x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S256x1024 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S1x2048 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S256x1024 .bf16 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S256x1024 .bf16 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

abbrev stage8_7 : Fin 2 → Memref sig .tc .vmem S256x2048 .bf16 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev stage8_8 : Fin 1 → Memref sig .tc .vmem S1x2048 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev grid9 : Pipeline.Grid := ⟨2, ![2, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S1024x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 2 → Memref sig .tc .vmem S1024x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true, false]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![2, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S4096x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4096x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨1, ![16], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S256x2048 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S256x2048 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S256x2048 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S1x2048 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S256x2048 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S256x2048 .bf16 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev stage11_6 : Fin 1 → Memref sig .tc .vmem S1x2048 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev grid12 : Pipeline.Grid := ⟨2, ![1, 4], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage12_0 : Fin 2 → Memref sig .tc .vmem S1024x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![false, true]

abbrev stage12_1 : Fin 1 → Memref sig .tc .vmem S1024x1024 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![true, false]

abbrev stage12_2 : Fin 2 → Memref sig .tc .vmem S1024x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨2, ![1, 2], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 1 → Memref sig .tc .vmem S4096x1024 .bf16 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))
abbrev reads13_0 : Fin grid13.rank → Bool := ![true, false]

abbrev stage13_1 : Fin 2 → Memref sig .tc .vmem S4096x512 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S1024x512 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true]

abbrev grid14 : Pipeline.Grid := ⟨2, ![4, 2], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_4 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_5 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc14_transform_6 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 2 → Memref sig .tc .vmem S1024x1024 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 2 → Memref sig .tc .vmem S1024x512 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1024x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true]

abbrev stage14_3 : Fin 2 → Memref sig .tc .vmem S1x512 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![false, true]

abbrev stage14_4 : Fin 2 → Memref sig .tc .vmem S1024x512 .f32 := fun | 0 => Memref.whole cc14_stg4_0 | 1 => Memref.whole cc14_stg4_1 | ⟨_ + 2, h⟩ => absurd h (Nat.not_lt.2 (Nat.le_add_left _ _))
abbrev sem14_4 : Fin 2 → DmaSem sig := fun | 0 => cc14_sem4_0 | 1 => cc14_sem4_1 | ⟨_ + 2, h⟩ => absurd h (Nat.not_lt.2 (Nat.le_add_left _ _))
abbrev reads14_4 : Fin grid14.rank → Bool := ![true, true]

abbrev stage14_5 : Fin 2 → Memref sig .tc .vmem S1024x512 .f32 := fun | 0 => Memref.whole cc14_stg5_0 | 1 => Memref.whole cc14_stg5_1 | ⟨_ + 2, h⟩ => absurd h (Nat.not_lt.2 (Nat.le_add_left _ _))
abbrev sem14_5 : Fin 2 → DmaSem sig := fun | 0 => cc14_sem5_0 | 1 => cc14_sem5_1 | ⟨_ + 2, h⟩ => absurd h (Nat.not_lt.2 (Nat.le_add_left _ _))
abbrev reads14_5 : Fin grid14.rank → Bool := ![true, true]

abbrev stage14_6 : Fin 2 → Memref sig .tc .vmem S1024x512 .bf16 := fun | 0 => Memref.whole cc14_stg6_0 | 1 => Memref.whole cc14_stg6_1 | ⟨_ + 2, h⟩ => absurd h (Nat.not_lt.2 (Nat.le_add_left _ _))
abbrev sem14_6 : Fin 2 → DmaSem sig := fun | 0 => cc14_sem6_0 | 1 => cc14_sem6_1 | ⟨_ + 2, h⟩ => absurd h (Nat.not_lt.2 (Nat.le_add_left _ _))
abbrev reads14_6 : Fin grid14.rank → Bool := ![true, true]

abbrev grid15 : Pipeline.Grid := ⟨2, ![2, 2], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage15_0 : Fin 2 → Memref sig .tc .vmem S4096x512 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false]

abbrev stage15_1 : Fin 2 → Memref sig .tc .vmem S4096x512 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 2 → Memref sig .tc .vmem S512x512 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true]

abbrev grid16 : Pipeline.Grid := ⟨2, ![1, 4], ![false, false]⟩

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc16_transform_3 (i : grid16.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage16_0 : Fin 2 → Memref sig .tc .vmem S1024x1024 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![false, true]

abbrev stage16_1 : Fin 1 → Memref sig .tc .vmem S1024x1024 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![true, false]

abbrev stage16_2 : Fin 2 → Memref sig .tc .vmem S1024x1024 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true, true]

abbrev stage16_3 : Fin 2 → Memref sig .tc .vmem S1024x1024 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true, true]

abbrev grid17 : Pipeline.Grid := ⟨1, ![8], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_5 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_6 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_7 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_8 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage17_0 : Fin 2 → Memref sig .tc .vmem S512x1024 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 2 → Memref sig .tc .vmem S512x1024 .f32 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true]

abbrev stage17_2 : Fin 2 → Memref sig .tc .vmem S512x1024 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev stage17_3 : Fin 2 → Memref sig .tc .vmem S512x1024 .bf16 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 1 → Memref sig .tc .vmem S1x1024 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))
abbrev reads17_4 : Fin grid17.rank → Bool := ![false]

abbrev stage17_5 : Fin 2 → Memref sig .tc .vmem S512x1024 .f32 := fun | 0 => Memref.whole cc17_stg5_0 | 1 => Memref.whole cc17_stg5_1 | ⟨_ + 2, h⟩ => absurd h (Nat.not_lt.2 (Nat.le_add_left _ _))
abbrev sem17_5 : Fin 2 → DmaSem sig := fun | 0 => cc17_sem5_0 | 1 => cc17_sem5_1 | ⟨_ + 2, h⟩ => absurd h (Nat.not_lt.2 (Nat.le_add_left _ _))
abbrev reads17_5 : Fin grid17.rank → Bool := ![true]

abbrev stage17_6 : Fin 2 → Memref sig .tc .vmem S512x1024 .f32 := fun | 0 => Memref.whole cc17_stg6_0 | 1 => Memref.whole cc17_stg6_1 | ⟨_ + 2, h⟩ => absurd h (Nat.not_lt.2 (Nat.le_add_left _ _))
abbrev sem17_6 : Fin 2 → DmaSem sig := fun | 0 => cc17_sem6_0 | 1 => cc17_sem6_1 | ⟨_ + 2, h⟩ => absurd h (Nat.not_lt.2 (Nat.le_add_left _ _))
abbrev reads17_6 : Fin grid17.rank → Bool := ![true]

abbrev stage17_7 : Fin 1 → Memref sig .tc .vmem S1x1024 .f32 := fun | 0 => Memref.whole cc17_stg7_0 | ⟨_ + 1, h⟩ => absurd h (Nat.not_lt.2 (Nat.le_add_left _ _))
abbrev sem17_7 : Fin 1 → DmaSem sig := fun | 0 => cc17_sem7_0 | ⟨_ + 1, h⟩ => absurd h (Nat.not_lt.2 (Nat.le_add_left _ _))
abbrev reads17_7 : Fin grid17.rank → Bool := ![false]

abbrev stage17_8 : Fin 1 → Memref sig .tc .vmem S1x1024 .f32 := fun | 0 => Memref.whole cc17_stg8_0 | ⟨_ + 1, h⟩ => absurd h (Nat.not_lt.2 (Nat.le_add_left _ _))
abbrev sem17_8 : Fin 1 → DmaSem sig := fun | 0 => cc17_sem8_0 | ⟨_ + 1, h⟩ => absurd h (Nat.not_lt.2 (Nat.le_add_left _ _))
abbrev reads17_8 : Fin grid17.rank → Bool := ![false]
-- ==== MixerRefIdeal.lean ====
abbrev S4096x1024 : Shape := ⟨2, ![4096, 1024]⟩
abbrev S4096x2048 : Shape := ⟨2, ![4096, 2048]⟩
abbrev S1x1024 : Shape := ⟨2, ![1, 1024]⟩
abbrev S1024x1024 : Shape := ⟨2, ![1024, 1024]⟩
abbrev S1x2048 : Shape := ⟨2, ![1, 2048]⟩
abbrev S2048x1024 : Shape := ⟨2, ![2048, 1024]⟩
abbrev S_ : Shape := ⟨0, ![]⟩
abbrev S4096 : Shape := ⟨1, ![4096]⟩
abbrev S4096x1 : Shape := ⟨2, ![4096, 1]⟩
abbrev S1024x2048 : Shape := ⟨2, ![1024, 2048]⟩
abbrev S2048 : Shape := ⟨1, ![2048]⟩
abbrev S1024 : Shape := ⟨1, ![1024]⟩

abbrev nBuf : Space → Nat
  | .hbm => 198
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x2048, .f32⟩
  | 4 => ⟨S4096x2048, .f32⟩
  | 5 => ⟨S4096x2048, .f32⟩
  | 6 => ⟨S1x1024, .f32⟩
  | 7 => ⟨S1024x1024, .f32⟩
  | 8 => ⟨S1x1024, .f32⟩
  | 9 => ⟨S1024x1024, .f32⟩
  | 10 => ⟨S1x2048, .f32⟩
  | 11 => ⟨S2048x1024, .f32⟩
  | 12 => ⟨S1x2048, .f32⟩
  | 13 => ⟨S1024x1024, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S_, .f32⟩
  | 32 => ⟨S4096x1024, .f32⟩
  | 33 => ⟨S4096x1024, .f32⟩
  | 34 => ⟨S_, .f32⟩
  | 35 => ⟨S4096x1024, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S4096x1024, .f32⟩
  | 61 => ⟨S4096x2048, .f32⟩
  | 62 => ⟨S4096x2048, .f32⟩
  | 63 => ⟨S_, .f32⟩
  | 64 => ⟨S4096x2048, .f32⟩
  | 65 => ⟨S4096x2048, .f32⟩
  | 66 => ⟨S_, .f32⟩
  | 67 => ⟨S4096x2048, .f32⟩
  | 68 => ⟨S4096x2048, .f32⟩
  | 69 => ⟨S_, .f32⟩
  | 70 => ⟨S4096x2048, .f32⟩
  | 71 => ⟨S4096x2048, .f32⟩
  | 72 => ⟨S4096x2048, .f32⟩
  | 73 => ⟨S4096x2048, .f32⟩
  | 74 => ⟨S4096x2048, .f32⟩
  | 75 => ⟨S4096x2048, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096x1, .f32⟩
  | 84 => ⟨S4096x1, .f32⟩
  | 85 => ⟨S4096x1, .f32⟩
  | 86 => ⟨S4096x1, .f32⟩
  | 87 => ⟨S_, .f32⟩
  | 88 => ⟨S4096x1, .f32⟩
  | 89 => ⟨S4096x1, .f32⟩
  | 90 => ⟨S4096x2048, .f32⟩
  | 91 => ⟨S4096x2048, .f32⟩
  | 92 => ⟨S4096x2048, .f32⟩
  | 93 => ⟨S4096x2048, .f32⟩
  | 94 => ⟨S4096x2048, .f32⟩
  | 95 => ⟨S4096x2048, .f32⟩
  | 96 => ⟨S4096x2048, .f32⟩
  | 97 => ⟨S4096x2048, .f32⟩
  | 98 => ⟨S_, .f32⟩
  | 99 => ⟨S4096x2048, .f32⟩
  | 100 => ⟨S4096x2048, .f32⟩
  | 101 => ⟨S_, .f32⟩
  | 102 => ⟨S4096x2048, .f32⟩
  | 103 => ⟨S4096x2048, .f32⟩
  | 104 => ⟨S_, .f32⟩
  | 105 => ⟨S4096x2048, .f32⟩
  | 106 => ⟨S4096x2048, .f32⟩
  | 107 => ⟨S4096x2048, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x1024, .f32⟩
  | 116 => ⟨S1024x1024, .f32⟩
  | 117 => ⟨S1024x1024, .f32⟩
  | 118 => ⟨S4096x1024, .f32⟩
  | 119 => ⟨S4096x1024, .f32⟩
  | 120 => ⟨S4096x1024, .f32⟩
  | 121 => ⟨S1024x2048, .f32⟩
  | 122 => ⟨S2048x1024, .f32⟩
  | 123 => ⟨S4096x2048, .f32⟩
  | 124 => ⟨S_, .f32⟩
  | 125 => ⟨S4096x2048, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1024x1024, .f32⟩
  | 1 => ⟨S1024x1024, .f32⟩
  | 2 => ⟨S4096x1024, .f32⟩
  | 3 => ⟨S_, .f32⟩
  | 4 => ⟨S4096x2048, .f32⟩
  | 5 => ⟨S4096x2048, .f32⟩
  | 6 => ⟨S4096x2048, .f32⟩
  | 7 => ⟨S_, .f32⟩
  | 8 => ⟨S2048, .f32⟩
  | 9 => ⟨S1x2048, .f32⟩
  | 10 => ⟨S4096x2048, .f32⟩
  | 11 => ⟨S_, .f32⟩
  | 12 => ⟨S2048, .f32⟩
  | 13 => ⟨S1x2048, .f32⟩
  | 14 => ⟨S4096x2048, .f32⟩
  | 15 => ⟨S4096x2048, .f32⟩
  | 16 => ⟨S4096x2048, .f32⟩
  | 17 => ⟨S_, .f32⟩
  | 18 => ⟨S4096, .f32⟩
  | 19 => ⟨S4096x1, .f32⟩
  | 20 => ⟨S4096x2048, .f32⟩
  | 21 => ⟨S4096x2048, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S4096x2048, .f32⟩
  | 39 => ⟨S4096x1024, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S1024x1024, .f32⟩
  | 46 => ⟨S1024x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S1024, .f32⟩
  | 69 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_6 : Ref sig .tc := ⟨.hbm, 50, rfl⟩
abbrev main_v29 : Ref sig .tc := ⟨.hbm, 51, rfl⟩
abbrev main_v30 : Ref sig .tc := ⟨.hbm, 52, rfl⟩
abbrev main_cst_7 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_v37_2 : Ref sig .tc := ⟨.hbm, 68, rfl⟩
abbrev main_call0_cst_1 : Ref sig .tc := ⟨.hbm, 69, rfl⟩
abbrev main_call0_v6 : Ref sig .tc := ⟨.hbm, 70, rfl⟩
abbrev main_call0_v7 : Ref sig .tc := ⟨.hbm, 71, rfl⟩
abbrev main_v37_1 : Ref sig .tc := ⟨.hbm, 72, rfl⟩
abbrev main_v37_0 : Ref sig .tc := ⟨.hbm, 73, rfl⟩
abbrev main_v38 : Ref sig .tc := ⟨.hbm, 74, rfl⟩
abbrev main_v39 : Ref sig .tc := ⟨.hbm, 75, rfl⟩
abbrev main_cst_9 : Ref sig .tc := ⟨.hbm, 76, rfl⟩
abbrev main_v40 : Ref sig .tc := ⟨.hbm, 77, rfl⟩
abbrev main_v41 : Ref sig .tc := ⟨.hbm, 78, rfl⟩
abbrev main_cst_10 : Ref sig .tc := ⟨.hbm, 79, rfl⟩
abbrev main_v42 : Ref sig .tc := ⟨.hbm, 80, rfl⟩
abbrev main_v43 : Ref sig .tc := ⟨.hbm, 81, rfl⟩
abbrev main_cst_11 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_12 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_13 : Ref sig .tc := ⟨.hbm, 98, rfl⟩
abbrev main_v58 : Ref sig .tc := ⟨.hbm, 99, rfl⟩
abbrev main_v59 : Ref sig .tc := ⟨.hbm, 100, rfl⟩
abbrev main_cst_14 : Ref sig .tc := ⟨.hbm, 101, rfl⟩
abbrev main_v60 : Ref sig .tc := ⟨.hbm, 102, rfl⟩
abbrev main_v61 : Ref sig .tc := ⟨.hbm, 103, rfl⟩
abbrev main_cst_15 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_16 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_17 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_18 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_cst_19 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_20 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_cst_21 : Ref sig .tc := ⟨.hbm, 151, rfl⟩
abbrev main_v103 : Ref sig .tc := ⟨.hbm, 152, rfl⟩
abbrev main_v104 : Ref sig .tc := ⟨.hbm, 153, rfl⟩
abbrev main_cst_22 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_23 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_24 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_25 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_cst_26 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_cst_27 : Ref sig .tc := ⟨.hbm, 195, rfl⟩
abbrev main_v138 : Ref sig .tc := ⟨.hbm, 196, rfl⟩
abbrev main_v139 : Ref sig .tc := ⟨.hbm, 197, rfl⟩

abbrev nD : Nat := 1
abbrev τ : Topo := Topo.v7x

variable {F : FTy → Type} [FloatOps F]
-- ==== Proj.lean ====
abbrev S4096x1024 : Shape := ⟨2, ![4096, 1024]⟩
abbrev S4096x2048 : Shape := ⟨2, ![4096, 2048]⟩
abbrev S4096x32 : Shape := ⟨2, ![4096, 32]⟩
abbrev S1x1024 : Shape := ⟨2, ![1, 1024]⟩
abbrev S1024x9248 : Shape := ⟨2, ![1024, 9248]⟩
abbrev S9248x1024 : Shape := ⟨2, ![9248, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S2048x1024 : Shape := ⟨2, ![2048, 1024]⟩
abbrev S4096x4096 : Shape := ⟨2, ![4096, 4096]⟩
abbrev S32x1024 : Shape := ⟨2, ![32, 1024]⟩
abbrev S1024x32 : Shape := ⟨2, ![1024, 32]⟩
abbrev S4096x512 : Shape := ⟨2, ![4096, 512]⟩
abbrev S512x512 : Shape := ⟨2, ![512, 512]⟩
abbrev S1024x512 : Shape := ⟨2, ![1024, 512]⟩
abbrev S1024x2048 : Shape := ⟨2, ![1024, 2048]⟩
abbrev S1024 : Shape := ⟨1, ![1024]⟩

abbrev nBuf : Space → Nat
  | .hbm => 55
  | .vmem => 129
  | .smem => 0
  | _ => 0

abbrev vmemTy0_0 (i : Nat) : BufTy := match i % 128 with
  | 0 => ⟨S512x1024, .f32⟩
  | 1 => ⟨S512x1024, .f32⟩
  | 2 => ⟨S1x1024, .f32⟩
  | 3 => ⟨S512x1024, .bf16⟩
  | 4 => ⟨S512x1024, .bf16⟩
  | 5 => ⟨S1024x1024, .bf16⟩
  | 6 => ⟨S1024x1024, .bf16⟩
  | 7 => ⟨S1024x1024, .bf16⟩
  | 8 => ⟨S1024x1024, .f32⟩
  | 9 => ⟨S1024x1024, .f32⟩
  | 10 => ⟨S1024x1024, .bf16⟩
  | 11 => ⟨S1024x1024, .bf16⟩
  | 12 => ⟨S1024x1024, .bf16⟩
  | 13 => ⟨S1024x1024, .bf16⟩
  | 14 => ⟨S1024x1024, .f32⟩
  | 15 => ⟨S1024x1024, .f32⟩
  | 16 => ⟨S1024x1024, .bf16⟩
  | 17 => ⟨S1024x1024, .bf16⟩
  | 18 => ⟨S1024x1024, .bf16⟩
  | 19 => ⟨S1024x1024, .bf16⟩
  | 20 => ⟨S1024x1024, .f32⟩
  | 21 => ⟨S1024x1024, .f32⟩
  | 22 => ⟨S1024x1024, .bf16⟩
  | 23 => ⟨S1024x1024, .bf16⟩
  | 24 => ⟨S32x1024, .bf16⟩
  | 25 => ⟨S1024x32, .f32⟩
  | 26 => ⟨S1024x32, .f32⟩
  | 27 => ⟨S1024x1024, .bf16⟩
  | 28 => ⟨S1024x1024, .bf16⟩
  | 29 => ⟨S1024x1024, .bf16⟩
  | 30 => ⟨S1024x1024, .bf16⟩
  | 31 => ⟨S1024x1024, .f32⟩
  | 32 => ⟨S1024x1024, .f32⟩
  | 33 => ⟨S4096x512, .f32⟩
  | 34 => ⟨S4096x512, .f32⟩
  | 35 => ⟨S4096x512, .bf16⟩
  | 36 => ⟨S4096x512, .bf16⟩
  | 37 => ⟨S512x512, .f32⟩
  | 38 => ⟨S512x512, .f32⟩
  | 39 => ⟨S1024x1024, .f32⟩
  | 40 => ⟨S1024x1024, .f32⟩
  | 41 => ⟨S1024x1024, .bf16⟩
  | 42 => ⟨S1024x1024, .f32⟩
  | 43 => ⟨S1024x1024, .f32⟩
  | 44 => ⟨S4096x1024, .bf16⟩
  | 45 => ⟨S4096x1024, .bf16⟩
  | 46 => ⟨S4096x512, .bf16⟩
  | 47 => ⟨S4096x512, .bf16⟩
  | 48 => ⟨S1024x512, .f32⟩
  | 49 => ⟨S1024x512, .f32⟩
  | 50 => ⟨S1024x2048, .bf16⟩
  | 51 => ⟨S1024x2048, .bf16⟩
  | 52 => ⟨S2048x1024, .bf16⟩
  | 53 => ⟨S1024x1024, .f32⟩
  | 54 => ⟨S1024x1024, .f32⟩
  | 55 => ⟨S1024x1024, .f32⟩
  | 56 => ⟨S1024x1024, .f32⟩
  | 57 => ⟨S4096x1024, .bf16⟩
  | 58 => ⟨S4096x1024, .bf16⟩
  | 59 => ⟨S4096x512, .bf16⟩
  | 60 => ⟨S4096x512, .bf16⟩
  | 61 => ⟨S1024x512, .f32⟩
  | 62 => ⟨S1024x512, .f32⟩
  | 63 => ⟨S1024x2048, .bf16⟩
  | 64 => ⟨S1024x2048, .bf16⟩
  | 65 => ⟨S2048x1024, .bf16⟩
  | 66 => ⟨S1024x1024, .f32⟩
  | 67 => ⟨S1024x1024, .f32⟩
  | 68 => ⟨S1024x1024, .f32⟩
  | 69 => ⟨S1024x1024, .f32⟩
  | 70 => ⟨S4096x1024, .bf16⟩
  | 71 => ⟨S4096x512, .bf16⟩
  | 72 => ⟨S4096x512, .bf16⟩
  | 73 => ⟨S1024x512, .f32⟩
  | 74 => ⟨S1024x512, .f32⟩
  | 75 => ⟨S1024x1024, .bf16⟩
  | 76 => ⟨S1024x1024, .bf16⟩
  | 77 => ⟨S1024x1024, .bf16⟩
  | 78 => ⟨S1024x1024, .f32⟩
  | 79 => ⟨S1024x1024, .f32⟩
  | 80 => ⟨S1024x1024, .f32⟩
  | 81 => ⟨S1024x1024, .f32⟩
  | 82 => ⟨S4096x1024, .bf16⟩
  | 83 => ⟨S4096x512, .bf16⟩
  | 84 => ⟨S4096x512, .bf16⟩
  | 85 => ⟨S1024x512, .f32⟩
  | 86 => ⟨S1024x512, .f32⟩
  | 87 => ⟨S1024x1024, .bf16⟩
  | 88 => ⟨S1024x1024, .bf16⟩
  | 89 => ⟨S1024x1024, .bf16⟩
  | 90 => ⟨S1024x1024, .f32⟩
  | 91 => ⟨S1024x1024, .f32⟩
  | 92 => ⟨S1024x1024, .f32⟩
  | 93 => ⟨S1024x1024, .f32⟩
  | 94 => ⟨S4096x32, .f32⟩
  | 95 => ⟨S4096x1024, .bf16⟩
  | 96 => ⟨S32x1024, .f32⟩
  | 97 => ⟨S1024x32, .f32⟩
  | 98 => ⟨S1024x32, .f32⟩
  | 99 => ⟨S32x1024, .bf16⟩
  | 100 => ⟨S1024x1024, .f32⟩
  | 101 => ⟨S1024x1024, .f32⟩
  | 102 => ⟨S1024x1024, .f32⟩
  | 103 => ⟨S1024x1024, .f32⟩
  | 104 => ⟨S4096x1024, .bf16⟩
  | 105 => ⟨S4096x1024, .bf16⟩
  | 106 => ⟨S4096x512, .bf16⟩
  | 107 => ⟨S4096x512, .bf16⟩
  | 108 => ⟨S1024x512, .f32⟩
  | 109 => ⟨S1024x512, .f32⟩
  | 110 => ⟨S1024x2048, .bf16⟩
  | 111 => ⟨S1024x2048, .bf16⟩
  | 112 => ⟨S2048x1024, .bf16⟩
  | 113 => ⟨S1024x1024, .f32⟩
  | 114 => ⟨S1024x1024, .f32⟩
  | 115 => ⟨S1024x1024, .f32⟩
  | 116 => ⟨S1024x1024, .f32⟩
  | 117 => ⟨S512x1024, .f32⟩
  | 118 => ⟨S512x1024, .f32⟩
  | 119 => ⟨S512x1024, .f32⟩
  | 120 => ⟨S512x1024, .f32⟩
  | 121 => ⟨S512x1024, .f32⟩
  | 122 => ⟨S512x1024, .f32⟩
  | 123 => ⟨S1x1024, .f32⟩
  | 124 => ⟨S512x1024, .f32⟩
  | 125 => ⟨S512x1024, .f32⟩
  | 126 => ⟨S512x1024, .bf16⟩
  | 127 => ⟨S512x1024, .bf16⟩
  | _ => ⟨S4096x1024, .f32⟩

abbrev vmemTy0_1 (i : Nat) : BufTy := match i % 128 with
  | 0 => ⟨S1x1024, .f32⟩
  | _ => ⟨S4096x1024, .f32⟩

abbrev vmemTy (i : Nat) : BufTy := match i / 128 with
  | 0 => vmemTy0_0 i
  | 1 => vmemTy0_1 i
  | _ => ⟨S4096x1024, .f32⟩

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x32, .f32⟩
  | .hbm, ⟨7, _⟩ => ⟨S4096x2048, .f32⟩
  | .hbm, ⟨8, _⟩ => ⟨S4096x1024, .f32⟩
  | .hbm, ⟨9, _⟩ => ⟨S1x1024, .f32⟩
  | .hbm, ⟨10, _⟩ => ⟨S1024x9248, .f32⟩
  | .hbm, ⟨11, _⟩ => ⟨S9248x1024, .f32⟩
  | .hbm, ⟨12, _⟩ => ⟨S9248x1024, .bf16⟩
  | .hbm, ⟨13, _⟩ => ⟨S4096x1024, .bf16⟩
  | .hbm, ⟨14, _⟩ => ⟨S1024x1024, .bf16⟩
  | .hbm, ⟨15, _⟩ => ⟨S4096x1024, .f32⟩
  | .hbm, ⟨16, _⟩ => ⟨S2048x1024, .bf16⟩
  | .hbm, ⟨17, _⟩ => ⟨S4096x2048, .f32⟩
  | .hbm, ⟨18, _⟩ => ⟨S4096x1024, .bf16⟩
  | .hbm, ⟨19, _⟩ => ⟨S4096x4096, .f32⟩
  | .hbm, ⟨20, _⟩ => ⟨S32x1024, .bf16⟩
  | .hbm, ⟨21, _⟩ => ⟨S4096x32, .f32⟩
  | .hbm, ⟨22, _⟩ => ⟨S2048x1024, .bf16⟩
  | .hbm, ⟨23, _⟩ => ⟨S4096x2048, .f32⟩
  | .hbm, ⟨24, _⟩ => ⟨S4096x2048, .bf16⟩
  | .hbm, ⟨25, _⟩ => ⟨S4096x1024, .bf16⟩
  | .hbm, ⟨26, _⟩ => ⟨S4096x1024, .bf16⟩
  | .hbm, ⟨27, _⟩ => ⟨S4096x2048, .bf16⟩
  | .hbm, ⟨28, _⟩ => ⟨S4096x2048, .bf16⟩
  | .hbm, ⟨29, _⟩ => ⟨S1024x1024, .f32⟩
  | .hbm, ⟨30, _⟩ => ⟨S1024x1024, .bf16⟩
  | .hbm, ⟨31, _⟩ => ⟨S4096x1024, .f32⟩
  | .hbm, ⟨32, _⟩ => ⟨S2048x1024, .f32⟩
  | .hbm, ⟨33, _⟩ => ⟨S2048x1024, .bf16⟩
  | .hbm, ⟨34, _⟩ => ⟨S4096x1024, .f32⟩
  | .hbm, ⟨35, _⟩ => ⟨S2048x1024, .f32⟩
  | .hbm, ⟨36, _⟩ => ⟨S2048x1024, .bf16⟩
  | .hbm, ⟨37, _⟩ => ⟨S4096x1024, .f32⟩
  | .hbm, ⟨38, _⟩ => ⟨S1024x1024, .f32⟩
  | .hbm, ⟨39, _⟩ => ⟨S1024x1024, .bf16⟩
  | .hbm, ⟨40, _⟩ => ⟨S4096x1024, .f32⟩
  | .hbm, ⟨41, _⟩ => ⟨S1024x1024, .f32⟩
  | .hbm, ⟨42, _⟩ => ⟨S1024x1024, .bf16⟩
  | .hbm, ⟨43, _⟩ => ⟨S4096x1024, .f32⟩
  | .hbm, ⟨44, _⟩ => ⟨S32x1024, .f32⟩
  | .hbm, ⟨45, _⟩ => ⟨S32x1024, .bf16⟩
  | .hbm, ⟨46, _⟩ => ⟨S4096x1024, .f32⟩
  | .hbm, ⟨47, _⟩ => ⟨S2048x1024, .f32⟩
  | .hbm, ⟨48, _⟩ => ⟨S2048x1024, .bf16⟩
  | .hbm, ⟨49, _⟩ => ⟨S4096x1024, .f32⟩
  | .hbm, ⟨50, _⟩ => ⟨S9248x1024, .f32⟩
  | .hbm, ⟨51, _⟩ => ⟨S4096x1024, .f32⟩
  | .hbm, ⟨52, _⟩ => ⟨S4096x1024, .bf16⟩
  | .hbm, ⟨53, _⟩ => ⟨S1x1024, .f32⟩
  | .hbm, ⟨54, _⟩ => ⟨S1024x9248, .f32⟩
  | .local _ .vmem, ⟨i, _⟩ => vmemTy i
  | _, _ => ⟨S4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 129 → Bool
  | ⟨i, _⟩ => dmaSemScopedAt i

abbrev sig : RefSig :=
  ofTc nBuf bufTy 0 129 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev main_v40_2 : Ref sig .tc := ⟨.hbm, 53, rfl⟩
abbrev main_v41 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg2_1 : Ref sig .tc := ⟨.vmem, 43, rfl⟩
abbrev cc8_stg0_0 : Ref sig .tc := ⟨.vmem, 44, rfl⟩
abbrev cc8_stg0_1 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg2_1 : Ref sig .tc := ⟨.vmem, 54, rfl⟩
abbrev cc9_stg3_0 : Ref sig .tc := ⟨.vmem, 55, rfl⟩
abbrev cc9_stg3_1 : Ref sig .tc := ⟨.vmem, 56, rfl⟩
abbrev cc10_stg0_0 : Ref sig .tc := ⟨.vmem, 57, rfl⟩
abbrev cc10_stg0_1 : Ref sig .tc := ⟨.vmem, 58, rfl⟩
abbrev cc10_stg1_0 : Ref sig .tc := ⟨.vmem, 59, rfl⟩
abbrev cc10_stg1_1 : Ref sig .tc := ⟨.vmem, 60, rfl⟩
abbrev cc10_stg2_0 : Ref sig .tc := ⟨.vmem, 61, rfl⟩
abbrev cc10_stg2_1 : Ref sig .tc := ⟨.vmem, 62, rfl⟩
abbrev cc11_stg0_0 : Ref sig .tc := ⟨.vmem, 63, rfl⟩
abbrev cc11_stg0_1 : Ref sig .tc := ⟨.vmem, 64, rfl⟩
abbrev cc11_stg1_0 : Ref sig .tc := ⟨.vmem, 65, rfl⟩
abbrev cc11_stg2_0 : Ref sig .tc := ⟨.vmem, 66, rfl⟩
abbrev cc11_stg2_1 : Ref sig .tc := ⟨.vmem, 67, rfl⟩
abbrev cc11_stg3_0 : Ref sig .tc := ⟨.vmem, 68, rfl⟩
abbrev cc11_stg3_1 : Ref sig .tc := ⟨.vmem, 69, rfl⟩
abbrev cc12_stg0_0 : Ref sig .tc := ⟨.vmem, 70, rfl⟩
abbrev cc12_stg1_0 : Ref sig .tc := ⟨.vmem, 71, rfl⟩
abbrev cc12_stg1_1 : Ref sig .tc := ⟨.vmem, 72, rfl⟩
abbrev cc12_stg2_0 : Ref sig .tc := ⟨.vmem, 73, rfl⟩
abbrev cc12_stg2_1 : Ref sig .tc := ⟨.vmem, 74, rfl⟩
abbrev cc13_stg0_0 : Ref sig .tc := ⟨.vmem, 75, rfl⟩
abbrev cc13_stg0_1 : Ref sig .tc := ⟨.vmem, 76, rfl⟩
abbrev cc13_stg1_0 : Ref sig .tc := ⟨.vmem, 77, rfl⟩
abbrev cc13_stg2_0 : Ref sig .tc := ⟨.vmem, 78, rfl⟩
abbrev cc13_stg2_1 : Ref sig .tc := ⟨.vmem, 79, rfl⟩
abbrev cc13_stg3_0 : Ref sig .tc := ⟨.vmem, 80, rfl⟩
abbrev cc13_stg3_1 : Ref sig .tc := ⟨.vmem, 81, rfl⟩
abbrev cc14_stg0_0 : Ref sig .tc := ⟨.vmem, 82, rfl⟩
abbrev cc14_stg1_0 : Ref sig .tc := ⟨.vmem, 83, rfl⟩
abbrev cc14_stg1_1 : Ref sig .tc := ⟨.vmem, 84, rfl⟩
abbrev cc14_stg2_0 : Ref sig .tc := ⟨.vmem, 85, rfl⟩
abbrev cc14_stg2_1 : Ref sig .tc := ⟨.vmem, 86, rfl⟩
abbrev cc15_stg0_0 : Ref sig .tc := ⟨.vmem, 87, rfl⟩
abbrev cc15_stg0_1 : Ref sig .tc := ⟨.vmem, 88, rfl⟩
abbrev cc15_stg1_0 : Ref sig .tc := ⟨.vmem, 89, rfl⟩
abbrev cc15_stg2_0 : Ref sig .tc := ⟨.vmem, 90, rfl⟩
abbrev cc15_stg2_1 : Ref sig .tc := ⟨.vmem, 91, rfl⟩
abbrev cc15_stg3_0 : Ref sig .tc := ⟨.vmem, 92, rfl⟩
abbrev cc15_stg3_1 : Ref sig .tc := ⟨.vmem, 93, rfl⟩
abbrev cc16_stg0_0 : Ref sig .tc := ⟨.vmem, 94, rfl⟩
abbrev cc16_stg1_0 : Ref sig .tc := ⟨.vmem, 95, rfl⟩
abbrev cc16_stg2_0 : Ref sig .tc := ⟨.vmem, 96, rfl⟩
abbrev cc17_stg0_0 : Ref sig .tc := ⟨.vmem, 97, rfl⟩
abbrev cc17_stg0_1 : Ref sig .tc := ⟨.vmem, 98, rfl⟩
abbrev cc17_stg1_0 : Ref sig .tc := ⟨.vmem, 99, rfl⟩
abbrev cc17_stg2_0 : Ref sig .tc := ⟨.vmem, 100, rfl⟩
abbrev cc17_stg2_1 : Ref sig .tc := ⟨.vmem, 101, rfl⟩
abbrev cc17_stg3_0 : Ref sig .tc := ⟨.vmem, 102, rfl⟩
abbrev cc17_stg3_1 : Ref sig .tc := ⟨.vmem, 103, rfl⟩
abbrev cc18_stg0_0 : Ref sig .tc := ⟨.vmem, 104, rfl⟩
abbrev cc18_stg0_1 : Ref sig .tc := ⟨.vmem, 105, rfl⟩
abbrev cc18_stg1_0 : Ref sig .tc := ⟨.vmem, 106, rfl⟩
abbrev cc18_stg1_1 : Ref sig .tc := ⟨.vmem, 107, rfl⟩
abbrev cc18_stg2_0 : Ref sig .tc := ⟨.vmem, 108, rfl⟩
abbrev cc18_stg2_1 : Ref sig .tc := ⟨.vmem, 109, rfl⟩
abbrev cc19_stg0_0 : Ref sig .tc := ⟨.vmem, 110, rfl⟩
abbrev cc19_stg0_1 : Ref sig .tc := ⟨.vmem, 111, rfl⟩
abbrev cc19_stg1_0 : Ref sig .tc := ⟨.vmem, 112, rfl⟩
abbrev cc19_stg2_0 : Ref sig .tc := ⟨.vmem, 113, rfl⟩
abbrev cc19_stg2_1 : Ref sig .tc := ⟨.vmem, 114, rfl⟩
abbrev cc19_stg3_0 : Ref sig .tc := ⟨.vmem, 115, rfl⟩
abbrev cc19_stg3_1 : Ref sig .tc := ⟨.vmem, 116, rfl⟩
abbrev cc20_stg0_0 : Ref sig .tc := ⟨.vmem, 117, rfl⟩
abbrev cc20_stg0_1 : Ref sig .tc := ⟨.vmem, 118, rfl⟩
abbrev cc20_stg1_0 : Ref sig .tc := ⟨.vmem, 119, rfl⟩
abbrev cc20_stg1_1 : Ref sig .tc := ⟨.vmem, 120, rfl⟩
abbrev cc20_stg2_0 : Ref sig .tc := ⟨.vmem, 121, rfl⟩
abbrev cc20_stg2_1 : Ref sig .tc := ⟨.vmem, 122, rfl⟩
abbrev cc20_stg3_0 : Ref sig .tc := ⟨.vmem, 123, rfl⟩
abbrev cc20_stg4_0 : Ref sig .tc := ⟨.vmem, 124, rfl⟩
abbrev cc20_stg4_1 : Ref sig .tc := ⟨.vmem, 125, rfl⟩
abbrev cc20_stg5_0 : Ref sig .tc := ⟨.vmem, 126, rfl⟩
abbrev cc20_stg5_1 : Ref sig .tc := ⟨.vmem, 127, rfl⟩
abbrev cc20_stg6_0 : Ref sig .tc := ⟨.vmem, 128, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem1_1 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem2_1 : DmaSem sig := 43
abbrev cc8_sem0_0 : DmaSem sig := 44
abbrev cc8_sem0_1 : DmaSem sig := 45
abbrev cc8_sem1_0 : DmaSem sig := 46
abbrev cc8_sem1_1 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem2_1 : DmaSem sig := 54
abbrev cc9_sem3_0 : DmaSem sig := 55
abbrev cc9_sem3_1 : DmaSem sig := 56
abbrev cc10_sem0_0 : DmaSem sig := 57
abbrev cc10_sem0_1 : DmaSem sig := 58
abbrev cc10_sem1_0 : DmaSem sig := 59
abbrev cc10_sem1_1 : DmaSem sig := 60
abbrev cc10_sem2_0 : DmaSem sig := 61
abbrev cc10_sem2_1 : DmaSem sig := 62
abbrev cc11_sem0_0 : DmaSem sig := 63
abbrev cc11_sem0_1 : DmaSem sig := 64
abbrev cc11_sem1_0 : DmaSem sig := 65
abbrev cc11_sem2_0 : DmaSem sig := 66
abbrev cc11_sem2_1 : DmaSem sig := 67
abbrev cc11_sem3_0 : DmaSem sig := 68
abbrev cc11_sem3_1 : DmaSem sig := 69
abbrev cc12_sem0_0 : DmaSem sig := 70
abbrev cc12_sem1_0 : DmaSem sig := 71
abbrev cc12_sem1_1 : DmaSem sig := 72
abbrev cc12_sem2_0 : DmaSem sig := 73
abbrev cc12_sem2_1 : DmaSem sig := 74
abbrev cc13_sem0_0 : DmaSem sig := 75
abbrev cc13_sem0_1 : DmaSem sig := 76
abbrev cc13_sem1_0 : DmaSem sig := 77
abbrev cc13_sem2_0 : DmaSem sig := 78
abbrev cc13_sem2_1 : DmaSem sig := 79
abbrev cc13_sem3_0 : DmaSem sig := 80
abbrev cc13_sem3_1 : DmaSem sig := 81
abbrev cc14_sem0_0 : DmaSem sig := 82
abbrev cc14_sem1_0 : DmaSem sig := 83
abbrev cc14_sem1_1 : DmaSem sig := 84
abbrev cc14_sem2_0 : DmaSem sig := 85
abbrev cc14_sem2_1 : DmaSem sig := 86
abbrev cc15_sem0_0 : DmaSem sig := 87
abbrev cc15_sem0_1 : DmaSem sig := 88
abbrev cc15_sem1_0 : DmaSem sig := 89
abbrev cc15_sem2_0 : DmaSem sig := 90
abbrev cc15_sem2_1 : DmaSem sig := 91
abbrev cc15_sem3_0 : DmaSem sig := 92
abbrev cc15_sem3_1 : DmaSem sig := 93
abbrev cc16_sem0_0 : DmaSem sig := 94
abbrev cc16_sem1_0 : DmaSem sig := 95
abbrev cc16_sem2_0 : DmaSem sig := 96
abbrev cc17_sem0_0 : DmaSem sig := 97
abbrev cc17_sem0_1 : DmaSem sig := 98
abbrev cc17_sem1_0 : DmaSem sig := 99
abbrev cc17_sem2_0 : DmaSem sig := 100
abbrev cc17_sem2_1 : DmaSem sig := 101
abbrev cc17_sem3_0 : DmaSem sig := 102
abbrev cc17_sem3_1 : DmaSem sig := 103
abbrev cc18_sem0_0 : DmaSem sig := 104
abbrev cc18_sem0_1 : DmaSem sig := 105
abbrev cc18_sem1_0 : DmaSem sig := 106
abbrev cc18_sem1_1 : DmaSem sig := 107
abbrev cc18_sem2_0 : DmaSem sig := 108
abbrev cc18_sem2_1 : DmaSem sig := 109
abbrev cc19_sem0_0 : DmaSem sig := 110
abbrev cc19_sem0_1 : DmaSem sig := 111
abbrev cc19_sem1_0 : DmaSem sig := 112
abbrev cc19_sem2_0 : DmaSem sig := 113
abbrev cc19_sem2_1 : DmaSem sig := 114
abbrev cc19_sem3_0 : DmaSem sig := 115
abbrev cc19_sem3_1 : DmaSem sig := 116
abbrev cc20_sem0_0 : DmaSem sig := 117
abbrev cc20_sem0_1 : DmaSem sig := 118
abbrev cc20_sem1_0 : DmaSem sig := 119
abbrev cc20_sem1_1 : DmaSem sig := 120
abbrev cc20_sem2_0 : DmaSem sig := 121
abbrev cc20_sem2_1 : DmaSem sig := 122
abbrev cc20_sem3_0 : DmaSem sig := 123
abbrev cc20_sem4_0 : DmaSem sig := 124
abbrev cc20_sem4_1 : DmaSem sig := 125
abbrev cc20_sem5_0 : DmaSem sig := 126
abbrev cc20_sem5_1 : DmaSem sig := 127
abbrev cc20_sem6_0 : DmaSem sig := 128

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![4, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 1 → Memref sig .tc .vmem S32x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, false]

abbrev stage4_2 : Fin 2 → Memref sig .tc .vmem S1024x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage5_0 : Fin 2 → Memref sig .tc .vmem S1024x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![2, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S4096x512 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S1024x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 1 → Memref sig .tc .vmem S1024x1024 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![true, false]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 2], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S4096x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S4096x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1024x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage9_0 : Fin 2 → Memref sig .tc .vmem S1024x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![false, true]

abbrev stage9_1 : Fin 1 → Memref sig .tc .vmem S2048x1024 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![true, false]

abbrev stage9_2 : Fin 2 → Memref sig .tc .vmem S1024x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev stage9_3 : Fin 2 → Memref sig .tc .vmem S1024x1024 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![2, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S4096x1024 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S4096x512 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x512 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 4], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage11_0 : Fin 2 → Memref sig .tc .vmem S1024x2048 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![false, true]

abbrev stage11_1 : Fin 1 → Memref sig .tc .vmem S2048x1024 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![true, false]

abbrev stage11_2 : Fin 2 → Memref sig .tc .vmem S1024x1024 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]

abbrev stage11_3 : Fin 2 → Memref sig .tc .vmem S1024x1024 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev grid12 : Pipeline.Grid := ⟨2, ![1, 2], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 1 → Memref sig .tc .vmem S4096x1024 .bf16 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![true, false]

abbrev stage12_1 : Fin 2 → Memref sig .tc .vmem S4096x512 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1024x512 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, true]

abbrev grid13 : Pipeline.Grid := ⟨2, ![1, 4], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage13_0 : Fin 2 → Memref sig .tc .vmem S1024x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![false, true]

abbrev stage13_1 : Fin 1 → Memref sig .tc .vmem S1024x1024 .bf16 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![true, false]

abbrev stage13_2 : Fin 2 → Memref sig .tc .vmem S1024x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true, true]

abbrev stage13_3 : Fin 2 → Memref sig .tc .vmem S1024x1024 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, true]

abbrev grid14 : Pipeline.Grid := ⟨2, ![1, 2], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 1 → Memref sig .tc .vmem S4096x1024 .bf16 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))
abbrev reads14_0 : Fin grid14.rank → Bool := ![true, false]

abbrev stage14_1 : Fin 2 → Memref sig .tc .vmem S4096x512 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1024x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true, true]

abbrev grid15 : Pipeline.Grid := ⟨2, ![1, 4], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage15_0 : Fin 2 → Memref sig .tc .vmem S1024x1024 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![false, true]

abbrev stage15_1 : Fin 1 → Memref sig .tc .vmem S1024x1024 .bf16 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![true, false]

abbrev stage15_2 : Fin 2 → Memref sig .tc .vmem S1024x1024 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true, true]

abbrev stage15_3 : Fin 2 → Memref sig .tc .vmem S1024x1024 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, true]

abbrev grid16 : Pipeline.Grid := ⟨2, ![1, 1], ![false, false]⟩

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage16_0 : Fin 1 → Memref sig .tc .vmem S4096x32 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![true, false]

abbrev stage16_1 : Fin 1 → Memref sig .tc .vmem S4096x1024 .bf16 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false, true]

abbrev stage16_2 : Fin 1 → Memref sig .tc .vmem S32x1024 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![true, true]

abbrev grid17 : Pipeline.Grid := ⟨2, ![1, 4], ![false, false]⟩

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc17_transform_2 (i : grid17.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc17_transform_3 (i : grid17.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage17_0 : Fin 2 → Memref sig .tc .vmem S1024x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![false, true]

abbrev stage17_1 : Fin 1 → Memref sig .tc .vmem S32x1024 .bf16 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![true, false]

abbrev stage17_2 : Fin 2 → Memref sig .tc .vmem S1024x1024 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true, true]

abbrev stage17_3 : Fin 2 → Memref sig .tc .vmem S1024x1024 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true, true]

abbrev grid18 : Pipeline.Grid := ⟨2, ![2, 2], ![false, false]⟩

def cc18_transform_0 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage18_0 : Fin 2 → Memref sig .tc .vmem S4096x1024 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, false]

abbrev stage18_1 : Fin 2 → Memref sig .tc .vmem S4096x512 .bf16 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true]

abbrev stage18_2 : Fin 2 → Memref sig .tc .vmem S1024x512 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true, true]

abbrev grid19 : Pipeline.Grid := ⟨2, ![1, 4], ![false, false]⟩

def cc19_transform_0 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc19_transform_1 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc19_transform_2 (i : grid19.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc19_transform_3 (i : grid19.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage19_0 : Fin 2 → Memref sig .tc .vmem S1024x2048 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![false, true]

abbrev stage19_1 : Fin 1 → Memref sig .tc .vmem S2048x1024 .bf16 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![true, false]

abbrev stage19_2 : Fin 2 → Memref sig .tc .vmem S1024x1024 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true, true]

abbrev stage19_3 : Fin 2 → Memref sig .tc .vmem S1024x1024 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true, true]

abbrev grid20 : Pipeline.Grid := ⟨1, ![8], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_5 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_6 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S512x1024 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S512x1024 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S512x1024 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev stage20_3 : Fin 1 → Memref sig .tc .vmem S1x1024 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))
abbrev reads20_3 : Fin grid20.rank → Bool := ![false]

abbrev stage20_4 : Fin 2 → Memref sig .tc .vmem S512x1024 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev stage20_5 : Fin 2 → Memref sig .tc .vmem S512x1024 .bf16 := fun | 0 => Memref.whole cc20_stg5_0 | 1 => Memref.whole cc20_stg5_1 | ⟨_ + 2, h⟩ => absurd h (Nat.not_lt.2 (Nat.le_add_left _ _))
abbrev sem20_5 : Fin 2 → DmaSem sig := fun | 0 => cc20_sem5_0 | 1 => cc20_sem5_1 | ⟨_ + 2, h⟩ => absurd h (Nat.not_lt.2 (Nat.le_add_left _ _))
abbrev reads20_5 : Fin grid20.rank → Bool := ![true]

abbrev stage20_6 : Fin 1 → Memref sig .tc .vmem S1x1024 .f32 := fun | 0 => Memref.whole cc20_stg6_0 | ⟨_ + 1, h⟩ => absurd h (Nat.not_lt.2 (Nat.le_add_left _ _))
abbrev sem20_6 : Fin 1 → DmaSem sig := fun | 0 => cc20_sem6_0 | ⟨_ + 1, h⟩ => absurd h (Nat.not_lt.2 (Nat.le_add_left _ _))
abbrev reads20_6 : Fin grid20.rank → Bool := ![false]
-- ==== ProjRefIdeal.lean ====
abbrev S4096x1024 : Shape := ⟨2, ![4096, 1024]⟩
abbrev S4096x2048 : Shape := ⟨2, ![4096, 2048]⟩
abbrev S4096x32 : Shape := ⟨2, ![4096, 32]⟩
abbrev S1x1024 : Shape := ⟨2, ![1, 1024]⟩
abbrev S1024x9248 : Shape := ⟨2, ![1024, 9248]⟩
abbrev S_ : Shape := ⟨0, ![]⟩
abbrev S4096 : Shape := ⟨1, ![4096]⟩
abbrev S4096x1 : Shape := ⟨2, ![4096, 1]⟩
abbrev S4096x9248 : Shape := ⟨2, ![4096, 9248]⟩
abbrev S4096x4096 : Shape := ⟨2, ![4096, 4096]⟩
abbrev S9248x1024 : Shape := ⟨2, ![9248, 1024]⟩
abbrev S1024 : Shape := ⟨1, ![1024]⟩

abbrev nBuf : Space → Nat
  | .hbm => 65
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x2048, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x32, .f32⟩
  | .hbm, ⟨7, _⟩ => ⟨S4096x2048, .f32⟩
  | .hbm, ⟨8, _⟩ => ⟨S4096x1024, .f32⟩
  | .hbm, ⟨9, _⟩ => ⟨S1x1024, .f32⟩
  | .hbm, ⟨10, _⟩ => ⟨S1024x9248, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x9248, .f32⟩
  | .hbm, ⟨31, _⟩ => ⟨S4096x1024, .f32⟩
  | .hbm, ⟨32, _⟩ => ⟨S4096x2048, .f32⟩
  | .hbm, ⟨33, _⟩ => ⟨S4096x4096, .f32⟩
  | .hbm, ⟨34, _⟩ => ⟨S4096x32, .f32⟩
  | .hbm, ⟨35, _⟩ => ⟨S4096x2048, .f32⟩
  | .hbm, ⟨36, _⟩ => ⟨S4096x4096, .f32⟩
  | .hbm, ⟨37, _⟩ => ⟨S4096x9248, .f32⟩
  | .hbm, ⟨38, _⟩ => ⟨S9248x1024, .f32⟩
  | .hbm, ⟨39, _⟩ => ⟨S1024x9248, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Conv.lean ====
abbrev S4096x4096 : Shape := ⟨2, ![4096, 4096]⟩
abbrev S4x4096 : Shape := ⟨2, ![4, 4096]⟩
abbrev S1x4096 : Shape := ⟨2, ![1, 4096]⟩
abbrev S4096x2048 : Shape := ⟨2, ![4096, 2048]⟩
abbrev S4096x1024 : Shape := ⟨2, ![4096, 1024]⟩
abbrev S4096x256 : Shape := ⟨2, ![4096, 256]⟩
abbrev S4x256 : Shape := ⟨2, ![4, 256]⟩
abbrev S1x256 : Shape := ⟨2, ![1, 256]⟩
abbrev S4x2048 : Shape := ⟨2, ![4, 2048]⟩
abbrev S1x2048 : Shape := ⟨2, ![1, 2048]⟩
abbrev S256 : Shape := ⟨1, ![256]⟩
abbrev S4x1024 : Shape := ⟨2, ![4, 1024]⟩
abbrev S1x1024 : Shape := ⟨2, ![1, 1024]⟩

abbrev nBuf : Space → Nat
  | .hbm => 21
  | .vmem => 50
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S4096x4096, .f32⟩
  | .hbm, ⟨7, _⟩ => ⟨S4096x2048, .bf16⟩
  | .hbm, ⟨8, _⟩ => ⟨S4x2048, .f32⟩
  | .hbm, ⟨9, _⟩ => ⟨S1x2048, .f32⟩
  | .hbm, ⟨10, _⟩ => ⟨S4096x1024, .bf16⟩
  | .hbm, ⟨11, _⟩ => ⟨S4x1024, .f32⟩
  | .hbm, ⟨12, _⟩ => ⟨S1x1024, .f32⟩
  | .hbm, ⟨13, _⟩ => ⟨S4096x1024, .bf16⟩
  | .hbm, ⟨14, _⟩ => ⟨S4x1024, .f32⟩
  | .hbm, ⟨15, _⟩ => ⟨S1x1024, .f32⟩
  | .hbm, ⟨16, _⟩ => ⟨S4096x2048, .f32⟩
  | .hbm, ⟨17, _⟩ => ⟨S4096x1024, .f32⟩
  | .hbm, ⟨18, _⟩ => ⟨S4096x1024, .f32⟩
  | .hbm, ⟨19, _⟩ => ⟨S4x4096, .f32⟩
  | .hbm, ⟨20, _⟩ => ⟨S1x4096, .f32⟩
  | .local _ .vmem, ⟨0, _⟩ => ⟨S4096x256, .f32⟩
  | .local _ .vmem, ⟨1, _⟩ => ⟨S4096x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S4096x256, .f32⟩
  | .local _ .vmem, ⟨7, _⟩ => ⟨S4096x256, .f32⟩
  | .local _ .vmem, ⟨8, _⟩ => ⟨S4096x256, .f32⟩
  | .local _ .vmem, ⟨9, _⟩ => ⟨S4096x256, .f32⟩
  | .local _ .vmem, ⟨10, _⟩ => ⟨S4x256, .f32⟩
  | .local _ .vmem, ⟨11, _⟩ => ⟨S4x256, .f32⟩
  | .local _ .vmem, ⟨12, _⟩ => ⟨S1x256, .f32⟩
  | .local _ .vmem, ⟨13, _⟩ => ⟨S1x256, .f32⟩
  | .local _ .vmem, ⟨14, _⟩ => ⟨S4096x256, .f32⟩
  | .local _ .vmem, ⟨15, _⟩ => ⟨S4096x256, .f32⟩
  | .local _ .vmem, ⟨16, _⟩ => ⟨S4096x256, .bf16⟩
  | .local _ .vmem, ⟨17, _⟩ => ⟨S4096x256, .bf16⟩
  | .local _ .vmem, ⟨18, _⟩ => ⟨S4x256, .f32⟩
  | .local _ .vmem, ⟨19, _⟩ => ⟨S4x256, .f32⟩
  | .local _ .vmem, ⟨20, _⟩ => ⟨S1x256, .f32⟩
  | .local _ .vmem, ⟨21, _⟩ => ⟨S1x256, .f32⟩
  | .local _ .vmem, ⟨22, _⟩ => ⟨S4096x256, .f32⟩
  | .local _ .vmem, ⟨23, _⟩ => ⟨S4096x256, .f32⟩
  | .local _ .vmem, ⟨24, _⟩ => ⟨S4x256, .f32⟩
  | .local _ .vmem, ⟨25, _⟩ => ⟨S4x256, .f32⟩
  | .local _ .vmem, ⟨26, _⟩ => ⟨S1x256, .f32⟩
  | .local _ .vmem, ⟨27, _⟩ => ⟨S1x256, .f32⟩
  | .local _ .vmem, ⟨28, _⟩ => ⟨S4096x256, .f32⟩
  | .local _ .vmem, ⟨29, _⟩ => ⟨S4096x256, .f32⟩
  | .local _ .vmem, ⟨30, _⟩ => ⟨S4096x256, .bf16⟩
  | .local _ .vmem, ⟨31, _⟩ => ⟨S4096x256, .bf16⟩
  | .local _ .vmem, ⟨32, _⟩ => ⟨S4x256, .f32⟩
  | .local _ .vmem, ⟨33, _⟩ => ⟨S4x256, .f32⟩
  | .local _ .vmem, ⟨34, _⟩ => ⟨S1x256, .f32⟩
  | .local _ .vmem, ⟨35, _⟩ => ⟨S1x256, .f32⟩
  | .local _ .vmem, ⟨36, _⟩ => ⟨S4096x256, .f32⟩
  | .local _ .vmem, ⟨37, _⟩ => ⟨S4096x256, .f32⟩
  | .local _ .vmem, ⟨38, _⟩ => ⟨S4x256, .f32⟩
  | .local _ .vmem, ⟨39, _⟩ => ⟨S4x256, .f32⟩
  | .local _ .vmem, ⟨40, _⟩ => ⟨S1x256, .f32⟩
  | .local _ .vmem, ⟨41, _⟩ => ⟨S1x256, .f32⟩
  | .local _ .vmem, ⟨42, _⟩ => ⟨S4096x256, .f32⟩
  | .local _ .vmem, ⟨43, _⟩ => ⟨S4096x256, .f32⟩
  | .local _ .vmem, ⟨44, _⟩ => ⟨S4096x256, .bf16⟩
  | .local _ .vmem, ⟨45, _⟩ => ⟨S4096x256, .bf16⟩
  | .local _ .vmem, ⟨46, _⟩ => ⟨S4x256, .f32⟩
  | .local _ .vmem, ⟨47, _⟩ => ⟨S4x256, .f32⟩
  | .local _ .vmem, ⟨48, _⟩ => ⟨S1x256, .f32⟩
  | .local _ .vmem, ⟨49, _⟩ => ⟨S1x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg6_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_stg4_0 : Ref sig .tc := ⟨.vmem, 44, rfl⟩
abbrev cc3_stg4_1 : Ref sig .tc := ⟨.vmem, 45, rfl⟩
abbrev cc3_stg5_0 : Ref sig .tc := ⟨.vmem, 46, rfl⟩
abbrev cc3_stg5_1 : Ref sig .tc := ⟨.vmem, 47, rfl⟩
abbrev cc3_stg6_0 : Ref sig .tc := ⟨.vmem, 48, rfl⟩
abbrev cc3_stg6_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem6_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem3_1 : DmaSem sig := 43
abbrev cc3_sem4_0 : DmaSem sig := 44
abbrev cc3_sem4_1 : DmaSem sig := 45
abbrev cc3_sem5_0 : DmaSem sig := 46
abbrev cc3_sem5_1 : DmaSem sig := 47
abbrev cc3_sem6_0 : DmaSem sig := 48
abbrev cc3_sem6_1 : DmaSem sig := 49

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc2_transform_1 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4096x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4096x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc3_transform_1 (i : grid3.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S4096x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S4096x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S4096x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S4x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]
-- ==== ConvRefIdeal.lean ====
abbrev S4096x4096 : Shape := ⟨2, ![4096, 4096]⟩
abbrev S4x4096 : Shape := ⟨2, ![4, 4096]⟩
abbrev S1x4096 : Shape := ⟨2, ![1, 4096]⟩
abbrev S4096x2048 : Shape := ⟨2, ![4096, 2048]⟩
abbrev S4096x1024 : Shape := ⟨2, ![4096, 1024]⟩
abbrev S_ : Shape := ⟨0, ![]⟩
abbrev S3x4096 : Shape := ⟨2, ![3, 4096]⟩
abbrev S4099x4096 : Shape := ⟨2, ![4099, 4096]⟩
abbrev S4096 : Shape := ⟨1, ![4096]⟩

abbrev nBuf : Space → Nat
  | .hbm => 127
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S1x4096, .f32⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S3x4096, .f32⟩
  | .hbm, ⟨8, _⟩ => ⟨S4099x4096, .f32⟩
  | .hbm, ⟨9, _⟩ => ⟨S_, .f32⟩
  | .hbm, ⟨10, _⟩ => ⟨S3x4096, .f32⟩
  | .hbm, ⟨11, _⟩ => ⟨S4096x4096, .f32⟩
  | .hbm, ⟨12, _⟩ => ⟨S1x4096, .f32⟩
  | .hbm, ⟨13, _⟩ => ⟨S4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S1x4096, .f32⟩
  | .hbm, ⟨22, _⟩ => ⟨S4096, .f32⟩
  | .hbm, ⟨23, _⟩ => ⟨S1x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S1x4096, .f32⟩
  | .hbm, ⟨36, _⟩ => ⟨S4096, .f32⟩
  | .hbm, ⟨37, _⟩ => ⟨S1x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096, .f32⟩
  | .hbm, ⟨63, _⟩ => ⟨S1x4096, .f32⟩
  | .hbm, ⟨64, _⟩ => ⟨S4096x4096, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S4096x4096, .f32⟩
  | .hbm, ⟨69, _⟩ => ⟨S4096x4096, .f32⟩
  | .hbm, ⟨70, _⟩ => ⟨S_, .f32⟩
  | .hbm, ⟨71, _⟩ => ⟨S4096, .f32⟩
  | .hbm, ⟨72, _⟩ => ⟨S1x4096, .f32⟩
  | .hbm, ⟨73, _⟩ => ⟨S_, .f32⟩
  | .hbm, ⟨74, _⟩ => ⟨S4x4096, .f32⟩
  | .hbm, ⟨75, _⟩ => ⟨S_, .f32⟩
  | .hbm, ⟨76, _⟩ => ⟨S4099x4096, .f32⟩
  | .hbm, ⟨77, _⟩ => ⟨S4096x4096, .f32⟩
  | .hbm, ⟨78, _⟩ => ⟨S_, .f32⟩
  | .hbm, ⟨79, _⟩ => ⟨S4096, .f32⟩
  | .hbm, ⟨80, _⟩ => ⟨S1x4096, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S4096, .f32⟩
  | .hbm, ⟨85, _⟩ => ⟨S1x4096, .f32⟩
  | .hbm, ⟨86, _⟩ => ⟨S_, .f32⟩
  | .hbm, ⟨87, _⟩ => ⟨S4x4096, .f32⟩
  | .hbm, ⟨88, _⟩ => ⟨S4x4096, .f32⟩
  | .hbm, ⟨89, _⟩ => ⟨S_, .f32⟩
  | .hbm, ⟨90, _⟩ => ⟨S4099x4096, .f32⟩
  | .hbm, ⟨91, _⟩ => ⟨S4099x4096, .f32⟩
  | .hbm, ⟨92, _⟩ => ⟨S4096x4096, .f32⟩
  | .hbm, ⟨93, _⟩ => ⟨S_, .f32⟩
  | .hbm, ⟨94, _⟩ => ⟨S4096, .f32⟩
  | .hbm, ⟨95, _⟩ => ⟨S1x4096, .f32⟩
  | .hbm, ⟨96, _⟩ => ⟨S4096x4096, .f32⟩
  | .hbm, ⟨97, _⟩ => ⟨S4096x4096, .f32⟩
  | .hbm, ⟨98, _⟩ => ⟨S_, .f32⟩
  | .hbm, ⟨99, _⟩ => ⟨S4096, .f32⟩
  | .hbm, ⟨100, _⟩ => ⟨S1x4096, .f32⟩
  | .hbm, ⟨101, _⟩ => ⟨S_, .f32⟩
  | .hbm, ⟨102, _⟩ => ⟨S4x4096, .f32⟩
  | .hbm, ⟨103, _⟩ => ⟨S4x4096, .f32⟩
  | .hbm, ⟨104, _⟩ => ⟨S_, .f32⟩
  | .hbm, ⟨105, _⟩ => ⟨S4099x4096, .f32⟩
  | .hbm, ⟨106, _⟩ => ⟨S4099x4096, .f32⟩
  | .hbm, ⟨107, _⟩ => ⟨S4096x4096, .f32⟩
  | .hbm, ⟨108, _⟩ => ⟨S_, .f32⟩
  | .hbm, ⟨109, _⟩ => ⟨S4096, .f32⟩
  | .hbm, ⟨110, _⟩ => ⟨S1x4096, .f32⟩
  | .hbm, ⟨111, _⟩ => ⟨S4096x4096, .f32⟩
  | .hbm, ⟨112, _⟩ => ⟨S4096x4096, .f32⟩
  | .hbm, ⟨113, _⟩ => ⟨S_, .f32⟩
  | .hbm, ⟨114, _⟩ => ⟨S4096, .f32⟩
  | .hbm, ⟨115, _⟩ => ⟨S1x4096, .f32⟩
  | .hbm, ⟨116, _⟩ => ⟨S_, .f32⟩
  | .hbm, ⟨117, _⟩ => ⟨S4x4096, .f32⟩
  | .hbm, ⟨118, _⟩ => ⟨S4x4096, .f32⟩
  | .hbm, ⟨119, _⟩ => ⟨S_, .f32⟩
  | .hbm, ⟨120, _⟩ => ⟨S4099x4096, .f32⟩
  | .hbm, ⟨121, _⟩ => ⟨S4099x4096, .f32⟩
  | .hbm, ⟨122, _⟩ => ⟨S3x4096, .f32⟩
  | .hbm, ⟨123, _⟩ => ⟨S4096x4096, .f32⟩
  | .hbm, ⟨124, _⟩ => ⟨S4096x2048, .f32⟩
  | .hbm, ⟨125, _⟩ => ⟨S4096x1024, .f32⟩
  | .hbm, ⟨126, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v34_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v34_1 : Ref sig .tc := ⟨.hbm, 54, rfl⟩
abbrev main_v34_0 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v36 : Ref sig .tc := ⟨.hbm, 60, rfl⟩
abbrev main_cst_2 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_3 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_4 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_cst_10 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_12 : Ref sig .tc := ⟨.hbm, 98, rfl⟩
abbrev main_v64 : Ref sig .tc := ⟨.hbm, 99, rfl⟩
abbrev main_v65 : Ref sig .tc := ⟨.hbm, 100, rfl⟩
abbrev main_cst_13 : Ref sig .tc := ⟨.hbm, 101, rfl⟩
abbrev main_v66 : Ref sig .tc := ⟨.hbm, 102, rfl⟩
abbrev main_v67 : Ref sig .tc := ⟨.hbm, 103, rfl⟩
abbrev main_cst_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_15 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_v78 : Ref sig .tc := ⟨.hbm, 118, rfl⟩
abbrev main_cst_18 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1 : Shape := ⟨1, ![1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S1x1, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Adam.lean ====
abbrev S1x704x1024 : Shape := ⟨3, ![1, 704, 1024]⟩
abbrev S704x1024 : Shape := ⟨2, ![704, 1024]⟩
abbrev S1x352x1024 : Shape := ⟨3, ![1, 352, 1024]⟩
abbrev S352x1024 : Shape := ⟨2, ![352, 1024]⟩

abbrev nBuf : Space → Nat
  | .hbm => 9
  | .vmem => 18
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S704x1024, .f32⟩
  | .hbm, ⟨4, _⟩ => ⟨S704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .hbm, ⟨8, _⟩ => ⟨S1x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | _, _ => ⟨S1x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamRefIdeal.lean ====
abbrev S1x704x1024 : Shape := ⟨3, ![1, 704, 1024]⟩
abbrev S704x1024 : Shape := ⟨2, ![704, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x704x1024, .f32⟩
  | .hbm, ⟨1, _⟩ => ⟨S1x704x1024, .f32⟩
  | .hbm, ⟨2, _⟩ => ⟨S1x704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S1x704x1024, .f32⟩
  | .hbm, ⟨7, _⟩ => ⟨S_, .f32⟩
  | .hbm, ⟨8, _⟩ => ⟨S1x704x1024, .f32⟩
  | .hbm, ⟨9, _⟩ => ⟨S1x704x1024, .f32⟩
  | .hbm, ⟨10, _⟩ => ⟨S_, .f32⟩
  | .hbm, ⟨11, _⟩ => ⟨S1x704x1024, .f32⟩
  | .hbm, ⟨12, _⟩ => ⟨S1x704x1024, .f32⟩
  | .hbm, ⟨13, _⟩ => ⟨S1x704x1024, .f32⟩
  | .hbm, ⟨14, _⟩ => ⟨S_, .f32⟩
  | .hbm, ⟨15, _⟩ => ⟨S1x704x1024, .f32⟩
  | .hbm, ⟨16, _⟩ => ⟨S1x704x1024, .f32⟩
  | .hbm, ⟨17, _⟩ => ⟨S1x704x1024, .f32⟩
  | .hbm, ⟨18, _⟩ => ⟨S_, .f32⟩
  | .hbm, ⟨19, _⟩ => ⟨S1x704x1024, .f32⟩
  | .hbm, ⟨20, _⟩ => ⟨S1x704x1024, .f32⟩
  | .hbm, ⟨21, _⟩ => ⟨S1x704x1024, .f32⟩
  | .hbm, ⟨22, _⟩ => ⟨S_, .f32⟩
  | .hbm, ⟨23, _⟩ => ⟨S1x704x1024, .f32⟩
  | .hbm, ⟨24, _⟩ => ⟨S1x704x1024, .f32⟩
  | .hbm, ⟨25, _⟩ => ⟨S_, .f32⟩
  | .hbm, ⟨26, _⟩ => ⟨S1x704x1024, .f32⟩
  | .hbm, ⟨27, _⟩ => ⟨S1x704x1024, .f32⟩
  | .hbm, ⟨28, _⟩ => ⟨S1x704x1024, .f32⟩
  | .hbm, ⟨29, _⟩ => ⟨S_, .f32⟩
  | .hbm, ⟨30, _⟩ => ⟨S1x704x1024, .f32⟩
  | .hbm, ⟨31, _⟩ => ⟨S1x704x1024, .f32⟩
  | .hbm, ⟨32, _⟩ => ⟨S1x704x1024, .f32⟩
  | .hbm, ⟨33, _⟩ => ⟨S_, .f32⟩
  | .hbm, ⟨34, _⟩ => ⟨S1x704x1024, .f32⟩
  | .hbm, ⟨35, _⟩ => ⟨S1x704x1024, .f32⟩
  | .hbm, ⟨36, _⟩ => ⟨S1x704x1024, .f32⟩
  | .hbm, ⟨37, _⟩ => ⟨S_, .f32⟩
  | .hbm, ⟨38, _⟩ => ⟨S1x704x1024, .f32⟩
  | .hbm, ⟨39, _⟩ => ⟨S1x704x1024, .f32⟩
  | _, _ => ⟨S1x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Ffn.Mat.lean ====
/-
  Matrices over the extended reals, as functions of a two-axis index, and the three products that the feed-forward
  block uses: rows by columns, rows by rows, and columns by columns.
-/
module

public import Idealize.ShloMosaic.Lib.Pointwise
public import Idealize.ShloMosaic.PureOps.Ideal

@[expose] public section

noncomputable section

namespace Ffn

open Idealize.ShloMosaic

/-- An `a × b` matrix of extended reals. -/
abbrev Mat (a b : ℕ) : Type := (⟨2, ![a, b]⟩ : Shape).Idx → EReal

variable {m k n : ℕ}

/-- The matrix with entries `f r s`. -/
def mk (f : Fin m → Fin n → EReal) : Mat m n := fun j => f (j 0) (j 1)

theorem mk_apply (f : Fin m → Fin n → EReal) (r : Fin m) (s : Fin n) : mk f (ix2 r s) = f r s := rfl

/-- `A · B`. -/
def nn (A : Mat m k) (B : Mat k n) : Mat m n := mk fun r s => ∑ q : Fin k, A (ix2 r q) * B (ix2 q s)
/-- `A · Bᵀ`. -/
def nt (A : Mat m k) (B : Mat n k) : Mat m n := mk fun r s => ∑ q : Fin k, A (ix2 r q) * B (ix2 s q)
/-- `Aᵀ · B`. -/
def tn (A : Mat k m) (B : Mat k n) : Mat m n := mk fun r s => ∑ q : Fin k, A (ix2 q r) * B (ix2 q s)
/-- `Aᵀ`. -/
def tr (A : Mat m n) : Mat n m := mk fun r s => A (ix2 s r)

/-! ## The pieces of the feed-forward block and of its gradient -/

/-- The number one half. -/
def half : EReal := Ideal.ofBits .f32 0x3F000000#32

/-- The shifted mean square of row `r`. -/
def msq (X : Mat m n) (r : Fin m) : EReal :=
  Ideal.div (∑ q : Fin n, X (ix2 r q) * X (ix2 r q)) (Ideal.ofBits .f32 0x44800000#32) + Ideal.ofBits .f32 0x358637BD#32
/-- The scale of row `r`: the reciprocal root of its shifted mean square. -/
def rs (X : Mat m n) (r : Fin m) : EReal := Ideal.rsqrt (msq X r)
/-- The normalised rows, times the gain. -/
def hn (X : Mat m n) (G : Mat 1 n) : Mat m n := mk fun r s => X (ix2 r s) * rs X r * G (ix2 0 s)
/-- The gated product `silu(A) · B`, entry by entry. -/
def hid (A B : Mat m n) : Mat m n := mk fun r s => A (ix2 r s) * Ideal.logistic (A (ix2 r s)) * B (ix2 r s)
/-- The cotangent of the hidden layer. -/
def dhid (D : Mat m k) (W : Mat n k) : Mat m n := mk fun r s => half * ∑ q : Fin k, D (ix2 r q) * W (ix2 s q)
/-- The cotangent of the gate, with the derivative of `silu` written as `σ + silu · (1 - σ)`. -/
def dgate (D : Mat m k) (W : Mat n k) (A B : Mat m n) : Mat m n := mk fun r s =>
  half * (∑ q : Fin k, D (ix2 r q) * W (ix2 s q)) * B (ix2 r s) * (Ideal.logistic (A (ix2 r s)) +
    A (ix2 r s) * Ideal.logistic (A (ix2 r s)) * (1 - Ideal.logistic (A (ix2 r s))))
/-- The cotangent of the up branch. -/
def dup (D : Mat m k) (W : Mat n k) (A : Mat m n) : Mat m n := mk fun r s =>
  half * (∑ q : Fin k, D (ix2 r q) * W (ix2 s q)) * (A (ix2 r s) * Ideal.logistic (A (ix2 r s)))
/-- Half of `Aᵀ · B`. -/
def htn (A : Mat k m) (B : Mat k n) : Mat m n := mk fun r s => half * ∑ q : Fin k, A (ix2 q r) * B (ix2 q s)
/-- `A · B + E`. -/
def nnAdd (A : Mat m k) (B : Mat k n) (E : Mat m n) : Mat m n := mk fun r s =>
  (∑ q : Fin k, A (ix2 r q) * B (ix2 q s)) + E (ix2 r s)
/-- The coefficient of `x` in row `r` of the gradient of the normalisation. -/
def coef (X H : Mat m n) (G : Mat 1 n) (r : Fin m) : EReal :=
  ∑ _u : Fin 1, Ideal.div ((∑ q : Fin n, X (ix2 r q) * (H (ix2 r q) * G (ix2 0 q))) *
    (Ideal.ofBits .f32 0xBF000000#32 * Ideal.div (rs X r) (msq X r))) (Ideal.ofBits .f32 0x44800000#32)
/-- The gradient of the block's input: the residual's cotangent plus that of the normalisation. -/
def dx (X H Y : Mat m n) (G : Mat 1 n) : Mat m n := mk fun r s =>
  Y (ix2 r s) + (H (ix2 r s) * G (ix2 0 s) * rs X r + X (ix2 r s) * coef X H G r + coef X H G r * X (ix2 r s))
/-- `X` plus half of `A · B`. -/
def resid (X : Mat m n) (A : Mat m k) (B : Mat k n) : Mat m n := mk fun r s => X (ix2 r s) + half * ∑ q : Fin k, A (ix2 r q) * B (ix2 q s)
/-- One row's term of the gradient of the gain. -/
def dgTerm (X H : Mat m n) (r : Fin m) (s : Fin n) : EReal := X (ix2 r s) * rs X r * H (ix2 r s)
/-- The gradient of the gain: the sum over all rows. -/
def dg (X H : Mat m n) : Mat 1 n := mk fun _ s => ∑ r : Fin m, dgTerm X H r s

end Ffn

end
-- ==== Proof.Ffn.Forward.lean ====
/- The forward calls of the feed-forward block: what each leaves in its result arrays. -/
module

public import proofs.«01_k».proof.Proof.Ffn.Mat
public import proofs.«01_k».proof.Proof.Gen.KernelIdeal.Frame.Region0
public import proofs.«01_k».proof.Proof.Gen.KernelIdeal.Frame.Region1
public import proofs.«01_k».proof.Proof.Gen.KernelIdeal.Frame.Region2
public import proofs.«01_k».proof.Proof.Gen.KernelIdeal.Frame.Region3
public import Idealize.ShloMosaic.Lib.Pipeline.ValueKit

@[expose] public section

set_option maxRecDepth 16384

noncomputable section

namespace Ffn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx0 : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- The normalised rows. -/
theorem norm_out (c : Dev nD) :
    (dat0 V c).arrAt 2 cfg0.N = hn (V c main_arg0 : Mat 4096 1024) (V c main_arg2 : Mat 1 1024) := by
  refine (dat0 V c).arrAt_eq_of_covers 2 _ (by decide +kernel) fun t hf y => ?_
  blk_simp
  rw [after0_2]
  frame_out
  pointwise [k0_pay1, hn, rs, msq, mk]
  blk_point [iblk0, idx0 t]

theorem idx1 : ∀ t : Fin cfg1.N, win1_0.index t = ![(grid1.coords t 1).val, 0]
    ∧ win1_1.index t = ![(grid1.coords t 0).val, 0]
    ∧ win1_2.index t = ![(grid1.coords t 1).val, (grid1.coords t 0).val] :=
  (by decide +kernel : ∀ t : Fin grid1.N, _)

/-- The gate product. -/
theorem gate_out (c : Dev nD) :
    (dat1 V c).arrAt 2 cfg1.N = nt (V c main_v5 : Mat 4096 1024) (V c main_v1 : Mat 2816 1024) := by
  refine (dat1 V c).arrAt_eq_of_covers 2 _ (by decide +kernel) fun t hf y => ?_
  blk_simp
  rw [after1_2]
  frame_out
  pointwise [k1_pay1, nt, mk]
  blk_point [iblk1, idx1 t]

theorem idx2 : ∀ t : Fin cfg2.N, win2_0.index t = ![(grid2.coords t 1).val, 0]
    ∧ win2_1.index t = ![(grid2.coords t 0).val, 0]
    ∧ win2_2.index t = ![(grid2.coords t 1).val, (grid2.coords t 0).val]
    ∧ win2_3.index t = ![(grid2.coords t 1).val, (grid2.coords t 0).val]
    ∧ win2_4.index t = ![(grid2.coords t 1).val, (grid2.coords t 0).val] :=
  (by decide +kernel : ∀ t : Fin grid2.N, _)

/-- The up product. -/
theorem up_out (c : Dev nD) :
    (dat2 V c).arrAt 3 cfg2.N = nt (V c main_v5 : Mat 4096 1024) (V c main_v3 : Mat 2816 1024) := by
  refine (dat2 V c).arrAt_eq_of_covers 3 _ (by decide +kernel) fun t hf y => ?_
  blk_simp
  rw [after2_3]
  frame_out
  pointwise [k2_pay2, k2_pay1, nt, mk]
  blk_point [iblk2, idx2 t]

/-- The hidden layer. -/
theorem hid_out (c : Dev nD) :
    (dat2 V c).arrAt 4 cfg2.N = hid (V c main_v6 : Mat 4096 2816) (nt (V c main_v5 : Mat 4096 1024) (V c main_v3 : Mat 2816 1024)) := by
  refine (dat2 V c).arrAt_eq_of_covers 4 _ (by decide +kernel) fun t hf y => ?_
  blk_simp
  rw [after2_4]
  frame_out
  pointwise [k2_pay3, k2_pay1, nt, hid, mk]
  blk_point [iblk2, idx2 t]

theorem idx3 : ∀ t : Fin cfg3.N, win3_0.index t = ![(grid3.coords t 0).val, 0]
    ∧ win3_1.index t = ![0, (grid3.coords t 1).val]
    ∧ win3_2.index t = ![(grid3.coords t 0).val, (grid3.coords t 1).val]
    ∧ win3_3.index t = ![(grid3.coords t 0).val, (grid3.coords t 1).val] :=
  (by decide +kernel : ∀ t : Fin grid3.N, _)

/-- The block's output. -/
theorem down_out (c : Dev nD) : (dat3 V c).arrAt 3 cfg3.N
    = resid (V c main_arg0 : Mat 4096 1024) (V c main_v7_1 : Mat 4096 2816) (V c main_v4 : Mat 2816 1024) := by
  refine (dat3 V c).arrAt_eq_of_covers 3 _ (by decide +kernel) fun t hf y => ?_
  blk_simp
  rw [after3_3]
  frame_out
  pointwise [k3_pay1, resid, half, mk]
  blk_point [iblk3, idx3 t]

end Ffn

end
-- ==== Proof.Ffn.Hidden.lean ====
/- The cotangents of the two branches of the hidden layer: what the call leaves in its result arrays. -/
module

public import proofs.«01_k».proof.Proof.Ffn.Mat
public import proofs.«01_k».proof.Proof.Gen.KernelIdeal.Frame.Region4
public import Idealize.ShloMosaic.Lib.Pipeline.ValueKit

@[expose] public section

set_option maxRecDepth 16384

noncomputable section

namespace Ffn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx4 : ∀ t : Fin cfg4.N, win4_0.index t = ![(grid4.coords t 1).val, 0]
    ∧ win4_1.index t = ![(grid4.coords t 0).val, 0]
    ∧ win4_2.index t = ![(grid4.coords t 1).val, (grid4.coords t 0).val]
    ∧ win4_3.index t = ![(grid4.coords t 1).val, (grid4.coords t 0).val]
    ∧ win4_4.index t = ![(grid4.coords t 1).val, (grid4.coords t 0).val]
    ∧ win4_5.index t = ![(grid4.coords t 1).val, (grid4.coords t 0).val] :=
  (by decide +kernel : ∀ t : Fin grid4.N, _)

/-- The cotangent of the gate. -/
theorem dgate_out (c : Dev nD) :
    (dat4 V c).arrAt 4 cfg4.N = dgate (V c main_v9 : Mat 4096 1024) (V c main_v4 : Mat 2816 1024) (V c main_v6 : Mat 4096 2816) (V c main_v7_0 : Mat 4096 2816) := by
  refine (dat4 V c).arrAt_eq_of_covers 4 _ (by decide +kernel) fun t hf y => ?_
  blk_simp
  rw [after4_4]
  frame_out
  pointwise [k4_pay5, k4_pay4, k4_pay3, k4_pay2, k4_pay1, dgate, half, mk]
  blk_point [iblk4, idx4 t]

/-- The cotangent of the up branch. -/
theorem dup_out (c : Dev nD) :
    (dat4 V c).arrAt 5 cfg4.N = dup (V c main_v9 : Mat 4096 1024) (V c main_v4 : Mat 2816 1024) (V c main_v6 : Mat 4096 2816) := by
  refine (dat4 V c).arrAt_eq_of_covers 5 _ (by decide +kernel) fun t hf y => ?_
  blk_simp
  rw [after4_5]
  frame_out
  pointwise [k4_pay6, k4_pay4, k4_pay3, k4_pay2, k4_pay1, dup, half, mk]
  blk_point [iblk4, idx4 t]

end Ffn

end
-- ==== Proof.Ffn.Weights.lean ====
/- The gradients of the three weights: what each call leaves in its result array. -/
module

public import proofs.«01_k».proof.Proof.Ffn.Mat
public import proofs.«01_k».proof.Proof.Gen.KernelIdeal.Frame.Region5
public import proofs.«01_k».proof.Proof.Gen.KernelIdeal.Frame.Region6
public import proofs.«01_k».proof.Proof.Gen.KernelIdeal.Frame.Region7
public import Idealize.ShloMosaic.Lib.Pipeline.ValueKit

@[expose] public section

set_option maxRecDepth 16384

noncomputable section

namespace Ffn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx5 : ∀ t : Fin cfg5.N, win5_0.index t = ![0, (grid5.coords t 1).val]
    ∧ win5_1.index t = ![0, (grid5.coords t 0).val]
    ∧ win5_2.index t = ![(grid5.coords t 1).val, (grid5.coords t 0).val] :=
  (by decide +kernel : ∀ t : Fin grid5.N, _)

/-- The gradient of the down weight. -/
theorem dwd_out (c : Dev nD) :
    (dat5 V c).arrAt 2 cfg5.N = htn (V c main_v7_1 : Mat 4096 2816) (V c main_v9 : Mat 4096 1024) := by
  refine (dat5 V c).arrAt_eq_of_covers 2 _ (by decide +kernel) fun t hf y => ?_
  blk_simp
  rw [after5_2]
  frame_out
  pointwise [k5_pay1, htn, half, mk]
  blk_point [iblk5, idx5 t]

theorem idx6 : ∀ t : Fin cfg6.N, win6_0.index t = ![0, (grid6.coords t 1).val]
    ∧ win6_1.index t = ![0, (grid6.coords t 0).val]
    ∧ win6_2.index t = ![(grid6.coords t 1).val, (grid6.coords t 0).val] :=
  (by decide +kernel : ∀ t : Fin grid6.N, _)

/-- The gradient of the gate weight, transposed. -/
theorem dwg_out (c : Dev nD) :
    (dat6 V c).arrAt 2 cfg6.N = tn (V c main_v10_0 : Mat 4096 2816) (V c main_v5 : Mat 4096 1024) := by
  refine (dat6 V c).arrAt_eq_of_covers 2 _ (by decide +kernel) fun t hf y => ?_
  blk_simp
  rw [after6_2]
  frame_out
  pointwise [k6_pay1, tn, mk]
  blk_point [iblk6, idx6 t]

theorem idx7 : ∀ t : Fin cfg7.N, win7_0.index t = ![0, (grid7.coords t 1).val]
    ∧ win7_1.index t = ![0, (grid7.coords t 0).val]
    ∧ win7_2.index t = ![(grid7.coords t 1).val, (grid7.coords t 0).val] :=
  (by decide +kernel : ∀ t : Fin grid7.N, _)

/-- The gradient of the up weight, transposed. -/
theorem dwu_out (c : Dev nD) :
    (dat7 V c).arrAt 2 cfg7.N = tn (V c main_v10_1 : Mat 4096 2816) (V c main_v5 : Mat 4096 1024) := by
  refine (dat7 V c).arrAt_eq_of_covers 2 _ (by decide +kernel) fun t hf y => ?_
  blk_simp
  rw [after7_2]
  frame_out
  pointwise [k7_pay1, tn, mk]
  blk_point [iblk7, idx7 t]

end Ffn

end
-- ==== Proof.Ffn.Input.lean ====
/- The cotangent of the normalised rows: what each of its two calls leaves in its result array. -/
module

public import proofs.«01_k».proof.Proof.Ffn.Mat
public import proofs.«01_k».proof.Proof.Gen.KernelIdeal.Frame.Region8
public import proofs.«01_k».proof.Proof.Gen.KernelIdeal.Frame.Region9
public import Idealize.ShloMosaic.Lib.Pipeline.ValueKit

@[expose] public section

set_option maxRecDepth 16384

noncomputable section

namespace Ffn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx8 : ∀ t : Fin cfg8.N, win8_0.index t = ![(grid8.coords t 1).val, 0]
    ∧ win8_1.index t = ![0, (grid8.coords t 0).val]
    ∧ win8_2.index t = ![(grid8.coords t 1).val, (grid8.coords t 0).val] :=
  (by decide +kernel : ∀ t : Fin grid8.N, _)

/-- The part that comes through the gate. -/
theorem dhn1_out (c : Dev nD) :
    (dat8 V c).arrAt 2 cfg8.N = nn (V c main_v10_0 : Mat 4096 2816) (V c main_v1 : Mat 2816 1024) := by
  refine (dat8 V c).arrAt_eq_of_covers 2 _ (by decide +kernel) fun t hf y => ?_
  blk_simp
  rw [after8_2]
  frame_out
  pointwise [k8_pay1, nn, mk]
  blk_point [iblk8, idx8 t]

theorem idx9 : ∀ t : Fin cfg9.N, win9_0.index t = ![(grid9.coords t 0).val, 0]
    ∧ win9_1.index t = ![0, (grid9.coords t 1).val]
    ∧ win9_2.index t = ![(grid9.coords t 0).val, (grid9.coords t 1).val]
    ∧ win9_3.index t = ![(grid9.coords t 0).val, (grid9.coords t 1).val] :=
  (by decide +kernel : ∀ t : Fin grid9.N, _)

/-- Both parts. -/
theorem dhn2_out (c : Dev nD) :
    (dat9 V c).arrAt 3 cfg9.N = nnAdd (V c main_v10_1 : Mat 4096 2816) (V c main_v3 : Mat 2816 1024) (V c main_v14 : Mat 4096 1024) := by
  refine (dat9 V c).arrAt_eq_of_covers 3 _ (by decide +kernel) fun t hf y => ?_
  blk_simp
  rw [after9_3]
  frame_out
  pointwise [k9_pay1, nnAdd, mk]
  blk_point [iblk9, idx9 t]

end Ffn

end
-- ==== Proof.Ffn.Norm.lean ====
/- The gradient of the normalisation: what the last call leaves in the two result arrays that are returned. -/
module

public import proofs.«01_k».proof.Proof.Ffn.Mat
public import proofs.«01_k».proof.Proof.Gen.KernelIdeal.Frame.Region10
public import Idealize.ShloMosaic.Lib.Pipeline.ValueKit

@[expose] public section

set_option maxRecDepth 16384

noncomputable section

namespace Ffn

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

theorem idx10 : ∀ t : Fin cfg10.N, win10_0.index t = ![t.val, 0] ∧ win10_1.index t = ![t.val, 0]
    ∧ win10_2.index t = ![t.val, 0] ∧ win10_3.index t = ![0, 0] ∧ win10_4.index t = ![t.val, 0]
    ∧ win10_6.index t = ![0, 0] :=
  (by decide +kernel : ∀ t : Fin grid10.N, _)

/-- The first result at a grid point, first or later: the same expression of the point's input blocks. -/
theorem out10_4 (c : Dev nD) (t : Fin cfg10.N) :
    (outsAt10 V c t.val t.isLt).1 = k10_pay9 (iblk10 V c 0 t) (iblk10 V c 1 t) (iblk10 V c 2 t) (iblk10 V c 3 t) := by
  by_cases h : t.val % 8 = 0
  · rw [outsAt10_A V c t h]; frame_out
  · rw [outsAt10_B V c t h]; frame_out

/-- The gradient of the block's input. -/
theorem dx_out (c : Dev nD) :
    (dat10 V c).arrAt 4 cfg10.N
      = dx (V c main_arg0 : Mat 4096 1024) (V c main_v15 : Mat 4096 1024) (V c main_arg1 : Mat 4096 1024) (V c main_arg2 : Mat 1 1024) := by
  refine (dat10 V c).arrAt_eq_of_covers 4 _ (by decide +kernel) fun t hf y => ?_
  blk_simp
  rw [after10_4, out10_4]
  pointwise [k10_pay9, k10_pay8, k10_pay6, k10_pay5, k10_pay4, dx, coef, rs, msq, mk]
  blk_point [iblk10, idx10 t]

theorem pay7_apply (x h : Vec Ideal S512x1024 .f32) (v : Vec Ideal S1x1024 .f32) (y : S1x1024.Idx) :
    k10_pay3 (k10_pay7 x h) v y = v y + ∑ r : Fin 512, dgTerm (x : Mat 512 1024) (h : Mat 512 1024) r (y 1) := by
  pointwise [k10_pay7, k10_pay3, k10_pay6, k10_pay5, k10_pay4, dgTerm, rs, msq, mk]

theorem pay2_apply (y : S1x1024.Idx) : k10_pay2 (F := Ideal) y = 0 := by
  pointwise [k10_pay2]

/-- The gradient of the gain: each grid point adds its 512 rows. -/
theorem dg_out (c : Dev nD) :
    (dat10 V c).arrAt 6 cfg10.N = dg (V c main_arg0 : Mat 4096 1024) (V c main_v15 : Mat 4096 1024) := by
  refine (dat10 V c).arrAt_eq_of_covers 6 _ (by decide +kernel) fun t hf y => ?_
  have ht : t.val + 1 = cfg10.N := by
    have := (flush10_6 t).mp hf
    have := t.isLt
    have hN : cfg10.N = 8 := by decide
    omega
  blk_simp
  rw [after10_6, Pipeline.eq_sum_fin_of_reset_step_apply_last (fun n h => (outsAt10 V c n h).2.2) 8 (fun _ => 0) _
    (fun t h j => by rw [outsAt10_A V c t h]; frame_out; rw [pay7_apply, pay2_apply])
    (fun t h j => by rw [outsAt10_B V c t h]; frame_out; rw [pay7_apply])
    (by decide) t ht y, zero_add]
  pointwise [dg, dgTerm, rs, msq, mk]
  refine Fin.sum_mul_add_congr fun p k hl => ?_
  blk_point [iblk10, idx10 p, idx10 t]

end Ffn

end
-- ==== Proof.Ffn.Fold.lean ====
/-
  What each array holds when the call that reads it is entered, as an expression of the arguments: the calls' result
  arrays, carried over the calls in between, which do not write them.
-/
module

public import proofs.«01_k».proof.Proof.Ffn.Forward
public import proofs.«01_k».proof.Proof.Ffn.Hidden
public import proofs.«01_k».proof.Proof.Ffn.Weights
public import proofs.«01_k».proof.Proof.Ffn.Input
public import proofs.«01_k».proof.Proof.Ffn.Norm
public import proofs.«01_k».proof.Proof.Gen.KernelIdeal.Frame.Fold0
public import Idealize.ShloMosaic.Lib.StableHlo.ReadAt

@[expose] public section

set_option maxRecDepth 16384

noncomputable section

namespace Ffn

open Idealize.ShloMosaic Idealize.ShloMosaic.TcCoe Idealize.SL.Sem
open Cert.KernelIdeal Cert.KernelIdeal.Gen

/-! ## The kernel's arrays, as expressions of the six arguments -/

section
variable {t d f : ℕ} (X Y : Mat t d) (G : Mat 1 d) (Wg Wu : Mat d f) (Wd : Mat f d)

def kA : Mat t f := nt (hn X G) (tr Wg)
def kHid : Mat t f := hid (kA X G Wg) (kA X G Wu)
def kY : Mat t d := resid X (kHid X G Wg Wu) Wd
def kDA : Mat t f := dgate Y Wd (kA X G Wg) (kA X G Wu)
def kDB : Mat t f := dup Y Wd (kA X G Wg)
def kDwd : Mat f d := htn (kHid X G Wg Wu) Y
def kDwg : Mat f d := tn (kDA X Y G Wg Wu Wd) (hn X G)
def kDwu : Mat f d := tn (kDB X Y G Wg Wd) (hn X G)
def kDhn1 : Mat t d := nn (kDA X Y G Wg Wu Wd) (tr Wg)
def kDhn : Mat t d := nnAdd (kDB X Y G Wg Wd) (tr Wu) (kDhn1 X Y G Wg Wu Wd)
def kDx : Mat t d := dx X (kDhn X Y G Wg Wu Wd) Y G
def kDg : Mat 1 d := dg X (kDhn X Y G Wg Wu Wd)

end

variable (m : (p : Loc nD τ sig) → Buf (Elt Ideal) p) (ρ : Dev nD → PrngReg) (c : Dev nD)

/-! ## The six arguments -/

def aX : Mat 4096 1024 := m ((c : Thread nD τ).loc main_arg0)
def aY : Mat 4096 1024 := m ((c : Thread nD τ).loc main_arg1)
def aG : Mat 1 1024 := m ((c : Thread nD τ).loc main_arg2)
def aWg : Mat 1024 2816 := m ((c : Thread nD τ).loc main_arg3)
def aWu : Mat 1024 2816 := m ((c : Thread nD τ).loc main_arg4)
def aWd : Mat 2816 1024 := m ((c : Thread nD τ).loc main_arg5)

/-! ## Host operations: the weights transposed and cast, the cotangent cast -/

theorem v1_at : W1 m ρ c main_v1 = (tr (aWg m c) : Mat 2816 1024) := by
  funext j
  after_reads_at
  rfl
theorem v3_at : W1 m ρ c main_v3 = (tr (aWu m c) : Mat 2816 1024) := by
  funext j
  after_reads_at
  rfl
theorem v4_at : W1 m ρ c main_v4 = (aWd m c : Mat 2816 1024) := by
  funext j
  after_reads_at
  rfl

/-! ## The forward calls -/

theorem v5_at : W2 m ρ c main_v5 = (hn (aX m c) (aG m c) : Mat 4096 1024) := by
  refine ((W2_arr m ρ c 2).trans (norm_out _ c)).trans ?_
  show hn (W1 m ρ c main_arg0) (W1 m ρ c main_arg2) = _
  rw [W1_args m ρ c main_arg0 (by decide), W1_args m ρ c main_arg2 (by decide)]
  rfl

theorem v6_at : W3 m ρ c main_v6 = (kA (aX m c) (aG m c) (aWg m c) : Mat 4096 2816) := by
  refine ((W3_arr m ρ c 2).trans (gate_out _ c)).trans ?_
  show nt (W2 m ρ c main_v5) (W2 m ρ c main_v1) = _
  rw [W2_of m ρ c main_v1 (by decide), v1_at m ρ c, v5_at m ρ c]
  rfl

theorem v7_0_at : W4 m ρ c main_v7_0 = (kA (aX m c) (aG m c) (aWu m c) : Mat 4096 2816) := by
  refine ((W4_arr m ρ c 3).trans (up_out _ c)).trans ?_
  show nt (W3 m ρ c main_v5) (W3 m ρ c main_v3) = _
  rw [W3_of m ρ c main_v3 (by decide), W2_of m ρ c main_v3 (by decide), v3_at m ρ c, W3_of m ρ c main_v5 (by decide),
    v5_at m ρ c]
  rfl

theorem v7_1_at : W4 m ρ c main_v7_1 = (kHid (aX m c) (aG m c) (aWg m c) (aWu m c) : Mat 4096 2816) := by
  refine ((W4_arr m ρ c 4).trans (hid_out _ c)).trans ?_
  show hid (W3 m ρ c main_v6) (nt (W3 m ρ c main_v5) (W3 m ρ c main_v3)) = _
  rw [W3_of m ρ c main_v3 (by decide), W2_of m ρ c main_v3 (by decide), v3_at m ρ c, W3_of m ρ c main_v5 (by decide),
    v5_at m ρ c, v6_at m ρ c]
  rfl

theorem v8_at : W5 m ρ c main_v8 = (kY (aX m c) (aG m c) (aWg m c) (aWu m c) (aWd m c) : Mat 4096 1024) := by
  refine ((W5_arr m ρ c 3).trans (down_out _ c)).trans ?_
  show resid (W4 m ρ c main_arg0) (W4 m ρ c main_v7_1) (W4 m ρ c main_v4) = _
  rw [W4_args m ρ c main_arg0 (by decide), v7_1_at m ρ c, W4_of m ρ c main_v4 (by decide), W3_of m ρ c main_v4 (by decide),
    W2_of m ρ c main_v4 (by decide), v4_at m ρ c]
  rfl

/-! ## The backward calls -/

theorem v9_at : W6 m ρ c main_v9 = (aY m c : Mat 4096 1024) := by
  have h : W6 m ρ c main_v9 = (W5 m ρ c main_arg1 : Mat 4096 1024) := by
    funext j
    after_reads_at
  rw [h, W5_args m ρ c main_arg1 (by decide)]
  rfl

theorem v10_0_at : W7 m ρ c main_v10_0 = (kDA (aX m c) (aY m c) (aG m c) (aWg m c) (aWu m c) (aWd m c) : Mat 4096 2816) := by
  refine ((W7_arr m ρ c 4).trans (dgate_out _ c)).trans ?_
  show dgate (W6 m ρ c main_v9) (W6 m ρ c main_v4) (W6 m ρ c main_v6) (W6 m ρ c main_v7_0) = _
  rw [v9_at m ρ c, W6_of m ρ c main_v4 (by decide), W5_of m ρ c main_v4 (by decide), W4_of m ρ c main_v4 (by decide),
    W3_of m ρ c main_v4 (by decide), W2_of m ρ c main_v4 (by decide), v4_at m ρ c, W6_of m ρ c main_v6 (by decide),
    W5_of m ρ c main_v6 (by decide), W4_of m ρ c main_v6 (by decide), v6_at m ρ c, W6_of m ρ c main_v7_0 (by decide),
    W5_of m ρ c main_v7_0 (by decide), v7_0_at m ρ c]
  rfl

theorem v10_1_at : W7 m ρ c main_v10_1 = (kDB (aX m c) (aY m c) (aG m c) (aWg m c) (aWd m c) : Mat 4096 2816) := by
  refine ((W7_arr m ρ c 5).trans (dup_out _ c)).trans ?_
  show dup (W6 m ρ c main_v9) (W6 m ρ c main_v4) (W6 m ρ c main_v6) = _
  rw [v9_at m ρ c, W6_of m ρ c main_v4 (by decide), W5_of m ρ c main_v4 (by decide), W4_of m ρ c main_v4 (by decide),
    W3_of m ρ c main_v4 (by decide), W2_of m ρ c main_v4 (by decide), v4_at m ρ c, W6_of m ρ c main_v6 (by decide),
    W5_of m ρ c main_v6 (by decide), W4_of m ρ c main_v6 (by decide), v6_at m ρ c]
  rfl

theorem v11_at : W8 m ρ c main_v11 = (kDwd (aX m c) (aY m c) (aG m c) (aWg m c) (aWu m c) : Mat 2816 1024) := by
  refine ((W8_arr m ρ c 2).trans (dwd_out _ c)).trans ?_
  show htn (W7 m ρ c main_v7_1) (W7 m ρ c main_v9) = _
  rw [W7_of m ρ c main_v7_1 (by decide), W6_of m ρ c main_v7_1 (by decide), W5_of m ρ c main_v7_1 (by decide), v7_1_at m ρ c,
    W7_of m ρ c main_v9 (by decide), v9_at m ρ c]
  rfl

theorem v12_at : W9 m ρ c main_v12 = (kDwg (aX m c) (aY m c) (aG m c) (aWg m c) (aWu m c) (aWd m c) : Mat 2816 1024) := by
  refine ((W9_arr m ρ c 2).trans (dwg_out _ c)).trans ?_
  show tn (W8 m ρ c main_v10_0) (W8 m ρ c main_v5) = _
  rw [W8_of m ρ c main_v10_0 (by decide), v10_0_at m ρ c, W8_of m ρ c main_v5 (by decide), W7_of m ρ c main_v5 (by decide),
    W6_of m ρ c main_v5 (by decide), W5_of m ρ c main_v5 (by decide), W4_of m ρ c main_v5 (by decide), W3_of m ρ c main_v5 (by decide),
    v5_at m ρ c]
  rfl

theorem v13_at : W10 m ρ c main_v13 = (kDwu (aX m c) (aY m c) (aG m c) (aWg m c) (aWd m c) : Mat 2816 1024) := by
  refine ((W10_arr m ρ c 2).trans (dwu_out _ c)).trans ?_
  show tn (W9 m ρ c main_v10_1) (W9 m ρ c main_v5) = _
  rw [W9_of m ρ c main_v10_1 (by decide), W8_of m ρ c main_v10_1 (by decide), v10_1_at m ρ c, W9_of m ρ c main_v5 (by decide),
    W8_of m ρ c main_v5 (by decide), W7_of m ρ c main_v5 (by decide), W6_of m ρ c main_v5 (by decide), W5_of m ρ c main_v5 (by decide),
    W4_of m ρ c main_v5 (by decide), W3_of m ρ c main_v5 (by decide), v5_at m ρ c]
  rfl

theorem v14_at : W11 m ρ c main_v14 = (kDhn1 (aX m c) (aY m c) (aG m c) (aWg m c) (aWu m c) (aWd m c) : Mat 4096 1024) := by
  refine ((W11_arr m ρ c 2).trans (dhn1_out _ c)).trans ?_
  show nn (W10 m ρ c main_v10_0) (W10 m ρ c main_v1) = _
  rw [W10_of m ρ c main_v10_0 (by decide), W9_of m ρ c main_v10_0 (by decide), W8_of m ρ c main_v10_0 (by decide), v10_0_at m ρ c,
    W10_of m ρ c main_v1 (by decide), W9_of m ρ c main_v1 (by decide), W8_of m ρ c main_v1 (by decide), W7_of m ρ c main_v1 (by decide),
    W6_of m ρ c main_v1 (by decide), W5_of m ρ c main_v1 (by decide), W4_of m ρ c main_v1 (by decide), W3_of m ρ c main_v1 (by decide),
    W2_of m ρ c main_v1 (by decide), v1_at m ρ c]
  rfl

theorem v15_at : W12 m ρ c main_v15 = (kDhn (aX m c) (aY m c) (aG m c) (aWg m c) (aWu m c) (aWd m c) : Mat 4096 1024) := by
  refine ((W12_arr m ρ c 3).trans (dhn2_out _ c)).trans ?_
  show nnAdd (W11 m ρ c main_v10_1) (W11 m ρ c main_v3) (W11 m ρ c main_v14) = _
  rw [W11_of m ρ c main_v10_1 (by decide), W10_of m ρ c main_v10_1 (by decide), W9_of m ρ c main_v10_1 (by decide), W8_of m ρ c main_v10_1 (by decide),
    v10_1_at m ρ c, W11_of m ρ c main_v3 (by decide), W10_of m ρ c main_v3 (by decide), W9_of m ρ c main_v3 (by decide),
    W8_of m ρ c main_v3 (by decide), W7_of m ρ c main_v3 (by decide), W6_of m ρ c main_v3 (by decide), W5_of m ρ c main_v3 (by decide),
    W4_of m ρ c main_v3 (by decide), W3_of m ρ c main_v3 (by decide), W2_of m ρ c main_v3 (by decide), v3_at m ρ c,
    v14_at m ρ c]
  rfl

theorem v16_0_at : W13 m ρ c main_v16_0 = (kDx (aX m c) (aY m c) (aG m c) (aWg m c) (aWu m c) (aWd m c) : Mat 4096 1024) := by
  refine ((W13_arr m ρ c 4).trans (dx_out _ c)).trans ?_
  show dx (W12 m ρ c main_arg0) (W12 m ρ c main_v15) (W12 m ρ c main_arg1) (W12 m ρ c main_arg2) = _
  rw [W12_args m ρ c main_arg0 (by decide), W12_args m ρ c main_arg1 (by decide), W12_args m ρ c main_arg2 (by decide), v15_at m ρ c]
  rfl

theorem v16_2_at : W13 m ρ c main_v16_2 = (kDg (aX m c) (aY m c) (aG m c) (aWg m c) (aWu m c) (aWd m c) : Mat 1 1024) := by
  refine ((W13_arr m ρ c 6).trans (dg_out _ c)).trans ?_
  show dg (W12 m ρ c main_arg0) (W12 m ρ c main_v15) = _
  rw [W12_args m ρ c main_arg0 (by decide), v15_at m ρ c]
  rfl

/-! ## The six results at the end -/

theorem end_dx : W14 m ρ c main_v16_0 = (kDx (aX m c) (aY m c) (aG m c) (aWg m c) (aWu m c) (aWd m c) : Mat 4096 1024) := by
  rw [W14_of m ρ c main_v16_0 (by decide), v16_0_at]

theorem end_dg : W14 m ρ c main_v16_2 = (kDg (aX m c) (aY m c) (aG m c) (aWg m c) (aWu m c) (aWd m c) : Mat 1 1024) := by
  rw [W14_of m ρ c main_v16_2 (by decide), v16_2_at]

theorem end_dwd : W14 m ρ c main_v11
    = (kDwd (aX m c) (aY m c) (aG m c) (aWg m c) (aWu m c) : Mat 2816 1024) := by
  rw [W14_of m ρ c main_v11 (by decide), W13_of m ρ c main_v11 (by decide), W12_of m ρ c main_v11 (by decide),
    W11_of m ρ c main_v11 (by decide), W10_of m ρ c main_v11 (by decide), W9_of m ρ c main_v11 (by decide), v11_at]

theorem end_dwg : W14 m ρ c main_v17 = (tr (kDwg (aX m c) (aY m c) (aG m c) (aWg m c) (aWu m c) (aWd m c)) : Mat 1024 2816) := by
  have h : W14 m ρ c main_v17 = (tr (W13 m ρ c main_v12 : Mat 2816 1024) : Mat 1024 2816) := by
    funext j
    after_reads_at
    rfl
  rw [h, W13_of m ρ c main_v12 (by decide), W12_of m ρ c main_v12 (by decide),
    W11_of m ρ c main_v12 (by decide), W10_of m ρ c main_v12 (by decide), v12_at]

theorem end_dwu : W14 m ρ c main_v18
    = (tr (kDwu (aX m c) (aY m c) (aG m c) (aWg m c) (aWd m c)) : Mat 1024 2816) := by
  have h : W14 m ρ c main_v18 = (tr (W13 m ρ c main_v13 : Mat 2816 1024) : Mat 1024 2816) := by
    funext j
    after_reads_at
    rfl
  rw [h, W13_of m ρ c main_v13 (by decide), W12_of m ρ c main_v13 (by decide), W11_of m ρ c main_v13 (by decide), v13_at]

theorem end_y : W14 m ρ c main_v8 = (kY (aX m c) (aG m c) (aWg m c) (aWu m c) (aWd m c) : Mat 4096 1024) := by
  rw [W14_of m ρ c main_v8 (by decide), W13_of m ρ c main_v8 (by decide), W12_of m ρ c main_v8 (by decide),
    W11_of m ρ c main_v8 (by decide), W10_of m ρ c main_v8 (by decide), W9_of m ρ c main_v8 (by decide),
    W8_of m ρ c main_v8 (by decide), W7_of m ρ c main_v8 (by decide), W6_of m ρ c main_v8 (by decide), v8_at]

end Ffn

end
-- ==== Proof.Ffn.Run.lean ====
/-
  The run of the kernel, with everything it leaves: at the end of every execution each unscoped buffer holds what the
  fold over the program's segments says, and every counter is at zero.
-/
module

public import proofs.«01_k».proof.Proof.Gen.KernelIdeal.Frame
public import Idealize.ShloMosaic.PureOps.Ideal

@[expose] public section

set_option maxRecDepth 16384

noncomputable section

namespace Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (p : Loc nD τ sig) → Buf (Elt Ideal) p) (ρ : Dev nD → PrngReg)

local notation "𝕄" => MT nD τ sig Unit (Elt Ideal) ℕ (UR sig nD τ) ℕ

set_option backward.isDefEq.respectTransparency.types false in
/-- Every execution ends with the buffers at the last boundary's contents. -/
theorem run : θ_run defs (onTc (τ := τ) (main (F := Ideal))) ⟨m, fun _ => 0, ρ⟩ (fun r =>
    (∀ c : Dev nD, ∀ b ∈ Pipeline.ucRefs τ sig, r.2.mem (((c : Thread nD τ)).1, b) = W14 m ρ c b)
      ∧ r.2.sem = fun _ => 0) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W14 m ρ c b)
    ?own ?chain ?start ?read ?done
  case own =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  case chain =>
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case start =>
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case read =>
    intro c s'
    iintro ⟨⟨Hh, -⟩, HSI⟩
    unfold StableHlo.held
    imodintro
    iapply (pointsTo_read_all (Pipeline.ucRefs τ sig) (fun b => (((c : Thread nD τ)).1, b)) (W14 m ρ c) s')
    isplitl [Hh] <;> iassumption
  case done => exact fun s h hz => ⟨h, funext fun g => hz g (.inr (no_unscoped g.2))⟩

end Ffn

end
-- ==== Proof.Ffn.Algebra.lean ====
/-
  The arithmetic of the extended reals that the two programs differ by.

  The reference scales the cotangent by one half before its product and the kernel after it; a finite nonnegative
  factor moves through any sum of extended reals. The reference forms the derivative of `silu` as a sum of two
  products and the kernel as a product with a sum; that needs the two factors to be real numbers, and here they are:
  a normalised row is real whatever the input (the scale of a row with an infinite entry is zero), and so are its
  products with real weights.
-/
module

public import proofs.«01_k».proof.Proof.Ffn.Mat
public import Idealize.ShloMosaic.PureOps.Ideal.Laws
public import Idealize.ShloMosaic.Lib.IdealHost

@[expose] public section

noncomputable section

namespace Ffn

open Idealize.ShloMosaic

/-- `x` is a real number. -/
def IsReal (x : EReal) : Prop := ∃ r : ℝ, x = (r : EReal)

theorem IsReal.mul {x y : EReal} : IsReal x → IsReal y → IsReal (x * y) := by
  rintro ⟨a, rfl⟩ ⟨b, rfl⟩; exact ⟨a * b, by norm_cast⟩

theorem IsReal.add {x y : EReal} : IsReal x → IsReal y → IsReal (x + y) := by
  rintro ⟨a, rfl⟩ ⟨b, rfl⟩; exact ⟨a + b, by norm_cast⟩

theorem IsReal.sum {k : ℕ} {f : Fin k → EReal} (h : ∀ q, IsReal (f q)) : IsReal (∑ q, f q) := by
  choose g hg using h
  have := map_sum (⟨⟨Real.toEReal, EReal.coe_zero⟩, EReal.coe_add⟩ : ℝ →+ EReal) g Finset.univ
  exact ⟨∑ q, g q, (Finset.sum_congr rfl fun q _ => hg q).trans this.symm⟩

/-- A number whose magnitude is below infinity is real. -/
theorem IsReal.of_abs_lt {x : EReal} (h : max x (-x) < ⊤) : IsReal x := by
  induction x with
  | bot => simp at h
  | coe r => exact ⟨r, rfl⟩
  | top => simp at h

theorem half_eq : half = ((1 / 2 : ℝ) : EReal) := by
  simp [half, Ideal.ofBits, Ideal.ieee, -EReal.coe_mul]; norm_num

theorem half_real : IsReal half := ⟨_, half_eq⟩

theorem half_mul_add (x y : EReal) : half * (x + y) = half * x + half * y := by
  rw [half_eq]
  exact EReal.left_distrib_of_nonneg_of_ne_top (by norm_num) (EReal.coe_ne_top _) x y

/-- One half moves through a sum. -/
theorem half_mul_sum {k : ℕ} (f : Fin k → EReal) : half * ∑ q, f q = ∑ q, half * f q := by
  induction k with
  | zero => simp
  | succ n ih => rw [Fin.sum_univ_succ, Fin.sum_univ_succ, half_mul_add, ih]

/-- The derivative of `silu`, as one product or as a sum of two. -/
theorem silu_split {a t : EReal} (ha : IsReal a) (ht : IsReal t) :
    t * (Ideal.logistic a + a * Ideal.logistic a * (1 - Ideal.logistic a))
      = t * Ideal.logistic a + a * t * (Ideal.logistic a * (1 - Ideal.logistic a)) := by
  obtain ⟨a, rfl⟩ := ha
  obtain ⟨t, rfl⟩ := ht
  rw [Ideal.logistic_coe]
  norm_cast
  ring

variable {m n k : ℕ}

theorem count_eq : Ideal.ofBits .f32 0x44800000#32 = ((1024 : ℝ) : EReal) := by
  simp [Ideal.ofBits, Ideal.ieee, -EReal.coe_mul]; norm_num

theorem eps_pos : ∃ e : ℝ, 0 < e ∧ Ideal.ofBits .f32 0x358637BD#32 = (e : EReal) := by
  refine ⟨8796093 * 2 ^ (-43 : ℤ), by positivity, ?_⟩
  simp [Ideal.ofBits, Ideal.ieee, -EReal.coe_mul]

theorem mul_self_nonneg (x : EReal) : 0 ≤ x * x := by
  rcases le_total 0 x with h | h
  · exact mul_nonneg h h
  · have := mul_nonneg (EReal.neg_nonneg.mpr h) (EReal.neg_nonneg.mpr h)
    rwa [neg_mul_neg] at this

/-- An entry times the scale of its row is real, whatever the row. -/
theorem scaled_real (X : Mat m n) (r : Fin m) (s : Fin n) : IsReal (X (ix2 r s) * rs X r) := by
  obtain ⟨e, he, hE⟩ := eps_pos
  have hS : 0 ≤ ∑ q : Fin n, X (ix2 r q) * X (ix2 r q) := Finset.sum_nonneg fun q _ => mul_self_nonneg _
  unfold rs msq
  rw [hE, count_eq, Ideal.div_coe (by norm_num)]
  by_cases hx : ∀ q, IsReal (X (ix2 r q))
  · obtain ⟨S, h⟩ := IsReal.sum fun q => (hx q).mul (hx q)
    rw [h] at hS ⊢
    have hS' : (0 : ℝ) ≤ S := by exact_mod_cast hS
    refine (hx s).mul ?_
    have hp : 0 < S * (1 / 1024) + e := by positivity
    rw [← EReal.coe_mul, ← EReal.coe_add, Ideal.rsqrt_coe, if_neg (not_lt.mpr hp.le), if_neg hp.ne']
    exact ⟨_, rfl⟩
  · push Not at hx
    obtain ⟨q, hq⟩ := hx
    have htop : ∑ q : Fin n, X (ix2 r q) * X (ix2 r q) = ⊤ := by
      have hle := Finset.single_le_sum (f := fun q => X (ix2 r q) * X (ix2 r q)) (fun i _ => mul_self_nonneg _)
        (Finset.mem_univ q)
      have : X (ix2 r q) * X (ix2 r q) = ⊤ := by
        generalize X (ix2 r q) = x at hq
        induction x with
        | bot => rfl
        | coe x => exact absurd ⟨x, rfl⟩ hq
        | top => rfl
      exact top_le_iff.mp (this ▸ hle)
    rw [htop, EReal.top_mul_coe_of_pos (by norm_num), EReal.top_add_coe, Ideal.rsqrt_top, mul_zero]
    exact ⟨0, rfl⟩

/-- A matrix of real numbers. -/
def RealMat (A : Mat m n) : Prop := ∀ j, IsReal (A j)

theorem mk_congr {f g : Fin m → Fin n → EReal} (h : ∀ r s, f r s = g r s) : mk f = mk g :=
  congrArg mk (funext₂ h)

theorem hn_real (X : Mat m n) {G : Mat 1 n} (hG : RealMat G) : RealMat (hn X G) := fun j =>
  (scaled_real X (j 0) (j 1)).mul (hG _)

theorem nt_real {A : Mat m k} {B : Mat n k} (hA : RealMat A) (hB : RealMat B) : RealMat (nt A B) := fun _ =>
  IsReal.sum fun _ => (hA _).mul (hB _)

theorem tr_real {A : Mat m n} (hA : RealMat A) : RealMat (tr A) := fun _ => hA _

/-! ## The forms the reference computes -/

/-- The cotangent that reaches the hidden layer, scaled before the product. -/
def dhidR (D : Mat m k) (W : Mat n k) : Mat m n := mk fun r s => ∑ q : Fin k, half * D (ix2 r q) * W (ix2 s q)
/-- The entrywise product of two matrices. -/
def had (A B : Mat m n) : Mat m n := mk fun r s => A (ix2 r s) * B (ix2 r s)
/-- `silu`, entry by entry. -/
def silu (A : Mat m n) : Mat m n := mk fun r s => A (ix2 r s) * Ideal.logistic (A (ix2 r s))
/-- The gradient of `silu` at `A` applied to `T`, as a sum of two products. -/
def dsilu (A T : Mat m n) : Mat m n := mk fun r s => T (ix2 r s) * Ideal.logistic (A (ix2 r s))
  + A (ix2 r s) * T (ix2 r s) * (Ideal.logistic (A (ix2 r s)) * (1 - Ideal.logistic (A (ix2 r s))))
/-- `(A / 2)ᵀ · B`. -/
def tnHalf (A : Mat k m) (B : Mat k n) : Mat m n := mk fun r s => ∑ q : Fin k, half * A (ix2 q r) * B (ix2 q s)
/-- The sum of two matrices. -/
def plus (A B : Mat m n) : Mat m n := mk fun r s => A (ix2 r s) + B (ix2 r s)

theorem dhid_eq (D : Mat m k) (W : Mat n k) (r : Fin m) (s : Fin n) :
    half * ∑ q : Fin k, D (ix2 r q) * W (ix2 s q) = dhidR D W (ix2 r s) := by
  rw [half_mul_sum]
  exact Finset.sum_congr rfl fun q _ => (mul_assoc _ _ _).symm

theorem dhidR_real {D : Mat m k} {W : Mat n k} (hD : RealMat D) (hW : RealMat W) : RealMat (dhidR D W) := fun _ =>
  IsReal.sum fun _ => (half_real.mul (hD _)).mul (hW _)

/-- The gate's cotangent is the same in both programs where the gate and what reaches it are real. -/
theorem dgate_eq {D : Mat m k} {W : Mat n k} {A B : Mat m n} (hD : RealMat D) (hW : RealMat W) (hA : RealMat A)
    (hB : RealMat B) : dgate D W A B = dsilu A (had (dhidR D W) B) := by
  refine mk_congr fun r s => ?_
  rw [dhid_eq]
  exact silu_split (hA _) ((dhidR_real hD hW _).mul (hB _))

theorem dup_eq (D : Mat m k) (W : Mat n k) (A : Mat m n) : dup D W A = had (silu A) (dhidR D W) := by
  refine mk_congr fun r s => ?_
  rw [dhid_eq]
  exact mul_comm _ _

theorem htn_eq (A : Mat k m) (B : Mat k n) : htn A B = tr (tnHalf B A) := by
  refine mk_congr fun r s => ?_
  rw [half_mul_sum]
  exact Finset.sum_congr rfl fun q _ => by rw [mul_comm (A _), ← mul_assoc]; rfl

theorem nnAdd_eq (A : Mat m k) (B : Mat n k) (E : Mat m n) : nnAdd A (tr B) E = plus (nt A B) E := rfl

theorem nn_tr (A : Mat m k) (B : Mat n k) : nn A (tr B) = nt A B := rfl

theorem nt_tr (A : Mat m k) (B : Mat k n) : nt A (tr B) = nn A B := rfl

theorem hid_eq (A B : Mat m n) : hid A B = had (silu A) B := rfl

/-- The reference adds the two parts that pass through `x` one after the other. -/
def dxR (X H Y : Mat m n) (G : Mat 1 n) : Mat m n := mk fun r s =>
  Y (ix2 r s) + H (ix2 r s) * G (ix2 0 s) * rs X r + X (ix2 r s) * coef X H G r + coef X H G r * X (ix2 r s)

theorem dx_eq (X H Y : Mat m n) (G : Mat 1 n) : dx X H Y G = dxR X H Y G := by
  funext j
  simp only [dx, dxR, mk, add_assoc]

end Ffn

end
-- ==== Proof.Ffn.Reference.lean ====
/-
  The reference's results as expressions of the six arguments: each stage of its program, on whole matrices, is one of
  the matrix expressions, and a result is its stages one after the other.
-/
module

public import proofs.«01_k».proof.Proof.Ffn.Algebra
public import proofs.«01_k».proof.Proof.Gen.ReferenceIdeal.Run

@[expose] public section

set_option maxRecDepth 16384

noncomputable section

namespace Ffn.Ref

open Idealize.ShloMosaic Idealize.ShloMosaic.TcCoe Idealize.SL.Sem
open Cert.ReferenceIdeal Cert.ReferenceIdeal.Gen Cert.ReferenceIdeal.Value

/-! ## The stages of the reference's program -/

abbrev V1024 := FVec Ideal S4096x1024 .f32
abbrev V2816 := FVec Ideal S4096x2816 .f32
abbrev Gain := FVec Ideal S1x1024 .f32
abbrev Col := FVec Ideal S4096x1 .f32
abbrev Win := FVec Ideal S1024x2816 .f32
abbrev Wout := FVec Ideal S2816x1024 .f32

/-- The shifted mean squares of the rows. -/
def msqT (X : V1024) : Col :=
  addf (Host.divf (broadcastInDim S4096x1 ![0] bcast_S4096_S4096x1_0 (Host.reduceAdd (mulf X X) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))
/-- The rows' scales, along every row. -/
def rsT (X : V1024) : V1024 := broadcastInDim S4096x1024 ![0, 1] bcast_S4096x1_S4096x1024_0_1 (Host.rsqrt (msqT X))
/-- The gain, in every row. -/
def gainT (G : Gain) : V1024 := broadcastInDim S4096x1024 ![0, 1] bcast_S1x1024_S4096x1024_0_1 G
/-- The normalised input. -/
def hT (X : V1024) (G : Gain) : V1024 := mulf (mulf X (rsT X)) (gainT G)
/-- A projection of the normalised input. -/
def projT (H : V1024) (W : Win) : V2816 := Host.dotGeneral dot_S4096x1024_S1024x2816_S4096x2816_1_0_0_1_n_n none H W
/-- Half of the cotangent. -/
def halfT (Y : V1024) : V1024 :=
  mulf (broadcastInDim S4096x1024 ![] bcast_S_S4096x1024 (constant S_ .f32 0x3F000000#32)) (shapeCast S4096x1024 Y shapeCasts_S4096x1024_S4096x1024)
/-- What reaches the hidden layer. -/
def dhidT (Y : V1024) (Wd : Wout) : V2816 :=
  Host.dotGeneral dot_S4096x1024_S2816x1024_S4096x2816_1_1_0_0_n_n none (halfT Y) Wd
/-- A matrix of ones. -/
def oneT : V2816 := broadcastInDim S4096x2816 ![] bcast_S_S4096x2816 (constant S_ .f32 0x3F800000#32)
/-- The logistic function, entry by entry. -/
def sgmT (A : V2816) : V2816 := Host.divf oneT (addf oneT (Host.exp (Host.negf A)))
/-- The gradient of `silu` applied to a cotangent. -/
def dsiluT (A T : V2816) : V2816 := addf (mulf T (sgmT A)) (mulf (mulf A T) (mulf (sgmT A) (subf oneT (sgmT A))))
/-- `silu`. -/
def siluT (A : V2816) : V2816 := mulf A (sgmT A)
/-- A product with a projection's transpose. -/
def backT (D : V2816) (W : Win) : V1024 := Host.dotGeneral dot_S4096x2816_S1024x2816_S4096x1024_1_1_0_0_n_n none D W
/-- The gradient of a projection's weights. -/
def dwT (D : V2816) (H : V1024) : Win :=
  transpose S1024x2816 [1, 0] (Host.dotGeneral dot_S4096x2816_S4096x1024_S2816x1024_0_0_1_1_n_n none D H) transposes_S2816x1024_S1024x2816_1_0
/-- The gradient of the last product's weights. -/
def dwdT (Y : V1024) (Z : V2816) : Wout :=
  transpose S2816x1024 [1, 0] (Host.dotGeneral dot_S4096x1024_S4096x2816_S1024x2816_0_0_1_1_n_n none (halfT Y) Z) transposes_S1024x2816_S2816x1024_1_0
/-- The block's output. -/
def outT (X : V1024) (Z : V2816) (Wd : Wout) : V1024 :=
  addf X (mulf (broadcastInDim S4096x1024 ![] bcast_S_S4096x1024 (constant S_ .f32 0x3F000000#32))
    (Host.dotGeneral dot_S4096x2816_S2816x1024_S4096x1024_1_0_0_1_n_n none Z Wd))
/-- The gradient of the gain. -/
def dgT (X H : V1024) : Gain :=
  shapeCast S1x1024 (Host.reduceAdd (mulf (mulf X (rsT X)) H) (constant S_ .f32 0x00000000#32) reducesTo_S4096x1024_S1024_d0 h_S_)
    shapeCasts_S1024_S1x1024
/-- The coefficients of the input in the gradient of the normalisation, along every row. -/
def coefT (X H : V1024) (G : Gain) : V1024 :=
  broadcastInDim S4096x1024 ![0] bcast_S4096_S4096x1024_0 (Host.reduceAdd (Host.divf (mulf
    (shapeCast S4096x1 (Host.reduceAdd (mulf X (mulf H (gainT G))) (constant S_ .f32 0x00000000#32) reducesTo_S4096x1024_S4096_d1 h_S_)
      shapeCasts_S4096_S4096x1)
    (mulf (broadcastInDim S4096x1 ![] bcast_S_S4096x1 (constant S_ .f32 0xBF000000#32)) (Host.divf (Host.rsqrt (msqT X)) (msqT X))))
    (broadcastInDim S4096x1 ![] bcast_S_S4096x1 (constant S_ .f32 0x44800000#32)))
    (constant S_ .f32 0x00000000#32) reducesTo_S4096x1_S4096_d1 h_S_)
/-- The gradient of the block's input. -/
def dxT (X H Y : V1024) (G : Gain) : V1024 :=
  addf (addf (addf Y (mulf (mulf H (gainT G)) (rsT X))) (mulf X (coefT X H G))) (mulf (coefT X H G) X)

/-! ## The results -/

section
variable (X Y : V1024) (G : Gain) (Wg Wu : Win) (Wd : Wout)

/-- What reaches the gate. -/
def gateT : V2816 := dsiluT (projT (hT X G) Wg) (mulf (dhidT Y Wd) (projT (hT X G) Wu))
/-- What reaches the up branch. -/
def upT : V2816 := mulf (siluT (projT (hT X G) Wg)) (dhidT Y Wd)
/-- What reaches the normalised input. -/
def dhnT : V1024 := addf (backT (upT X Y G Wg Wd) Wu) (backT (gateT X Y G Wg Wu Wd) Wg)
end

section
variable (m : (p : Loc nD τ sig) → Buf (Elt Ideal) p) (c : Dev nD)

/-- The arguments on a device. -/
def bX : V1024 := m ((c.tc : Thread nD τ).loc main_arg0)
def bY : V1024 := m ((c.tc : Thread nD τ).loc main_arg1)
def bG : Gain := m ((c.tc : Thread nD τ).loc main_arg2)
def bWg : Win := m ((c.tc : Thread nD τ).loc main_arg3)
def bWu : Win := m ((c.tc : Thread nD τ).loc main_arg4)
def bWd : Wout := m ((c.tc : Thread nD τ).loc main_arg5)

theorem v58_eq : res_main_v58 m c
    = dxT (bX m c) (dhnT (bX m c) (bY m c) (bG m c) (bWg m c) (bWu m c) (bWd m c)) (bY m c) (bG m c) := rfl

theorem v41_eq : res_main_v41 m c
    = dgT (bX m c) (dhnT (bX m c) (bY m c) (bG m c) (bWg m c) (bWu m c) (bWd m c)) := rfl

theorem v36_eq : res_main_v36 m c
    = dwT (gateT (bX m c) (bY m c) (bG m c) (bWg m c) (bWu m c) (bWd m c)) (hT (bX m c) (bG m c)) := rfl

/-- A run ends with the six results as these expressions of the arguments. -/
theorem run_stages (ρ : Dev nD → PrngReg) :
    θ_run defs (onTc (τ := τ) (main (F := Ideal))) ⟨m, fun _ => 0, ρ⟩ fun r => ∀ c : Dev nD,
      r.2.mem ((c.tc : Thread nD τ).loc main_v58)
        = dxT (bX m c) (dhnT (bX m c) (bY m c) (bG m c) (bWg m c) (bWu m c) (bWd m c)) (bY m c) (bG m c)
      ∧ r.2.mem ((c.tc : Thread nD τ).loc main_v41)
        = dgT (bX m c) (dhnT (bX m c) (bY m c) (bG m c) (bWg m c) (bWu m c) (bWd m c))
      ∧ r.2.mem ((c.tc : Thread nD τ).loc main_v36)
        = dwT (gateT (bX m c) (bY m c) (bG m c) (bWg m c) (bWu m c) (bWd m c)) (hT (bX m c) (bG m c))
      ∧ r.2.mem ((c.tc : Thread nD τ).loc main_v32)
        = dwT (upT (bX m c) (bY m c) (bG m c) (bWg m c) (bWd m c)) (hT (bX m c) (bG m c))
      ∧ r.2.mem ((c.tc : Thread nD τ).loc main_v27)
        = dwdT (bY m c) (mulf (siluT (projT (hT (bX m c) (bG m c)) (bWg m c))) (projT (hT (bX m c) (bG m c)) (bWu m c)))
      ∧ r.2.mem ((c.tc : Thread nD τ).loc main_v22)
        = outT (bX m c) (mulf (siluT (projT (hT (bX m c) (bG m c)) (bWg m c))) (projT (hT (bX m c) (bG m c)) (bWu m c))) (bWd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.ReferenceIdeal.Value.run m ρ
end

/-! ## The stages are the matrix expressions -/

theorem msqT_apply (X : V1024) (r : Fin 4096) (s : Fin 1) : msqT X (ix2 r s) = msq (X : Mat 4096 1024) r := by
  pointwise [msqT, msq]

theorem rsT_apply (X : V1024) (r : Fin 4096) (s : Fin 1024) : rsT X (ix2 r s) = rs (X : Mat 4096 1024) r := by
  pointwise [rsT, msqT, rs, msq]

theorem hT_eq (X : V1024) (G : Gain) : hT X G = hn (X : Mat 4096 1024) (G : Mat 1 1024) := by
  funext j
  pointwise [hT, rsT, gainT, msqT, hn, rs, msq, mk]

theorem projT_eq (H : V1024) (W : Win) : projT H W = nn (H : Mat 4096 1024) (W : Mat 1024 2816) := by
  funext j
  pointwise [projT, nn, mk]

theorem dhidT_eq (Y : V1024) (Wd : Wout) : dhidT Y Wd = dhidR (Y : Mat 4096 1024) (Wd : Mat 2816 1024) := by
  funext j
  pointwise [dhidT, halfT, dhidR, half, mk]

theorem siluT_eq (A : V2816) : siluT A = silu (A : Mat 4096 2816) := by
  funext j
  pointwise [siluT, sgmT, oneT, silu, mk, Ideal.logistic]

theorem dsiluT_eq (A T : V2816) : dsiluT A T = dsilu (A : Mat 4096 2816) (T : Mat 4096 2816) := by
  funext j
  pointwise [dsiluT, sgmT, oneT, dsilu, mk, Ideal.logistic]

theorem had_eq (A B : V2816) : mulf A B = had (A : Mat 4096 2816) (B : Mat 4096 2816) := by
  funext j
  pointwise [had, mk]

theorem backT_eq (D : V2816) (W : Win) : backT D W = nt (D : Mat 4096 2816) (W : Mat 1024 2816) := by
  funext j
  pointwise [backT, nt, mk]

theorem plus_eq (A B : V1024) : addf A B = plus (A : Mat 4096 1024) (B : Mat 4096 1024) := by
  funext j
  pointwise [plus, mk]

theorem dwT_eq (D : V2816) (H : V1024) : dwT D H = tr (tn (D : Mat 4096 2816) (H : Mat 4096 1024)) := by
  funext j
  pointwise [dwT, tr, tn, mk]

theorem dwdT_eq (Y : V1024) (Z : V2816) : dwdT Y Z = tr (tnHalf (Y : Mat 4096 1024) (Z : Mat 4096 2816)) := by
  funext j
  pointwise [dwdT, halfT, tr, tnHalf, half, mk]

theorem outT_eq (X : V1024) (Z : V2816) (Wd : Wout) : outT X Z Wd = resid (X : Mat 4096 1024) (Z : Mat 4096 2816) (Wd : Mat 2816 1024) := by
  funext j
  pointwise [outT, resid, half, mk]

theorem dgT_eq (X H : V1024) : dgT X H = dg (X : Mat 4096 1024) (H : Mat 4096 1024) := by
  funext j
  pointwise [dgT, rsT, msqT, dg, dgTerm, rs, msq, mk]

theorem dxT_eq (X H Y : V1024) (G : Gain) : dxT X H Y G = dxR (X : Mat 4096 1024) (H : Mat 4096 1024) (Y : Mat 4096 1024) (G : Mat 1 1024) := by
  funext j
  pointwise [dxT, coefT, gainT, rsT, msqT, dxR, coef, rs, msq, mk]

end Ffn.Ref

end
-- ==== Proof.Ffn.Value.lean ====
/-
  The two programs give the same six results on real arguments (the input itself may be anything).
-/
module

public import proofs.«01_k».proof.Defs
public import proofs.«01_k».proof.Proof.Ffn.Fold
public import proofs.«01_k».proof.Proof.Ffn.Run
public import proofs.«01_k».proof.Proof.Ffn.Reference
public import Idealize.ShloMosaic.Lib.Claim

@[expose] public section

set_option maxRecDepth 16384

noncomputable section

namespace Ffn

open Idealize.ShloMosaic Idealize.ShloMosaic.TcCoe Idealize.SL.Sem

/-! ## The precondition -/

/-- The side conditions of the precondition's operations. -/
theorem preFacts : Cert.Pre_finite.Facts where
  bcast_S_S4096x1024 := by decide +kernel
  bcast_S_S1x1024 := by decide +kernel
  bcast_S_S1024x2816 := by decide +kernel
  bcast_S_S2816x1024 := by decide +kernel

theorem inf_eq : Ideal.ofBits .f32 0x7F800000#32 = ⊤ := by
  simp [Ideal.ofBits, Ideal.ieee]

/-- Where the test `|x| < ∞` is all ones, the entries are real. -/
theorem real_of_test {s : Shape} {d : Fin 0 → Fin s.rank} (h : Cert.Pre_finite.S_.BroadcastsInDim s d) (x : FVec Ideal s .f32)
    (hx : cmpf .olt (Host.absf x) (broadcastInDim s d h (constant Cert.Pre_finite.S_ .f32 0x7F800000#32)) = fun _ => 1#1)
    (j : s.Idx) : IsReal (x j) := by
  refine IsReal.of_abs_lt ?_
  have e := congrFun hx j
  have e' : BitVec.ofBool (decide (max (x j) (-(x j)) < Ideal.ofBits .f32 0x7F800000#32)) = 1#1 := e
  rw [inf_eq] at e'
  by_contra hn
  rw [decide_eq_false hn] at e'
  exact absurd e' (by decide)

/-! ## The same results -/

section
variable {t d f : ℕ} (X Y : Mat t d) (G : Mat 1 d) (Wg Wu : Mat d f) (Wd : Mat f d)

theorem kDA_eq (hY : RealMat Y) (hG : RealMat G) (hg : RealMat Wg) (hu : RealMat Wu) (hd : RealMat Wd) :
    kDA X Y G Wg Wu Wd = dsilu (nn (hn X G) Wg) (had (dhidR Y Wd) (nn (hn X G) Wu)) :=
  dgate_eq hY hd (nt_real (hn_real X hG) (tr_real hg)) (nt_real (hn_real X hG) (tr_real hu))

theorem kDB_eq : kDB X Y G Wg Wd = had (silu (nn (hn X G) Wg)) (dhidR Y Wd) := dup_eq _ _ _

theorem kDhn_eq (hY : RealMat Y) (hG : RealMat G) (hg : RealMat Wg) (hu : RealMat Wu) (hd : RealMat Wd) :
    kDhn X Y G Wg Wu Wd = plus (nt (had (silu (nn (hn X G) Wg)) (dhidR Y Wd)) Wu)
      (nt (dsilu (nn (hn X G) Wg) (had (dhidR Y Wd) (nn (hn X G) Wu))) Wg) := by
  rw [← kDA_eq X Y G Wg Wu Wd hY hG hg hu hd, ← kDB_eq X Y G Wg Wd]
  rfl

theorem kDwd_eq : kDwd X Y G Wg Wu = tr (tnHalf Y (had (silu (nn (hn X G) Wg)) (nn (hn X G) Wu))) := htn_eq _ _
end

/-! ## The stages of the reference, as matrices -/

namespace Ref
variable (X Y : V1024) (G : Gain) (Wg Wu : Win) (Wd : Wout)

theorem gateT_eq : gateT X Y G Wg Wu Wd
    = (dsilu (nn (hn X G) Wg) (had (dhidR Y Wd) (nn (hn X G) Wu)) : Mat 4096 2816) := by
  unfold gateT
  rw [dsiluT_eq, had_eq, projT_eq, projT_eq, hT_eq, dhidT_eq]

theorem upT_eq : upT X Y G Wg Wd = (had (silu (nn (hn X G) Wg)) (dhidR Y Wd) : Mat 4096 2816) := by
  unfold upT
  rw [had_eq, siluT_eq, projT_eq, hT_eq, dhidT_eq]

theorem dhnT_eq : dhnT X Y G Wg Wu Wd = (plus (nt (had (silu (nn (hn X G) Wg)) (dhidR Y Wd)) Wu)
      (nt (dsilu (nn (hn X G) Wg) (had (dhidR Y Wd) (nn (hn X G) Wu))) Wg) : Mat 4096 1024) := by
  unfold dhnT
  rw [plus_eq, backT_eq, backT_eq, upT_eq, gateT_eq]

end Ref

/-! ## The claim -/

open Cert.KernelIdeal.Gen in
/-- On real weights, gain and cotangent, the kernel's six results are the reference's. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m g m' g' hpre hag
  have hR : ∀ c, RealMat (aY m c) ∧ RealMat (aG m c) ∧ RealMat (aWg m c) ∧ RealMat (aWu m c) ∧ RealMat (aWd m c) := fun c =>
    let h := hpre c
    ⟨real_of_test _ _ h.1, real_of_test _ _ h.2.1, real_of_test _ _ h.2.2.1, real_of_test _ _ h.2.2.2.1,
      real_of_test _ _ h.2.2.2.2⟩
  refine ⟨fun c => kDx (aX m c) (aY m c) (aG m c) (aWg m c) (aWu m c) (aWd m c),
    fun c => kDg (aX m c) (aY m c) (aG m c) (aWg m c) (aWu m c) (aWd m c),
    fun c => tr (kDwg (aX m c) (aY m c) (aG m c) (aWg m c) (aWu m c) (aWd m c)),
    fun c => tr (kDwu (aX m c) (aY m c) (aG m c) (aWg m c) (aWd m c)),
    fun c => kDwd (aX m c) (aY m c) (aG m c) (aWg m c) (aWu m c),
    fun c => kY (aX m c) (aG m c) (aWg m c) (aWu m c) (aWd m c), ?_, ?_⟩
  · refine θ_run_mono (θ_run_and (Ffn.run m g) (Cert.KernelIdeal.Gen.frame m g)) fun r h c => ?_
    have at_end := h.1.1 c
    exact ⟨(at_end _ (mem_uc Cert.KernelIdeal.main_v16_0 (by decide))).trans (end_dx m g c),
      (at_end _ (mem_uc Cert.KernelIdeal.main_v16_2 (by decide))).trans (end_dg m g c),
      (at_end _ (mem_uc Cert.KernelIdeal.main_v17 (by decide))).trans (end_dwg m g c),
      (at_end _ (mem_uc Cert.KernelIdeal.main_v18 (by decide))).trans (end_dwu m g c),
      (at_end _ (mem_uc Cert.KernelIdeal.main_v11 (by decide))).trans (end_dwd m g c),
      (at_end _ (mem_uc Cert.KernelIdeal.main_v8 (by decide))).trans (end_y m g c), h.2.1 c⟩
  · refine θ_run_mono (Ref.run_stages m' g') fun r h c => ?_
    obtain ⟨h0, h1, h2, h3, h4, h5, hargs⟩ := h c
    obtain ⟨e0, e1, e2, e3, e4, e5⟩ := hag c
    obtain ⟨hY, hG, hg, hu, hd⟩ := hR c
    have b0 : Ref.bX m' c = aX m c := e0
    have b1 : Ref.bY m' c = aY m c := e1
    have b2 : Ref.bG m' c = aG m c := e2
    have b3 : Ref.bWg m' c = aWg m c := e3
    have b4 : Ref.bWu m' c = aWu m c := e4
    have b5 : Ref.bWd m' c = aWd m c := e5
    rw [b0, b1, b2, b3, b4, b5] at h0 h1 h2
    refine ⟨h0.trans ?_, h1.trans ?_, h2.trans ?_, h3.trans ?_, h4.trans ?_, h5.trans ?_, hargs⟩
    · rw [Ref.dxT_eq, Ref.dhnT_eq]
      exact ((dx_eq _ _ _ _).trans (congrArg (fun H => dxR (aX m c) H (aY m c) (aG m c)) (kDhn_eq _ _ _ _ _ _ hY hG hg hu hd))).symm
    · rw [Ref.dgT_eq, Ref.dhnT_eq]
      exact (congrArg (dg (aX m c)) (kDhn_eq _ _ _ _ _ _ hY hG hg hu hd)).symm
    · rw [Ref.dwT_eq, Ref.gateT_eq, Ref.hT_eq]
      exact (congrArg (fun D => tr (tn D (hn (aX m c) (aG m c)))) (kDA_eq _ _ _ _ _ _ hY hG hg hu hd)).symm
    · rw [b0, b1, b2, b3, b5, Ref.dwT_eq, Ref.upT_eq, Ref.hT_eq]
      exact (congrArg (fun D => tr (tn D (hn (aX m c) (aG m c)))) (kDB_eq (aX m c) (aY m c) (aG m c) (aWg m c) (aWd m c))).symm
    · rw [b0, b1, b2, b3, b4, Ref.dwdT_eq, Ref.had_eq, Ref.siluT_eq, Ref.projT_eq, Ref.projT_eq, Ref.hT_eq]
      exact (kDwd_eq _ _ _ _ _).symm
    · rw [b0, b2, b3, b4, b5, Ref.outT_eq, Ref.had_eq, Ref.siluT_eq, Ref.projT_eq, Ref.projT_eq, Ref.hT_eq]
      rfl

end Ffn

end
-- ==== Proof.Mixer.Mat.lean ====
/-
  The pieces of the mixer's output and of its gradients, as expressions of matrices over the extended reals: the
  gated `gelu`, the gated normalisation and the gated sum of the two branches.
-/
module

public import proofs.«01_k».proof.Proof.Ffn.Mat

@[expose] public section

noncomputable section

namespace Mix

open Idealize.ShloMosaic Ffn

variable {m k n : ℕ}

/-! ## `gelu`, by the hyperbolic tangent -/

def cA : EReal := Ideal.ofBits .f32 0x3F4C422A#32
def cB : EReal := Ideal.ofBits .f32 0x3D372713#32
def three : EReal := Ideal.ofBits .f32 0x40400000#32

/-- The hyperbolic tangent inside `gelu`. -/
def th (x : EReal) : EReal := Ideal.tanh (cA * (x + cB * (x * (x * x))))
/-- `gelu`. -/
def gelu (x : EReal) : EReal := x * (half * (1 + th x))
/-- What reaches the argument of the hyperbolic tangent. -/
def dth (x g : EReal) : EReal := cA * (half * (x * g) * ((1 + th x) * (1 - th x)))
/-- The gradient of `gelu` at `x` applied to `g`. -/
def dgelu (x g : EReal) : EReal := g * (half * (1 + th x)) + dth x g + cB * dth x g * (three * (x * x))

/-- The scan's output plus the skip: the argument of `gelu`. -/
def skip (Y U : Mat m n) (D : Mat 1 n) (r : Fin m) (s : Fin n) : EReal := Y (ix2 r s) + D (ix2 0 s) * U (ix2 r s)
/-- `gelu` of it. -/
def act (Y U : Mat m n) (D : Mat 1 n) : Mat m n := mk fun r s => gelu (skip Y U D r s)
/-- What reaches it. -/
def dact (Y U G : Mat m n) (D : Mat 1 n) : Mat m n := mk fun r s => dgelu (skip Y U D r s) (G (ix2 r s))
/-- The rows of `X` times the row `D`. -/
def scale (X : Mat m n) (D : Mat 1 n) : Mat m n := mk fun r s => X (ix2 r s) * D (ix2 0 s)
/-- The column sums of `X · U`, entry by entry. -/
def colDot (X U : Mat m n) : Mat 1 n := mk fun _ s => ∑ r : Fin m, X (ix2 r s) * U (ix2 r s)
/-- The column sums. -/
def colSum (X : Mat m n) : Mat 1 n := mk fun _ s => ∑ r : Fin m, X (ix2 r s)

/-! ## The gate of the first branch -/

/-- The gate: the logistic function of `G · W + b`. -/
def gate (G : Mat m k) (W : Mat k n) (b : Mat 1 n) (r : Fin m) (s : Fin n) : EReal :=
  Ideal.logistic ((∑ q : Fin k, G (ix2 r q) * W (ix2 q s)) + b (ix2 0 s))
/-- The gated rows. -/
def glu (G : Mat m k) (W : Mat k n) (b : Mat 1 n) (E : Mat m n) : Mat m n := mk fun r s => E (ix2 r s) * gate G W b r s
/-- The gradient of the gate's argument. -/
def dgl (G : Mat m k) (W : Mat k n) (b : Mat 1 n) (E C : Mat m n) : Mat m n := mk fun r s =>
  E (ix2 r s) * C (ix2 r s) * (gate G W b r s * (1 - gate G W b r s))
/-- `A · Bᵀ + E`. -/
def ntAdd (A : Mat m k) (B : Mat n k) (E : Mat m n) : Mat m n := mk fun r s =>
  (∑ q : Fin k, A (ix2 r q) * B (ix2 s q)) + E (ix2 r s)

/-! ## The gated normalisation of the second branch -/

/-- `Y · silu(Z)`. -/
def gated (Y Z : Mat m n) (r : Fin m) (s : Fin n) : EReal := Y (ix2 r s) * (Z (ix2 r s) * Ideal.logistic (Z (ix2 r s)))
/-- The shifted mean square of row `r`. -/
def ms (Y Z : Mat m n) (r : Fin m) : EReal :=
  Ideal.div (∑ q : Fin n, gated Y Z r q * gated Y Z r q) (Ideal.ofBits .f32 0x45000000#32) + Ideal.ofBits .f32 0x358637BD#32
/-- The normalised rows, times the gain. -/
def gnorm (Y Z : Mat m n) (N : Mat 1 n) : Mat m n := mk fun r s => gated Y Z r s * Ideal.rsqrt (ms Y Z r) * N (ix2 0 s)
/-- The coefficient of row `r` in the gradient of the normalisation. -/
def gcoef (Y Z C : Mat m n) (N : Mat 1 n) (r : Fin m) : EReal :=
  ∑ _u : Fin 1, Ideal.div ((∑ q : Fin n, gated Y Z r q * (C (ix2 r q) * N (ix2 0 q))) *
    (Ideal.ofBits .f32 0xBF000000#32 * Ideal.div (Ideal.rsqrt (ms Y Z r)) (ms Y Z r))) (Ideal.ofBits .f32 0x45000000#32)
/-- What reaches the product `Y · silu(Z)`. -/
def dgated (Y Z C : Mat m n) (N : Mat 1 n) (r : Fin m) (s : Fin n) : EReal :=
  C (ix2 r s) * N (ix2 0 s) * Ideal.rsqrt (ms Y Z r) + gated Y Z r s * gcoef Y Z C N r + gcoef Y Z C N r * gated Y Z r s
/-- The gradient of `Y`. -/
def dyraw (Y Z C : Mat m n) (N : Mat 1 n) : Mat m n := mk fun r s =>
  dgated Y Z C N r s * (Z (ix2 r s) * Ideal.logistic (Z (ix2 r s)))
/-- The gradient of `Z`. -/
def dz (Y Z C : Mat m n) (N : Mat 1 n) : Mat m n := mk fun r s =>
  Y (ix2 r s) * dgated Y Z C N r s * Ideal.logistic (Z (ix2 r s)) + Z (ix2 r s) * (Y (ix2 r s) * dgated Y Z C N r s) *
    (Ideal.logistic (Z (ix2 r s)) * (1 - Ideal.logistic (Z (ix2 r s))))
/-- One row's term of the gradient of the gain. -/
def dnTerm (Y Z C : Mat m n) (r : Fin m) (s : Fin n) : EReal := gated Y Z r s * Ideal.rsqrt (ms Y Z r) * C (ix2 r s)
/-- The gradient of the gain. -/
def dn (Y Z C : Mat m n) : Mat 1 n := mk fun _ s => ∑ r : Fin m, dnTerm Y Z C r s

/-! ## The gated sum of the branches -/

/-- The first half of the gates. -/
def lo (s : Fin 1024) : Fin 2048 := ⟨s.val, by omega⟩
/-- The second half of the gates. -/
def hi (s : Fin 1024) : Fin 2048 := ⟨1024 + s.val, by omega⟩
/-- The gates. -/
def sg (Q : Mat m n) (b : Mat 1 n) (r : Fin m) (s : Fin n) : EReal := Ideal.logistic (Q (ix2 r s) + b (ix2 0 s))
/-- The gated sum. -/
def merge (Q : Mat m 2048) (b : Mat 1 2048) (A B : Mat m 1024) : Mat m 1024 := mk fun r s =>
  sg Q b r (lo s) * A (ix2 r s) + sg Q b r (hi s) * B (ix2 r s)
/-- What reaches the first branch. -/
def dlo (Q : Mat m 2048) (b : Mat 1 2048) (C : Mat m 1024) : Mat m 1024 := mk fun r s => sg Q b r (lo s) * C (ix2 r s)
/-- What reaches the second branch. -/
def dhi (Q : Mat m 2048) (b : Mat 1 2048) (C : Mat m 1024) : Mat m 1024 := mk fun r s => sg Q b r (hi s) * C (ix2 r s)
/-- What reaches the gates: one branch's product in each half. -/
def dsg (A B C : Mat m 1024) (r : Fin m) (s : Fin 2048) : EReal :=
  if h : s.val < 1024 then C (ix2 r ⟨s.val, h⟩) * A (ix2 r ⟨s.val, h⟩)
  else C (ix2 r ⟨s.val - 1024, by omega⟩) * B (ix2 r ⟨s.val - 1024, by omega⟩)
/-- What reaches their arguments. -/
def dq (Q : Mat m 2048) (b : Mat 1 2048) (A B C : Mat m 1024) : Mat m 2048 := mk fun r s =>
  dsg A B C r s * (sg Q b r s * (1 - sg Q b r s))

end Mix

end
-- ==== Proof.Mixer.Args.lean ====
/- The fourteen arguments of the mixer's output, and the kernel's arrays as expressions of them. -/
module

public import proofs.«01_k».proof.Proof.Mixer.Mat

@[expose] public section

noncomputable section

namespace Mix

open Ffn

/-- The arguments. -/
structure Args where
  /-- The cotangent. -/
  dy : Mat 4096 1024
  /-- The scan's output. -/
  ys : Mat 4096 1024
  /-- The scan's input. -/
  u : Mat 4096 1024
  /-- The second branch's output. -/
  yr : Mat 4096 2048
  /-- Its gate. -/
  z : Mat 4096 2048
  /-- The branches' gates. -/
  gl : Mat 4096 2048
  /-- The skip. -/
  skipD : Mat 1 1024
  /-- The first gate's weight. -/
  wg : Mat 1024 1024
  /-- The first gate's bias. -/
  bg : Mat 1 1024
  /-- The first branch's projection. -/
  wp : Mat 1024 1024
  /-- The normalisation's gain. -/
  gain : Mat 1 2048
  /-- The second branch's projection. -/
  ws : Mat 2048 1024
  /-- The gates' bias. -/
  bq : Mat 1 2048
  /-- The last weight. -/
  wo : Mat 1024 1024

variable (a : Args)

def kG : Mat 4096 1024 := act a.ys a.u a.skipD
def kY5 : Mat 4096 1024 := glu (kG a) a.wg a.bg (kG a)
def kYs : Mat 4096 2048 := gnorm a.yr a.z a.gain
def kP5 : Mat 4096 1024 := nn (kY5 a) a.wp
def kPs : Mat 4096 1024 := nn (kYs a) a.ws
def kM : Mat 4096 1024 := merge a.gl a.bq (kP5 a) (kPs a)
def kDm : Mat 4096 1024 := nt a.dy a.wo
def kDwo : Mat 1024 1024 := tn (kM a) a.dy
def kD5 : Mat 4096 1024 := dlo a.gl a.bq (kDm a)
def kDs : Mat 4096 1024 := dhi a.gl a.bq (kDm a)
def kDq : Mat 4096 2048 := dq a.gl a.bq (kP5 a) (kPs a) (kDm a)
def kDbq : Mat 1 2048 := colSum (kDq a)
def kDys : Mat 4096 2048 := nt (kDs a) a.ws
def kDws : Mat 2048 1024 := tn (kYs a) (kDs a)
def kDyr : Mat 4096 2048 := dyraw a.yr a.z (kDys a) a.gain
def kDz : Mat 4096 2048 := dz a.yr a.z (kDys a) a.gain
def kDn : Mat 1 2048 := dn a.yr a.z (kDys a)
def kDy5 : Mat 4096 1024 := nt (kD5 a) a.wp
def kDwp : Mat 1024 1024 := tn (kY5 a) (kD5 a)
def kDg1 : Mat 4096 1024 := glu (kG a) a.wg a.bg (kDy5 a)
def kDt : Mat 4096 1024 := dgl (kG a) a.wg a.bg (kG a) (kDy5 a)
def kDwg : Mat 1024 1024 := tn (kG a) (kDt a)
def kDg : Mat 4096 1024 := ntAdd (kDt a) a.wg (kDg1 a)
def kDx : Mat 4096 1024 := dact a.ys a.u (kDg a) a.skipD
def kDu : Mat 4096 1024 := scale (kDx a) a.skipD
def kDD : Mat 1 1024 := colDot (kDx a) a.u
def kDbg : Mat 1 1024 := colSum (kDt a)

end Mix

end
-- ==== Proof.Mixer.Forward.lean ====
/- The forward calls' products: what each call leaves in its result array. -/
module

public import proofs.«01_k».proof.Proof.Mixer.Mat
public import proofs.«01_k».proof.Proof.Gen.MixerIdeal.Frame.Region3
public import proofs.«01_k».proof.Proof.Gen.MixerIdeal.Frame.Region4
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem idx3 : ∀ t : Fin cfg3.N, win3_0.index t = ![(grid3.coords t 1).val, 0]
    ∧ win3_1.index t = ![0, (grid3.coords t 0).val]
    ∧ win3_2.index t = ![(grid3.coords t 1).val, (grid3.coords t 0).val] :=
  (by decide +kernel : ∀ t : Fin grid3.N, _)

/-- The first branch, projected. -/
theorem p5_out (c : Dev nD) : (dat3 V c).arrAt 2 cfg3.N
    = nn (V c main_v5 : Mat 4096 1024) (V c main_v1 : Mat 1024 1024) := by
  refine (dat3 V c).arrAt_eq_of_covers 2 _ (by decide +kernel) fun t hf y => ?_
  blk_simp
  rw [after3_2]
  frame_out
  pointwise [k3_pay1, nn, mk]
  blk_point [iblk3, idx3 t]

theorem idx4 : ∀ t : Fin cfg4.N, win4_0.index t = ![(grid4.coords t 1).val, 0]
    ∧ win4_1.index t = ![0, (grid4.coords t 0).val]
    ∧ win4_2.index t = ![(grid4.coords t 1).val, (grid4.coords t 0).val] :=
  (by decide +kernel : ∀ t : Fin grid4.N, _)

/-- The second branch, projected. -/
theorem pssd_out (c : Dev nD) : (dat4 V c).arrAt 2 cfg4.N
    = nn (V c main_v6 : Mat 4096 2048) (V c main_v2 : Mat 2048 1024) := by
  refine (dat4 V c).arrAt_eq_of_covers 2 _ (by decide +kernel) fun t hf y => ?_
  blk_simp
  rw [after4_2]
  frame_out
  pointwise [k4_pay1, nn, mk]
  blk_point [iblk4, idx4 t]

end Mix

end
-- ==== Proof.Mixer.Inputs.lean ====
/- The gradients of the products' inputs: what each call leaves in its result array. -/
module

public import proofs.«01_k».proof.Proof.Mixer.Mat
public import proofs.«01_k».proof.Proof.Gen.MixerIdeal.Frame.Region6
public import proofs.«01_k».proof.Proof.Gen.MixerIdeal.Frame.Region9
public import proofs.«01_k».proof.Proof.Gen.MixerIdeal.Frame.Region12
public import proofs.«01_k».proof.Proof.Gen.MixerIdeal.Frame.Region16
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem idx6 : ∀ t : Fin cfg6.N, win6_0.index t = ![(grid6.coords t 1).val, 0]
    ∧ win6_1.index t = ![(grid6.coords t 0).val, 0]
    ∧ win6_2.index t = ![(grid6.coords t 1).val, (grid6.coords t 0).val] :=
  (by decide +kernel : ∀ t : Fin grid6.N, _)

/-- What reaches the gated sum. -/
theorem dmerged_out (c : Dev nD) : (dat6 V c).arrAt 2 cfg6.N
    = nt (V c main_v10 : Mat 4096 1024) (V c main_v3 : Mat 1024 1024) := by
  refine (dat6 V c).arrAt_eq_of_covers 2 _ (by decide +kernel) fun t hf y => ?_
  blk_simp
  rw [after6_2]
  frame_out
  pointwise [k6_pay1, nt, mk]
  blk_point [iblk6, idx6 t]

theorem idx9 : ∀ t : Fin cfg9.N, win9_0.index t = ![(grid9.coords t 1).val, 0]
    ∧ win9_1.index t = ![(grid9.coords t 0).val, 0]
    ∧ win9_2.index t = ![(grid9.coords t 1).val, (grid9.coords t 0).val] :=
  (by decide +kernel : ∀ t : Fin grid9.N, _)

/-- What reaches the second branch. -/
theorem dyssd_out (c : Dev nD) : (dat9 V c).arrAt 2 cfg9.N
    = nt (V c main_v13_1 : Mat 4096 1024) (V c main_v2 : Mat 2048 1024) := by
  refine (dat9 V c).arrAt_eq_of_covers 2 _ (by decide +kernel) fun t hf y => ?_
  blk_simp
  rw [after9_2]
  frame_out
  pointwise [k9_pay1, nt, mk]
  blk_point [iblk9, idx9 t]

theorem idx12 : ∀ t : Fin cfg12.N, win12_0.index t = ![(grid12.coords t 1).val, 0]
    ∧ win12_1.index t = ![(grid12.coords t 0).val, 0]
    ∧ win12_2.index t = ![(grid12.coords t 1).val, (grid12.coords t 0).val] :=
  (by decide +kernel : ∀ t : Fin grid12.N, _)

/-- What reaches the first branch. -/
theorem dy5_out (c : Dev nD) : (dat12 V c).arrAt 2 cfg12.N
    = nt (V c main_v13_0 : Mat 4096 1024) (V c main_v1 : Mat 1024 1024) := by
  refine (dat12 V c).arrAt_eq_of_covers 2 _ (by decide +kernel) fun t hf y => ?_
  blk_simp
  rw [after12_2]
  frame_out
  pointwise [k12_pay1, nt, mk]
  blk_point [iblk12, idx12 t]

theorem idx16 : ∀ t : Fin cfg16.N, win16_0.index t = ![(grid16.coords t 1).val, 0]
    ∧ win16_1.index t = ![(grid16.coords t 0).val, 0]
    ∧ win16_2.index t = ![(grid16.coords t 1).val, (grid16.coords t 0).val]
    ∧ win16_3.index t = ![(grid16.coords t 1).val, (grid16.coords t 0).val] :=
  (by decide +kernel : ∀ t : Fin grid16.N, _)

/-- What reaches the `gelu`. -/
theorem dg_out (c : Dev nD) : (dat16 V c).arrAt 3 cfg16.N
    = ntAdd (V c main_v19_1 : Mat 4096 1024) (V c main_v0 : Mat 1024 1024) (V c main_v19_0 : Mat 4096 1024) := by
  refine (dat16 V c).arrAt_eq_of_covers 3 _ (by decide +kernel) fun t hf y => ?_
  blk_simp
  rw [after16_3]
  frame_out
  pointwise [k16_pay1, ntAdd, mk]
  blk_point [iblk16, idx16 t]

end Mix

end
-- ==== Proof.Mixer.Weights.lean ====
/- The gradients of the four weights: what each call leaves in its result array. -/
module

public import proofs.«01_k».proof.Proof.Mixer.Mat
public import proofs.«01_k».proof.Proof.Gen.MixerIdeal.Frame.Region7
public import proofs.«01_k».proof.Proof.Gen.MixerIdeal.Frame.Region10
public import proofs.«01_k».proof.Proof.Gen.MixerIdeal.Frame.Region13
public import proofs.«01_k».proof.Proof.Gen.MixerIdeal.Frame.Region15
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem idx7 : ∀ t : Fin cfg7.N, win7_0.index t = ![0, (grid7.coords t 0).val]
    ∧ win7_1.index t = ![0, (grid7.coords t 1).val]
    ∧ win7_2.index t = ![(grid7.coords t 0).val, (grid7.coords t 1).val] :=
  (by decide +kernel : ∀ t : Fin grid7.N, _)

/-- The last weight. -/
theorem dwout_out (c : Dev nD) : (dat7 V c).arrAt 2 cfg7.N
    = tn (V c main_v9 : Mat 4096 1024) (V c main_v10 : Mat 4096 1024) := by
  refine (dat7 V c).arrAt_eq_of_covers 2 _ (by decide +kernel) fun t hf y => ?_
  blk_simp
  rw [after7_2]
  frame_out
  pointwise [k7_pay1, tn, mk]
  blk_point [iblk7, idx7 t]

theorem idx10 : ∀ t : Fin cfg10.N, win10_0.index t = ![0, (grid10.coords t 0).val]
    ∧ win10_1.index t = ![0, (grid10.coords t 1).val]
    ∧ win10_2.index t = ![(grid10.coords t 0).val, (grid10.coords t 1).val] :=
  (by decide +kernel : ∀ t : Fin grid10.N, _)

/-- The second branch's weight. -/
theorem dwpssd_out (c : Dev nD) : (dat10 V c).arrAt 2 cfg10.N
    = tn (V c main_v6 : Mat 4096 2048) (V c main_v13_1 : Mat 4096 1024) := by
  refine (dat10 V c).arrAt_eq_of_covers 2 _ (by decide +kernel) fun t hf y => ?_
  blk_simp
  rw [after10_2]
  frame_out
  pointwise [k10_pay1, tn, mk]
  blk_point [iblk10, idx10 t]

theorem idx13 : ∀ t : Fin cfg13.N, win13_0.index t = ![0, (grid13.coords t 0).val]
    ∧ win13_1.index t = ![0, (grid13.coords t 1).val]
    ∧ win13_2.index t = ![(grid13.coords t 0).val, (grid13.coords t 1).val] :=
  (by decide +kernel : ∀ t : Fin grid13.N, _)

/-- The first branch's weight. -/
theorem dwp5_out (c : Dev nD) : (dat13 V c).arrAt 2 cfg13.N
    = tn (V c main_v5 : Mat 4096 1024) (V c main_v13_0 : Mat 4096 1024) := by
  refine (dat13 V c).arrAt_eq_of_covers 2 _ (by decide +kernel) fun t hf y => ?_
  blk_simp
  rw [after13_2]
  frame_out
  pointwise [k13_pay1, tn, mk]
  blk_point [iblk13, idx13 t]

theorem idx15 : ∀ t : Fin cfg15.N, win15_0.index t = ![0, (grid15.coords t 0).val]
    ∧ win15_1.index t = ![0, (grid15.coords t 1).val]
    ∧ win15_2.index t = ![(grid15.coords t 0).val, (grid15.coords t 1).val] :=
  (by decide +kernel : ∀ t : Fin grid15.N, _)

/-- The gate's weight. -/
theorem dwglu_out (c : Dev nD) : (dat15 V c).arrAt 2 cfg15.N
    = tn (V c main_v4 : Mat 4096 1024) (V c main_v19_1 : Mat 4096 1024) := by
  refine (dat15 V c).arrAt_eq_of_covers 2 _ (by decide +kernel) fun t hf y => ?_
  blk_simp
  rw [after15_2]
  frame_out
  pointwise [k15_pay1, tn, mk]
  blk_point [iblk15, idx15 t]

end Mix

end
-- ==== Proof.Mixer.Glu.lean ====
/- The first branch's gated `gelu` and its gradient: what the calls leave in their result arrays. -/
module

public import proofs.«01_k».proof.Proof.Mixer.Mat
public import proofs.«01_k».proof.Proof.Gen.MixerIdeal.Frame.Region0
public import proofs.«01_k».proof.Proof.Gen.MixerIdeal.Frame.Region1
public import proofs.«01_k».proof.Proof.Gen.MixerIdeal.Frame.Region14
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem idx0 : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- The `gelu`. -/
theorem act_out (c : Dev nD) : (dat0 V c).arrAt 3 cfg0.N
    = act (V c main_arg1 : Mat 4096 1024) (V c main_arg2 : Mat 4096 1024) (V c main_arg6 : Mat 1 1024) := by
  refine (dat0 V c).arrAt_eq_of_covers 3 _ (by decide +kernel) fun t hf y => ?_
  blk_simp
  rw [after0_3]
  frame_out
  pointwise [k0_pay1, act, gelu, th, skip, cA, cB, half, mk]
  blk_point [iblk0, idx0 t]

theorem idx1 : ∀ t : Fin cfg1.N, win1_0.index t = ![(grid1.coords t 1).val, 0]
    ∧ win1_1.index t = ![0, (grid1.coords t 0).val]
    ∧ win1_2.index t = ![(grid1.coords t 1).val, (grid1.coords t 0).val]
    ∧ win1_3.index t = ![0, (grid1.coords t 0).val]
    ∧ win1_4.index t = ![(grid1.coords t 1).val, (grid1.coords t 0).val] :=
  (by decide +kernel : ∀ t : Fin grid1.N, _)

/-- The gated rows. -/
theorem y5_out (c : Dev nD) : (dat1 V c).arrAt 4 cfg1.N
    = glu (V c main_v4 : Mat 4096 1024) (V c main_v0 : Mat 1024 1024) (V c main_arg8 : Mat 1 1024) (V c main_v4 : Mat 4096 1024) := by
  refine (dat1 V c).arrAt_eq_of_covers 4 _ (by decide +kernel) fun t hf y => ?_
  blk_simp
  rw [after1_4]
  frame_out
  pointwise [k1_pay1, glu, gate, mk]
  blk_point [iblk1, idx1 t]

theorem idx14 : ∀ t : Fin cfg14.N, win14_0.index t = ![(grid14.coords t 0).val, 0]
    ∧ win14_1.index t = ![0, (grid14.coords t 1).val]
    ∧ win14_2.index t = ![(grid14.coords t 0).val, (grid14.coords t 1).val]
    ∧ win14_3.index t = ![0, (grid14.coords t 1).val]
    ∧ win14_4.index t = ![(grid14.coords t 0).val, (grid14.coords t 1).val]
    ∧ win14_5.index t = ![(grid14.coords t 0).val, (grid14.coords t 1).val]
    ∧ win14_6.index t = ![(grid14.coords t 0).val, (grid14.coords t 1).val] :=
  (by decide +kernel : ∀ t : Fin grid14.N, _)

/-- What reaches the `gelu` past the gate. -/
theorem dg1_out (c : Dev nD) : (dat14 V c).arrAt 5 cfg14.N
    = glu (V c main_v4 : Mat 4096 1024) (V c main_v0 : Mat 1024 1024) (V c main_arg8 : Mat 1 1024) (V c main_v17 : Mat 4096 1024) := by
  refine (dat14 V c).arrAt_eq_of_covers 5 _ (by decide +kernel) fun t hf y => ?_
  blk_simp
  rw [after14_5]
  frame_out
  pointwise [k14_pay3, k14_pay2, k14_pay1, glu, gate, mk]
  blk_point [iblk14, idx14 t]

/-- What reaches the gate's argument. -/
theorem dt_out (c : Dev nD) : (dat14 V c).arrAt 6 cfg14.N
    = dgl (V c main_v4 : Mat 4096 1024) (V c main_v0 : Mat 1024 1024) (V c main_arg8 : Mat 1 1024) (V c main_v4 : Mat 4096 1024) (V c main_v17 : Mat 4096 1024) := by
  refine (dat14 V c).arrAt_eq_of_covers 6 _ (by decide +kernel) fun t hf y => ?_
  blk_simp
  rw [after14_6]
  frame_out
  pointwise [k14_pay4, k14_pay2, k14_pay1, dgl, gate, mk]
  blk_point [iblk14, idx14 t]

end Mix

end
-- ==== Proof.Mixer.Gelu.lean ====
/- The gradient of the `gelu`, of its skip and of the gate's bias: what the call leaves in its result arrays. -/
module

public import proofs.«01_k».proof.Proof.Mixer.Mat
public import proofs.«01_k».proof.Proof.Gen.MixerIdeal.Frame.Region17
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem idx17 : ∀ t : Fin cfg17.N, win17_0.index t = ![t.val, 0]
    ∧ win17_1.index t = ![t.val, 0]
    ∧ win17_2.index t = ![t.val, 0]
    ∧ win17_3.index t = ![t.val, 0]
    ∧ win17_4.index t = ![0, 0]
    ∧ win17_5.index t = ![t.val, 0]
    ∧ win17_6.index t = ![t.val, 0]
    ∧ win17_7.index t = ![0, 0]
    ∧ win17_8.index t = ![0, 0] :=
  (by decide +kernel : ∀ t : Fin grid17.N, _)

theorem out17_5 (c : Dev nD) (t : Fin cfg17.N) : (outsAt17 V c t.val t.isLt).1 = k17_pay1 (k17_pay10 (iblk17 V c 0 t) (iblk17 V c 1 t) (iblk17 V c 4 t)) (k17_pay12 (iblk17 V c 0 t) (iblk17 V c 1 t) (iblk17 V c 2 t) (iblk17 V c 4 t)) (k17_pay13 (iblk17 V c 0 t) (iblk17 V c 1 t) (iblk17 V c 2 t) (iblk17 V c 4 t)) k17_pay14 := by
  by_cases h : t.val % 8 = 0
  · rw [outsAt17_A V c t h]; frame_out
  · rw [outsAt17_B V c t h]; frame_out

theorem out17_6 (c : Dev nD) (t : Fin cfg17.N) : (outsAt17 V c t.val t.isLt).2.1 = k17_pay2 (iblk17 V c 4 t) (k17_pay10 (iblk17 V c 0 t) (iblk17 V c 1 t) (iblk17 V c 4 t)) (k17_pay12 (iblk17 V c 0 t) (iblk17 V c 1 t) (iblk17 V c 2 t) (iblk17 V c 4 t)) (k17_pay13 (iblk17 V c 0 t) (iblk17 V c 1 t) (iblk17 V c 2 t) (iblk17 V c 4 t)) k17_pay14 := by
  by_cases h : t.val % 8 = 0
  · rw [outsAt17_A V c t h]; frame_out
  · rw [outsAt17_B V c t h]; frame_out

/-- What reaches the scan. -/
theorem dys_out (c : Dev nD) : (dat17 V c).arrAt 5 cfg17.N
    = dact (V c main_arg1 : Mat 4096 1024) (V c main_arg2 : Mat 4096 1024) (V c main_v21 : Mat 4096 1024) (V c main_arg6 : Mat 1 1024) := by
  refine (dat17 V c).arrAt_eq_of_covers 5 _ (by decide +kernel) fun t hf y => ?_
  blk_simp
  rw [after17_5, out17_5]
  pointwise [k17_pay2, k17_pay1, k17_pay7, k17_pay9, k17_pay10, k17_pay11, k17_pay12, k17_pay13, k17_pay14, dact, skip, dgelu, gelu, dth, th, cA, cB, three, half, mk]
  blk_point [iblk17, idx17 t]

/-- What reaches the skip. -/
theorem dusk_out (c : Dev nD) : (dat17 V c).arrAt 6 cfg17.N
    = scale (dact (V c main_arg1 : Mat 4096 1024) (V c main_arg2 : Mat 4096 1024) (V c main_v21 : Mat 4096 1024) (V c main_arg6 : Mat 1 1024)) (V c main_arg6 : Mat 1 1024) := by
  refine (dat17 V c).arrAt_eq_of_covers 6 _ (by decide +kernel) fun t hf y => ?_
  blk_simp
  rw [after17_6, out17_6]
  pointwise [k17_pay2, k17_pay1, k17_pay7, k17_pay9, k17_pay10, k17_pay11, k17_pay12, k17_pay13, k17_pay14, scale, dact, skip, dgelu, gelu, dth, th, cA, cB, three, half, mk]
  blk_point [iblk17, idx17 t]

theorem zero17_3 (y : S1x1024.Idx) : k17_pay3 (F := Ideal) y = 0 := by
  pointwise [k17_pay3]

theorem zero17_4 (y : S1x1024.Idx) : k17_pay4 (F := Ideal) y = 0 := by
  pointwise [k17_pay4]

theorem step17_7 (x u g : Vec Ideal S512x1024 .f32) (d v : Vec Ideal S1x1024 .f32) (y : S1x1024.Idx) :
    k17_pay5 u (k17_pay10 x u d) (k17_pay12 x u g d) (k17_pay13 x u g d) k17_pay14 v y
      = v y + ∑ r : Fin 512, dact (x : Mat 512 1024) (u : Mat 512 1024) (g : Mat 512 1024) (d : Mat 1 1024) (ix2 r (y 1)) * (u : Mat 512 1024) (ix2 r (y 1)) := by
  pointwise [k17_pay5, k17_pay2, k17_pay1, k17_pay7, k17_pay9, k17_pay10, k17_pay11, k17_pay12, k17_pay13, k17_pay14, dact, skip, dgelu, gelu, dth, th, cA, cB, three, half, mk]

theorem step17_8 (x : Vec Ideal S512x1024 .bf16) (v : Vec Ideal S1x1024 .f32) (y : S1x1024.Idx) :
    k17_pay6 (k17_pay8 x) v y = v y + ∑ r : Fin 512, (x : Mat 512 1024) (ix2 r (y 1)) := by
  pointwise [k17_pay6, k17_pay8]

/-- The gradient of the skip: each grid point adds its 512 rows. -/
theorem dD_out (c : Dev nD) : (dat17 V c).arrAt 7 cfg17.N
    = colDot (dact (V c main_arg1 : Mat 4096 1024) (V c main_arg2 : Mat 4096 1024) (V c main_v21 : Mat 4096 1024) (V c main_arg6 : Mat 1 1024)) (V c main_arg2 : Mat 4096 1024) := by
  refine (dat17 V c).arrAt_eq_of_covers 7 _ (by decide +kernel) fun t hf y => ?_
  have ht : t.val + 1 = cfg17.N := by
    have := (flush17_7 t).mp hf
    have := t.isLt
    have hN : cfg17.N = 8 := by decide
    omega
  blk_simp
  rw [after17_7, Pipeline.eq_sum_fin_of_reset_step_apply_last (fun n h => (outsAt17 V c n h).2.2.1) 8 (fun _ => 0) _
    (fun t h j => by rw [outsAt17_A V c t h]; frame_out; rw [step17_7, zero17_3])
    (fun t h j => by rw [outsAt17_B V c t h]; frame_out; rw [step17_7])
    (by decide) t ht y, zero_add]
  pointwise [colDot, dact, skip, dgelu, gelu, dth, th, cA, cB, three, half, mk]
  refine Fin.sum_mul_add_congr fun p k hl => ?_
  blk_point [iblk17, idx17 p, idx17 t]

/-- The gradient of the gate's bias. -/
theorem dbglu_out (c : Dev nD) : (dat17 V c).arrAt 8 cfg17.N
    = colSum (V c main_v19_1 : Mat 4096 1024) := by
  refine (dat17 V c).arrAt_eq_of_covers 8 _ (by decide +kernel) fun t hf y => ?_
  have ht : t.val + 1 = cfg17.N := by
    have := (flush17_8 t).mp hf
    have := t.isLt
    have hN : cfg17.N = 8 := by decide
    omega
  blk_simp
  rw [after17_8, Pipeline.eq_sum_fin_of_reset_step_apply_last (fun n h => (outsAt17 V c n h).2.2.2) 8 (fun _ => 0) _
    (fun t h j => by rw [outsAt17_A V c t h]; frame_out; rw [step17_8, zero17_4])
    (fun t h j => by rw [outsAt17_B V c t h]; frame_out; rw [step17_8])
    (by decide) t ht y, zero_add]
  pointwise [colSum, mk]
  refine Fin.sum_mul_add_congr fun p k hl => ?_
  blk_point [iblk17, idx17 p, idx17 t]

end Mix

end
-- ==== Proof.Mixer.Gate.lean ====
/- The second branch's gated normalisation and its gradient: what the calls leave in their result arrays. -/
module

public import proofs.«01_k».proof.Proof.Mixer.Mat
public import proofs.«01_k».proof.Proof.Gen.MixerIdeal.Frame.Region2
public import proofs.«01_k».proof.Proof.Gen.MixerIdeal.Frame.Region11
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem idx2 : ∀ t : Fin cfg2.N, win2_0.index t = ![t.val, 0]
    ∧ win2_1.index t = ![t.val, 0]
    ∧ win2_2.index t = ![0, 0]
    ∧ win2_3.index t = ![t.val, 0] :=
  (by decide +kernel : ∀ t : Fin grid2.N, _)

/-- The normalised rows. -/
theorem yssd_out (c : Dev nD) : (dat2 V c).arrAt 3 cfg2.N
    = gnorm (V c main_arg3 : Mat 4096 2048) (V c main_arg4 : Mat 4096 2048) (V c main_arg10 : Mat 1 2048) := by
  refine (dat2 V c).arrAt_eq_of_covers 3 _ (by decide +kernel) fun t hf y => ?_
  blk_simp
  rw [after2_3]
  frame_out
  pointwise [k2_pay1, gnorm, gated, ms, mk]
  blk_point [iblk2, idx2 t]

theorem idx11 : ∀ t : Fin cfg11.N, win11_0.index t = ![t.val, 0]
    ∧ win11_1.index t = ![t.val, 0]
    ∧ win11_2.index t = ![t.val, 0]
    ∧ win11_3.index t = ![0, 0]
    ∧ win11_4.index t = ![t.val, 0]
    ∧ win11_5.index t = ![t.val, 0]
    ∧ win11_6.index t = ![0, 0] :=
  (by decide +kernel : ∀ t : Fin grid11.N, _)

theorem out11_4 (c : Dev nD) (t : Fin cfg11.N) : (outsAt11 V c t.val t.isLt).1 = k11_pay2 (k11_pay9 (iblk11 V c 1 t)) (k11_pay10 (iblk11 V c 0 t) (iblk11 V c 1 t)) (k11_pay15 (iblk11 V c 0 t) (iblk11 V c 1 t) (iblk11 V c 2 t) (iblk11 V c 3 t)) (k11_pay16 (iblk11 V c 0 t) (iblk11 V c 1 t) (iblk11 V c 2 t) (iblk11 V c 3 t)) := by
  by_cases h : t.val % 16 = 0
  · rw [outsAt11_A V c t h]; frame_out
  · rw [outsAt11_B V c t h]; frame_out

theorem out11_5 (c : Dev nD) (t : Fin cfg11.N) : (outsAt11 V c t.val t.isLt).2.1 = k11_pay3 (iblk11 V c 0 t) (iblk11 V c 1 t) (k11_pay7 (iblk11 V c 1 t)) (k11_pay8 (iblk11 V c 1 t)) (k11_pay10 (iblk11 V c 0 t) (iblk11 V c 1 t)) (k11_pay15 (iblk11 V c 0 t) (iblk11 V c 1 t) (iblk11 V c 2 t) (iblk11 V c 3 t)) (k11_pay16 (iblk11 V c 0 t) (iblk11 V c 1 t) (iblk11 V c 2 t) (iblk11 V c 3 t)) := by
  by_cases h : t.val % 16 = 0
  · rw [outsAt11_A V c t h]; frame_out
  · rw [outsAt11_B V c t h]; frame_out

/-- The gradient of the branch's output. -/
theorem dyraw_out (c : Dev nD) : (dat11 V c).arrAt 4 cfg11.N
    = dyraw (V c main_arg3 : Mat 4096 2048) (V c main_arg4 : Mat 4096 2048) (V c main_v14 : Mat 4096 2048) (V c main_arg10 : Mat 1 2048) := by
  refine (dat11 V c).arrAt_eq_of_covers 4 _ (by decide +kernel) fun t hf y => ?_
  blk_simp
  rw [after11_4, out11_4]
  pointwise [k11_pay1, k11_pay2, k11_pay3, k11_pay6, k11_pay7, k11_pay8, k11_pay9, k11_pay10, k11_pay11, k11_pay12, k11_pay14, k11_pay15, k11_pay16, dyraw, dgated, gcoef, gated, ms, mk]
  blk_point [iblk11, idx11 t]

/-- The gradient of its gate. -/
theorem dz_out (c : Dev nD) : (dat11 V c).arrAt 5 cfg11.N
    = dz (V c main_arg3 : Mat 4096 2048) (V c main_arg4 : Mat 4096 2048) (V c main_v14 : Mat 4096 2048) (V c main_arg10 : Mat 1 2048) := by
  refine (dat11 V c).arrAt_eq_of_covers 5 _ (by decide +kernel) fun t hf y => ?_
  blk_simp
  rw [after11_5, out11_5]
  pointwise [k11_pay1, k11_pay2, k11_pay3, k11_pay6, k11_pay7, k11_pay8, k11_pay9, k11_pay10, k11_pay11, k11_pay12, k11_pay14, k11_pay15, k11_pay16, dz, dgated, gcoef, gated, ms, mk]
  blk_point [iblk11, idx11 t]

theorem zero11_4 (y : S1x2048.Idx) : k11_pay4 (F := Ideal) y = 0 := by
  pointwise [k11_pay4]

theorem step11_6 (x z g : Vec Ideal S256x2048 .f32) (v : Vec Ideal S1x2048 .f32) (y : S1x2048.Idx) :
    k11_pay5 (k11_pay13 x z g) v y
      = v y + ∑ r : Fin 256, dnTerm (x : Mat 256 2048) (z : Mat 256 2048) (g : Mat 256 2048) r (y 1) := by
  pointwise [k11_pay5, k11_pay13, k11_pay12, k11_pay11, k11_pay10, k11_pay9, k11_pay7, k11_pay6, dnTerm, gated, ms, mk]

/-- The gradient of the gain: each grid point adds its 256 rows. -/
theorem dn_out (c : Dev nD) : (dat11 V c).arrAt 6 cfg11.N
    = dn (V c main_arg3 : Mat 4096 2048) (V c main_arg4 : Mat 4096 2048) (V c main_v14 : Mat 4096 2048) := by
  refine (dat11 V c).arrAt_eq_of_covers 6 _ (by decide +kernel) fun t hf y => ?_
  have ht : t.val + 1 = cfg11.N := by
    have := (flush11_6 t).mp hf
    have := t.isLt
    have hN : cfg11.N = 16 := by decide
    omega
  blk_simp
  rw [after11_6, Pipeline.eq_sum_fin_of_reset_step_apply_last (fun n h => (outsAt11 V c n h).2.2) 16 (fun _ => 0) _
    (fun t h j => by rw [outsAt11_A V c t h]; frame_out; rw [step11_6, zero11_4])
    (fun t h j => by rw [outsAt11_B V c t h]; frame_out; rw [step11_6])
    (by decide) t ht y, zero_add]
  pointwise [dn, dnTerm, gated, ms, mk]
  refine Fin.sum_mul_add_congr fun p k hl => ?_
  blk_point [iblk11, idx11 p, idx11 t]

end Mix

end
-- ==== Proof.Mixer.Merge.lean ====
/- The gated sum of the branches and its gradient: what the calls leave in their result arrays. -/
module

public import proofs.«01_k».proof.Proof.Mixer.Mat
public import proofs.«01_k».proof.Proof.Gen.MixerIdeal.Frame.Region5
public import proofs.«01_k».proof.Proof.Gen.MixerIdeal.Frame.Region8
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem idx5 : ∀ t : Fin cfg5.N, win5_0.index t = ![t.val, 0]
    ∧ win5_1.index t = ![t.val, 0]
    ∧ win5_2.index t = ![t.val, 0]
    ∧ win5_3.index t = ![0, 0]
    ∧ win5_4.index t = ![t.val, 0] :=
  (by decide +kernel : ∀ t : Fin grid5.N, _)

/-- The gated sum. -/
theorem merged_out (c : Dev nD) : (dat5 V c).arrAt 4 cfg5.N
    = merge (V c main_arg5 : Mat 4096 2048) (V c main_arg12 : Mat 1 2048) (V c main_v7 : Mat 4096 1024) (V c main_v8 : Mat 4096 1024) := by
  refine (dat5 V c).arrAt_eq_of_covers 4 _ (by decide +kernel) fun t hf y => ?_
  blk_simp
  rw [after5_4]
  frame_out
  pointwise [k5_pay1, merge, sg, lo, hi, mk]
  blk_point [iblk5, idx5 t]

theorem idx8 : ∀ t : Fin cfg8.N, win8_0.index t = ![t.val, 0]
    ∧ win8_1.index t = ![t.val, 0]
    ∧ win8_2.index t = ![t.val, 0]
    ∧ win8_3.index t = ![t.val, 0]
    ∧ win8_4.index t = ![0, 0]
    ∧ win8_5.index t = ![t.val, 0]
    ∧ win8_6.index t = ![t.val, 0]
    ∧ win8_7.index t = ![t.val, 0]
    ∧ win8_8.index t = ![0, 0] :=
  (by decide +kernel : ∀ t : Fin grid8.N, _)

theorem out8_5 (c : Dev nD) (t : Fin cfg8.N) : (outsAt8 V c t.val t.isLt).1 = k8_pay7 (iblk8 V c 0 t) (iblk8 V c 3 t) (iblk8 V c 4 t) := by
  by_cases h : t.val % 16 = 0
  · rw [outsAt8_A V c t h]; frame_out
  · rw [outsAt8_B V c t h]; frame_out

theorem out8_6 (c : Dev nD) (t : Fin cfg8.N) : (outsAt8 V c t.val t.isLt).2.1 = k8_pay8 (iblk8 V c 0 t) (iblk8 V c 3 t) (iblk8 V c 4 t) := by
  by_cases h : t.val % 16 = 0
  · rw [outsAt8_A V c t h]; frame_out
  · rw [outsAt8_B V c t h]; frame_out

theorem out8_7 (c : Dev nD) (t : Fin cfg8.N) : (outsAt8 V c t.val t.isLt).2.2.1 = k8_pay9 (iblk8 V c 0 t) (iblk8 V c 1 t) (iblk8 V c 2 t) (iblk8 V c 3 t) (iblk8 V c 4 t) := by
  by_cases h : t.val % 16 = 0
  · rw [outsAt8_A V c t h]; frame_out
  · rw [outsAt8_B V c t h]; frame_out

/-- What reaches the first branch. -/
theorem dp5_out (c : Dev nD) : (dat8 V c).arrAt 5 cfg8.N
    = dlo (V c main_arg5 : Mat 4096 2048) (V c main_arg12 : Mat 1 2048) (V c main_v11 : Mat 4096 1024) := by
  refine (dat8 V c).arrAt_eq_of_covers 5 _ (by decide +kernel) fun t hf y => ?_
  blk_simp
  rw [after8_5, out8_5]
  pointwise [k8_pay7, k8_pay4, k8_pay3, dlo, sg, lo, mk]
  blk_point [iblk8, idx8 t]

/-- What reaches the second branch. -/
theorem dpssd_out (c : Dev nD) : (dat8 V c).arrAt 6 cfg8.N
    = dhi (V c main_arg5 : Mat 4096 2048) (V c main_arg12 : Mat 1 2048) (V c main_v11 : Mat 4096 1024) := by
  refine (dat8 V c).arrAt_eq_of_covers 6 _ (by decide +kernel) fun t hf y => ?_
  blk_simp
  rw [after8_6, out8_6]
  pointwise [k8_pay8, k8_pay4, k8_pay3, dhi, sg, hi, mk]
  blk_point [iblk8, idx8 t]

end Mix

end
-- ==== Proof.Mixer.Gates.lean ====
/- The gradients of the gates' arguments and of their bias: what the call leaves in these two result arrays. -/
module

public import proofs.«01_k».proof.Proof.Mixer.Merge
public import Idealize.ShloMosaic.Lib.Pipeline.ValueKit

@[expose] public section

set_option maxRecDepth 16384

noncomputable section

namespace Mix

open Idealize.ShloMosaic Idealize.ShloMosaic.TcCoe Idealize.SL.Sem Ffn
open Cert.MixerIdeal Cert.MixerIdeal.Gen

variable (V : (c : Dev nD) → (b : Ref sig .tc) → Buf (Elt Ideal) ((c : Thread nD τ).loc b))

theorem dq_pay (Q : Vec Ideal S256x2048 .f32) (A B C : Vec Ideal S256x1024 .f32) (b : Vec Ideal S1x2048 .f32) :
    k8_pay5 Q A B C b = dq (Q : Mat 256 2048) (b : Mat 1 2048) (A : Mat 256 1024) (B : Mat 256 1024) (C : Mat 256 1024) := by
  funext j
  pointwise [k8_pay5, k8_pay4, k8_pay3, dq, dsg, sg, mk]
  congr 1
  by_cases h : (j 1).val < 1024
  · rw [dif_pos h, dif_pos h, dif_pos h, zero_add]
  · rw [dif_neg h, dif_neg h, dif_neg h, add_zero]

/-- What reaches the gates' arguments. -/
theorem dq_out (c : Dev nD) : (dat8 V c).arrAt 7 cfg8.N = dq (V c main_arg5 : Mat 4096 2048) (V c main_arg12 : Mat 1 2048) (V c main_v7 : Mat 4096 1024) (V c main_v8 : Mat 4096 1024) (V c main_v11 : Mat 4096 1024) := by
  refine (dat8 V c).arrAt_eq_of_covers 7 _ (by decide +kernel) fun t hf y => ?_
  blk_simp
  rw [after8_7, out8_7]
  pointwise [k8_pay9, dq_pay, dq, dsg, sg, mk]
  have he : (((View.whole main_v13_2).slice (win8_7.rect t)).emb y 1).val = (y 1).val := by
    blk_point [idx8 t]
  blk_point [iblk8, idx8 t]
  all_goals omega

theorem zero8_1 (y : S1x2048.Idx) : k8_pay1 (F := Ideal) y = 0 := by
  pointwise [k8_pay1]

theorem step8_8 (Q : Vec Ideal S256x2048 .f32) (A B C : Vec Ideal S256x1024 .f32) (b v : Vec Ideal S1x2048 .f32) (y : S1x2048.Idx) :
    k8_pay2 (k8_pay6 Q A B C b) v y
      = v y + ∑ r : Fin 256, dq (Q : Mat 256 2048) (b : Mat 1 2048) (A : Mat 256 1024) (B : Mat 256 1024) (C : Mat 256 1024) (ix2 r (y 1)) := by
  pointwise [k8_pay2, k8_pay6, dq_pay]

/-- The gradient of the gates' bias: each grid point adds its 256 rows. -/
theorem dbg_out (c : Dev nD) : (dat8 V c).arrAt 8 cfg8.N
    = colSum (dq (V c main_arg5 : Mat 4096 2048) (V c main_arg12 : Mat 1 2048) (V c main_v7 : Mat 4096 1024) (V c main_v8 : Mat 4096 1024) (V c main_v11 : Mat 4096 1024)) := by
  refine (dat8 V c).arrAt_eq_of_covers 8 _ (by decide +kernel) fun t hf y => ?_
  have ht : t.val + 1 = cfg8.N := by
    have := (flush8_8 t).mp hf
    have := t.isLt
    have hN : cfg8.N = 16 := by decide
    omega
  blk_simp
  rw [after8_8, Pipeline.eq_sum_fin_of_reset_step_apply_last (fun n h => (outsAt8 V c n h).2.2.2) 16 (fun _ => 0) _
    (fun t h j => by rw [outsAt8_A V c t h]; frame_out; rw [step8_8, zero8_1])
    (fun t h j => by rw [outsAt8_B V c t h]; frame_out; rw [step8_8])
    (by decide) t ht y, zero_add]
  pointwise [colSum, dq, dsg, sg, mk]
  refine Fin.sum_mul_add_congr fun p k hl => ?_
  have he : (((View.whole main_v13_3).slice (win8_8.rect t)).emb y 1).val = (y 1).val := by
    blk_point [idx8 t]
  blk_point [iblk8, idx8 p, idx8 t]
  all_goals omega

end Mix

end
-- ==== Proof.Mixer.Fold.lean ====
/-
  What each array holds when the call that reads it is entered, as an expression of the arguments: the calls' result
  arrays, carried over the calls in between, which do not write them.
-/
module

public import proofs.«01_k».proof.Proof.Mixer.Args
public import proofs.«01_k».proof.Proof.Mixer.Forward
public import proofs.«01_k».proof.Proof.Mixer.Inputs
public import proofs.«01_k».proof.Proof.Mixer.Weights
public import proofs.«01_k».proof.Proof.Mixer.Glu
public import proofs.«01_k».proof.Proof.Mixer.Gelu
public import proofs.«01_k».proof.Proof.Mixer.Gate
public import proofs.«01_k».proof.Proof.Mixer.Gates
public import proofs.«01_k».proof.Proof.Gen.MixerIdeal.Frame.Fold0
public import Idealize.ShloMosaic.Lib.StableHlo.ReadAt

@[expose] public section

set_option maxRecDepth 16384

noncomputable section

namespace Mix

open Idealize.ShloMosaic Idealize.ShloMosaic.TcCoe Idealize.SL.Sem Ffn
open Cert.MixerIdeal Cert.MixerIdeal.Gen

variable (m : (p : Loc nD τ sig) → Buf (Elt Ideal) p) (ρ : Dev nD → PrngReg) (c : Dev nD)

/-- The arguments on a device. -/
def args : Args where
  dy := m ((c : Thread nD τ).loc main_arg0)
  ys := m ((c : Thread nD τ).loc main_arg1)
  u := m ((c : Thread nD τ).loc main_arg2)
  yr := m ((c : Thread nD τ).loc main_arg3)
  z := m ((c : Thread nD τ).loc main_arg4)
  gl := m ((c : Thread nD τ).loc main_arg5)
  skipD := m ((c : Thread nD τ).loc main_arg6)
  wg := m ((c : Thread nD τ).loc main_arg7)
  bg := m ((c : Thread nD τ).loc main_arg8)
  wp := m ((c : Thread nD τ).loc main_arg9)
  gain := m ((c : Thread nD τ).loc main_arg10)
  ws := m ((c : Thread nD τ).loc main_arg11)
  bq := m ((c : Thread nD τ).loc main_arg12)
  wo := m ((c : Thread nD τ).loc main_arg13)

/-! ## Host operations: the weights cast -/

theorem v0_at : W1 m ρ c main_v0 = ((args m c).wg : Mat 1024 1024) := by
  funext j
  after_reads_at
  rfl

theorem v1_at : W1 m ρ c main_v1 = ((args m c).wp : Mat 1024 1024) := by
  funext j
  after_reads_at
  rfl

theorem v2_at : W1 m ρ c main_v2 = ((args m c).ws : Mat 2048 1024) := by
  funext j
  after_reads_at
  rfl

theorem v3_at : W1 m ρ c main_v3 = ((args m c).wo : Mat 1024 1024) := by
  funext j
  after_reads_at
  rfl

/-! ## The calls -/

theorem v4_at : W2 m ρ c main_v4 = (kG (args m c) : Mat 4096 1024) := by
  refine ((W2_arr m ρ c 3).trans (act_out _ c)).trans ?_
  show act (W1 m ρ c main_arg1) (W1 m ρ c main_arg2) (W1 m ρ c main_arg6) = _
  rw [W1_args m ρ c main_arg1 (by decide), W1_args m ρ c main_arg2 (by decide), W1_args m ρ c main_arg6 (by decide)]
  rfl

theorem v5_at : W3 m ρ c main_v5 = (kY5 (args m c) : Mat 4096 1024) := by
  refine ((W3_arr m ρ c 4).trans (y5_out _ c)).trans ?_
  show glu (W2 m ρ c main_v4) (W2 m ρ c main_v0) (W2 m ρ c main_arg8) (W2 m ρ c main_v4) = _
  rw [v4_at m ρ c, W2_of m ρ c main_v0 (by decide), v0_at m ρ c, W2_args m ρ c main_arg8 (by decide)]
  rfl

theorem v6_at : W4 m ρ c main_v6 = (kYs (args m c) : Mat 4096 2048) := by
  refine ((W4_arr m ρ c 3).trans (yssd_out _ c)).trans ?_
  show gnorm (W3 m ρ c main_arg3) (W3 m ρ c main_arg4) (W3 m ρ c main_arg10) = _
  rw [W3_args m ρ c main_arg3 (by decide), W3_args m ρ c main_arg4 (by decide), W3_args m ρ c main_arg10 (by decide)]
  rfl

theorem v7_at : W5 m ρ c main_v7 = (kP5 (args m c) : Mat 4096 1024) := by
  refine ((W5_arr m ρ c 2).trans (p5_out _ c)).trans ?_
  show nn (W4 m ρ c main_v5) (W4 m ρ c main_v1) = _
  rw [W4_of m ρ c main_v5 (by decide), v5_at m ρ c, W4_of m ρ c main_v1 (by decide), W3_of m ρ c main_v1 (by decide),
    W2_of m ρ c main_v1 (by decide), v1_at m ρ c]
  rfl

theorem v8_at : W6 m ρ c main_v8 = (kPs (args m c) : Mat 4096 1024) := by
  refine ((W6_arr m ρ c 2).trans (pssd_out _ c)).trans ?_
  show nn (W5 m ρ c main_v6) (W5 m ρ c main_v2) = _
  rw [W5_of m ρ c main_v6 (by decide), v6_at m ρ c, W5_of m ρ c main_v2 (by decide), W4_of m ρ c main_v2 (by decide),
    W3_of m ρ c main_v2 (by decide), W2_of m ρ c main_v2 (by decide), v2_at m ρ c]
  rfl

theorem v9_at : W7 m ρ c main_v9 = (kM (args m c) : Mat 4096 1024) := by
  refine ((W7_arr m ρ c 4).trans (merged_out _ c)).trans ?_
  show merge (W6 m ρ c main_arg5) (W6 m ρ c main_arg12) (W6 m ρ c main_v7) (W6 m ρ c main_v8) = _
  rw [W6_args m ρ c main_arg5 (by decide), W6_args m ρ c main_arg12 (by decide), W6_of m ρ c main_v7 (by decide),
    v7_at m ρ c, v8_at m ρ c]
  rfl

theorem v10_at : W8 m ρ c main_v10 = ((args m c).dy : Mat 4096 1024) := by
  have h : W8 m ρ c main_v10 = (W7 m ρ c main_arg0 : Mat 4096 1024) := by
    funext j
    after_reads_at
  rw [h, W7_args m ρ c main_arg0 (by decide)]
  rfl

theorem v11_at : W9 m ρ c main_v11 = (kDm (args m c) : Mat 4096 1024) := by
  refine ((W9_arr m ρ c 2).trans (dmerged_out _ c)).trans ?_
  show nt (W8 m ρ c main_v10) (W8 m ρ c main_v3) = _
  rw [v10_at m ρ c, W8_of m ρ c main_v3 (by decide), W7_of m ρ c main_v3 (by decide),
    W6_of m ρ c main_v3 (by decide), W5_of m ρ c main_v3 (by decide), W4_of m ρ c main_v3 (by decide),
    W3_of m ρ c main_v3 (by decide), W2_of m ρ c main_v3 (by decide), v3_at m ρ c]
  rfl

theorem v12_at : W10 m ρ c main_v12 = (kDwo (args m c) : Mat 1024 1024) := by
  refine ((W10_arr m ρ c 2).trans (dwout_out _ c)).trans ?_
  show tn (W9 m ρ c main_v9) (W9 m ρ c main_v10) = _
  rw [W9_of m ρ c main_v9 (by decide), W8_of m ρ c main_v9 (by decide), v9_at m ρ c,
    W9_of m ρ c main_v10 (by decide), v10_at m ρ c]
  rfl

theorem v13_0_at : W11 m ρ c main_v13_0 = (kD5 (args m c) : Mat 4096 1024) := by
  refine ((W11_arr m ρ c 5).trans (dp5_out _ c)).trans ?_
  show dlo (W10 m ρ c main_arg5) (W10 m ρ c main_arg12) (W10 m ρ c main_v11) = _
  rw [W10_args m ρ c main_arg5 (by decide), W10_args m ρ c main_arg12 (by decide), W10_of m ρ c main_v11 (by decide),
    v11_at m ρ c]
  rfl

theorem v13_1_at : W11 m ρ c main_v13_1 = (kDs (args m c) : Mat 4096 1024) := by
  refine ((W11_arr m ρ c 6).trans (dpssd_out _ c)).trans ?_
  show dhi (W10 m ρ c main_arg5) (W10 m ρ c main_arg12) (W10 m ρ c main_v11) = _
  rw [W10_args m ρ c main_arg5 (by decide), W10_args m ρ c main_arg12 (by decide), W10_of m ρ c main_v11 (by decide),
    v11_at m ρ c]
  rfl

theorem v13_2_at : W11 m ρ c main_v13_2 = (kDq (args m c) : Mat 4096 2048) := by
  refine ((W11_arr m ρ c 7).trans (dq_out _ c)).trans ?_
  show dq (W10 m ρ c main_arg5) (W10 m ρ c main_arg12) (W10 m ρ c main_v7) (W10 m ρ c main_v8) (W10 m ρ c main_v11) = _
  rw [W10_args m ρ c main_arg5 (by decide), W10_args m ρ c main_arg12 (by decide), W10_of m ρ c main_v7 (by decide),
    W9_of m ρ c main_v7 (by decide), W8_of m ρ c main_v7 (by decide), W7_of m ρ c main_v7 (by decide),
    W6_of m ρ c main_v7 (by decide), v7_at m ρ c, W10_of m ρ c main_v8 (by decide), W9_of m ρ c main_v8 (by decide),
    W8_of m ρ c main_v8 (by decide), W7_of m ρ c main_v8 (by decide), v8_at m ρ c, W10_of m ρ c main_v11 (by decide),
    v11_at m ρ c]
  rfl

theorem v13_3_at : W11 m ρ c main_v13_3 = (kDbq (args m c) : Mat 1 2048) := by
  refine ((W11_arr m ρ c 8).trans (dbg_out _ c)).trans ?_
  show colSum (dq (W10 m ρ c main_arg5) (W10 m ρ c main_arg12) (W10 m ρ c main_v7) (W10 m ρ c main_v8) (W10 m ρ c main_v11)) = _
  rw [W10_args m ρ c main_arg5 (by decide), W10_args m ρ c main_arg12 (by decide), W10_of m ρ c main_v7 (by decide),
    W9_of m ρ c main_v7 (by decide), W8_of m ρ c main_v7 (by decide), W7_of m ρ c main_v7 (by decide),
    W6_of m ρ c main_v7 (by decide), v7_at m ρ c, W10_of m ρ c main_v8 (by decide), W9_of m ρ c main_v8 (by decide),
    W8_of m ρ c main_v8 (by decide), W7_of m ρ c main_v8 (by decide), v8_at m ρ c, W10_of m ρ c main_v11 (by decide),
    v11_at m ρ c]
  rfl

theorem v14_at : W12 m ρ c main_v14 = (kDys (args m c) : Mat 4096 2048) := by
  refine ((W12_arr m ρ c 2).trans (dyssd_out _ c)).trans ?_
  show nt (W11 m ρ c main_v13_1) (W11 m ρ c main_v2) = _
  rw [v13_1_at m ρ c, W11_of m ρ c main_v2 (by decide), W10_of m ρ c main_v2 (by decide),
    W9_of m ρ c main_v2 (by decide), W8_of m ρ c main_v2 (by decide), W7_of m ρ c main_v2 (by decide),
    W6_of m ρ c main_v2 (by decide), W5_of m ρ c main_v2 (by decide), W4_of m ρ c main_v2 (by decide),
    W3_of m ρ c main_v2 (by decide), W2_of m ρ c main_v2 (by decide), v2_at m ρ c]
  rfl

theorem v15_at : W13 m ρ c main_v15 = (kDws (args m c) : Mat 2048 1024) := by
  refine ((W13_arr m ρ c 2).trans (dwpssd_out _ c)).trans ?_
  show tn (W12 m ρ c main_v6) (W12 m ρ c main_v13_1) = _
  rw [W12_of m ρ c main_v6 (by decide), W11_of m ρ c main_v6 (by decide), W10_of m ρ c main_v6 (by decide),
    W9_of m ρ c main_v6 (by decide), W8_of m ρ c main_v6 (by decide), W7_of m ρ c main_v6 (by decide),
    W6_of m ρ c main_v6 (by decide), W5_of m ρ c main_v6 (by decide), v6_at m ρ c,
    W12_of m ρ c main_v13_1 (by decide), v13_1_at m ρ c]
  rfl

theorem v16_0_at : W14 m ρ c main_v16_0 = (kDyr (args m c) : Mat 4096 2048) := by
  refine ((W14_arr m ρ c 4).trans (dyraw_out _ c)).trans ?_
  show dyraw (W13 m ρ c main_arg3) (W13 m ρ c main_arg4) (W13 m ρ c main_v14) (W13 m ρ c main_arg10) = _
  rw [W13_args m ρ c main_arg3 (by decide), W13_args m ρ c main_arg4 (by decide), W13_of m ρ c main_v14 (by decide),
    v14_at m ρ c, W13_args m ρ c main_arg10 (by decide)]
  rfl

theorem v16_1_at : W14 m ρ c main_v16_1 = (kDz (args m c) : Mat 4096 2048) := by
  refine ((W14_arr m ρ c 5).trans (dz_out _ c)).trans ?_
  show dz (W13 m ρ c main_arg3) (W13 m ρ c main_arg4) (W13 m ρ c main_v14) (W13 m ρ c main_arg10) = _
  rw [W13_args m ρ c main_arg3 (by decide), W13_args m ρ c main_arg4 (by decide), W13_of m ρ c main_v14 (by decide),
    v14_at m ρ c, W13_args m ρ c main_arg10 (by decide)]
  rfl

theorem v16_2_at : W14 m ρ c main_v16_2 = (kDn (args m c) : Mat 1 2048) := by
  refine ((W14_arr m ρ c 6).trans (dn_out _ c)).trans ?_
  show dn (W13 m ρ c main_arg3) (W13 m ρ c main_arg4) (W13 m ρ c main_v14) = _
  rw [W13_args m ρ c main_arg3 (by decide), W13_args m ρ c main_arg4 (by decide), W13_of m ρ c main_v14 (by decide),
    v14_at m ρ c]
  rfl

theorem v17_at : W15 m ρ c main_v17 = (kDy5 (args m c) : Mat 4096 1024) := by
  refine ((W15_arr m ρ c 2).trans (dy5_out _ c)).trans ?_
  show nt (W14 m ρ c main_v13_0) (W14 m ρ c main_v1) = _
  rw [W14_of m ρ c main_v13_0 (by decide), W13_of m ρ c main_v13_0 (by decide), W12_of m ρ c main_v13_0 (by decide),
    v13_0_at m ρ c, W14_of m ρ c main_v1 (by decide), W13_of m ρ c main_v1 (by decide),
    W12_of m ρ c main_v1 (by decide), W11_of m ρ c main_v1 (by decide), W10_of m ρ c main_v1 (by decide),
    W9_of m ρ c main_v1 (by decide), W8_of m ρ c main_v1 (by decide), W7_of m ρ c main_v1 (by decide),
    W6_of m ρ c main_v1 (by decide), W5_of m ρ c main_v1 (by decide), W4_of m ρ c main_v1 (by decide),
    W3_of m ρ c main_v1 (by decide), W2_of m ρ c main_v1 (by decide), v1_at m ρ c]
  rfl

theorem v18_at : W16 m ρ c main_v18 = (kDwp (args m c) : Mat 1024 1024) := by
  refine ((W16_arr m ρ c 2).trans (dwp5_out _ c)).trans ?_
  show tn (W15 m ρ c main_v5) (W15 m ρ c main_v13_0) = _
  rw [W15_of m ρ c main_v5 (by decide), W14_of m ρ c main_v5 (by decide), W13_of m ρ c main_v5 (by decide),
    W12_of m ρ c main_v5 (by decide), W11_of m ρ c main_v5 (by decide), W10_of m ρ c main_v5 (by decide),
    W9_of m ρ c main_v5 (by decide), W8_of m ρ c main_v5 (by decide), W7_of m ρ c main_v5 (by decide),
    W6_of m ρ c main_v5 (by decide), W5_of m ρ c main_v5 (by decide), W4_of m ρ c main_v5 (by decide), v5_at m ρ c,
    W15_of m ρ c main_v13_0 (by decide), W14_of m ρ c main_v13_0 (by decide), W13_of m ρ c main_v13_0 (by decide),
    W12_of m ρ c main_v13_0 (by decide), v13_0_at m ρ c]
  rfl

theorem v19_0_at : W17 m ρ c main_v19_0 = (kDg1 (args m c) : Mat 4096 1024) := by
  refine ((W17_arr m ρ c 5).trans (dg1_out _ c)).trans ?_
  show glu (W16 m ρ c main_v4) (W16 m ρ c main_v0) (W16 m ρ c main_arg8) (W16 m ρ c main_v17) = _
  rw [W16_of m ρ c main_v4 (by decide), W15_of m ρ c main_v4 (by decide), W14_of m ρ c main_v4 (by decide),
    W13_of m ρ c main_v4 (by decide), W12_of m ρ c main_v4 (by decide), W11_of m ρ c main_v4 (by decide),
    W10_of m ρ c main_v4 (by decide), W9_of m ρ c main_v4 (by decide), W8_of m ρ c main_v4 (by decide),
    W7_of m ρ c main_v4 (by decide), W6_of m ρ c main_v4 (by decide), W5_of m ρ c main_v4 (by decide),
    W4_of m ρ c main_v4 (by decide), W3_of m ρ c main_v4 (by decide), v4_at m ρ c, W16_of m ρ c main_v0 (by decide),
    W15_of m ρ c main_v0 (by decide), W14_of m ρ c main_v0 (by decide), W13_of m ρ c main_v0 (by decide),
    W12_of m ρ c main_v0 (by decide), W11_of m ρ c main_v0 (by decide), W10_of m ρ c main_v0 (by decide),
    W9_of m ρ c main_v0 (by decide), W8_of m ρ c main_v0 (by decide), W7_of m ρ c main_v0 (by decide),
    W6_of m ρ c main_v0 (by decide), W5_of m ρ c main_v0 (by decide), W4_of m ρ c main_v0 (by decide),
    W3_of m ρ c main_v0 (by decide), W2_of m ρ c main_v0 (by decide), v0_at m ρ c,
    W16_args m ρ c main_arg8 (by decide), W16_of m ρ c main_v17 (by decide), v17_at m ρ c]
  rfl

theorem v19_1_at : W17 m ρ c main_v19_1 = (kDt (args m c) : Mat 4096 1024) := by
  refine ((W17_arr m ρ c 6).trans (dt_out _ c)).trans ?_
  show dgl (W16 m ρ c main_v4) (W16 m ρ c main_v0) (W16 m ρ c main_arg8) (W16 m ρ c main_v4) (W16 m ρ c main_v17) = _
  rw [W16_of m ρ c main_v4 (by decide), W15_of m ρ c main_v4 (by decide), W14_of m ρ c main_v4 (by decide),
    W13_of m ρ c main_v4 (by decide), W12_of m ρ c main_v4 (by decide), W11_of m ρ c main_v4 (by decide),
    W10_of m ρ c main_v4 (by decide), W9_of m ρ c main_v4 (by decide), W8_of m ρ c main_v4 (by decide),
    W7_of m ρ c main_v4 (by decide), W6_of m ρ c main_v4 (by decide), W5_of m ρ c main_v4 (by decide),
    W4_of m ρ c main_v4 (by decide), W3_of m ρ c main_v4 (by decide), v4_at m ρ c, W16_of m ρ c main_v0 (by decide),
    W15_of m ρ c main_v0 (by decide), W14_of m ρ c main_v0 (by decide), W13_of m ρ c main_v0 (by decide),
    W12_of m ρ c main_v0 (by decide), W11_of m ρ c main_v0 (by decide), W10_of m ρ c main_v0 (by decide),
    W9_of m ρ c main_v0 (by decide), W8_of m ρ c main_v0 (by decide), W7_of m ρ c main_v0 (by decide),
    W6_of m ρ c main_v0 (by decide), W5_of m ρ c main_v0 (by decide), W4_of m ρ c main_v0 (by decide),
    W3_of m ρ c main_v0 (by decide), W2_of m ρ c main_v0 (by decide), v0_at m ρ c,
    W16_args m ρ c main_arg8 (by decide), W16_of m ρ c main_v17 (by decide), v17_at m ρ c]
  rfl

theorem v20_at : W18 m ρ c main_v20 = (kDwg (args m c) : Mat 1024 1024) := by
  refine ((W18_arr m ρ c 2).trans (dwglu_out _ c)).trans ?_
  show tn (W17 m ρ c main_v4) (W17 m ρ c main_v19_1) = _
  rw [W17_of m ρ c main_v4 (by decide), W16_of m ρ c main_v4 (by decide), W15_of m ρ c main_v4 (by decide),
    W14_of m ρ c main_v4 (by decide), W13_of m ρ c main_v4 (by decide), W12_of m ρ c main_v4 (by decide),
    W11_of m ρ c main_v4 (by decide), W10_of m ρ c main_v4 (by decide), W9_of m ρ c main_v4 (by decide),
    W8_of m ρ c main_v4 (by decide), W7_of m ρ c main_v4 (by decide), W6_of m ρ c main_v4 (by decide),
    W5_of m ρ c main_v4 (by decide), W4_of m ρ c main_v4 (by decide), W3_of m ρ c main_v4 (by decide), v4_at m ρ c,
    v19_1_at m ρ c]
  rfl

theorem v21_at : W19 m ρ c main_v21 = (kDg (args m c) : Mat 4096 1024) := by
  refine ((W19_arr m ρ c 3).trans (dg_out _ c)).trans ?_
  show ntAdd (W18 m ρ c main_v19_1) (W18 m ρ c main_v0) (W18 m ρ c main_v19_0) = _
  rw [W18_of m ρ c main_v19_1 (by decide), v19_1_at m ρ c, W18_of m ρ c main_v0 (by decide),
    W17_of m ρ c main_v0 (by decide), W16_of m ρ c main_v0 (by decide), W15_of m ρ c main_v0 (by decide),
    W14_of m ρ c main_v0 (by decide), W13_of m ρ c main_v0 (by decide), W12_of m ρ c main_v0 (by decide),
    W11_of m ρ c main_v0 (by decide), W10_of m ρ c main_v0 (by decide), W9_of m ρ c main_v0 (by decide),
    W8_of m ρ c main_v0 (by decide), W7_of m ρ c main_v0 (by decide), W6_of m ρ c main_v0 (by decide),
    W5_of m ρ c main_v0 (by decide), W4_of m ρ c main_v0 (by decide), W3_of m ρ c main_v0 (by decide),
    W2_of m ρ c main_v0 (by decide), v0_at m ρ c, W18_of m ρ c main_v19_0 (by decide), v19_0_at m ρ c]
  rfl

theorem v22_0_at : W20 m ρ c main_v22_0 = (kDx (args m c) : Mat 4096 1024) := by
  refine ((W20_arr m ρ c 5).trans (dys_out _ c)).trans ?_
  show dact (W19 m ρ c main_arg1) (W19 m ρ c main_arg2) (W19 m ρ c main_v21) (W19 m ρ c main_arg6) = _
  rw [W19_args m ρ c main_arg1 (by decide), W19_args m ρ c main_arg2 (by decide), v21_at m ρ c,
    W19_args m ρ c main_arg6 (by decide)]
  rfl

theorem v22_1_at : W20 m ρ c main_v22_1 = (kDu (args m c) : Mat 4096 1024) := by
  refine ((W20_arr m ρ c 6).trans (dusk_out _ c)).trans ?_
  show scale (dact (W19 m ρ c main_arg1) (W19 m ρ c main_arg2) (W19 m ρ c main_v21) (W19 m ρ c main_arg6)) (W19 m ρ c main_arg6) = _
  rw [W19_args m ρ c main_arg1 (by decide), W19_args m ρ c main_arg2 (by decide), v21_at m ρ c,
    W19_args m ρ c main_arg6 (by decide)]
  rfl

theorem v22_2_at : W20 m ρ c main_v22_2 = (kDD (args m c) : Mat 1 1024) := by
  refine ((W20_arr m ρ c 7).trans (dD_out _ c)).trans ?_
  show colDot (dact (W19 m ρ c main_arg1) (W19 m ρ c main_arg2) (W19 m ρ c main_v21) (W19 m ρ c main_arg6)) (W19 m ρ c main_arg2) = _
  rw [W19_args m ρ c main_arg1 (by decide), W19_args m ρ c main_arg2 (by decide), v21_at m ρ c,
    W19_args m ρ c main_arg6 (by decide)]
  rfl

theorem v22_3_at : W20 m ρ c main_v22_3 = (kDbg (args m c) : Mat 1 1024) := by
  refine ((W20_arr m ρ c 8).trans (dbglu_out _ c)).trans ?_
  show colSum (W19 m ρ c main_v19_1) = _
  rw [W19_of m ρ c main_v19_1 (by decide), W18_of m ρ c main_v19_1 (by decide), v19_1_at m ρ c]
  rfl

/-! ## The thirteen results at the end -/

theorem end_v22_0 : W21 m ρ c main_v22_0 = (kDx (args m c) : Mat 4096 1024) := by
  rw [W21_of m ρ c main_v22_0 (by decide), v22_0_at m ρ c]

theorem end_v22_1 : W21 m ρ c main_v22_1 = (kDu (args m c) : Mat 4096 1024) := by
  rw [W21_of m ρ c main_v22_1 (by decide), v22_1_at m ρ c]

theorem end_v16_0 : W21 m ρ c main_v16_0 = (kDyr (args m c) : Mat 4096 2048) := by
  rw [W21_of m ρ c main_v16_0 (by decide), W20_of m ρ c main_v16_0 (by decide), W19_of m ρ c main_v16_0 (by decide),
    W18_of m ρ c main_v16_0 (by decide), W17_of m ρ c main_v16_0 (by decide), W16_of m ρ c main_v16_0 (by decide),
    W15_of m ρ c main_v16_0 (by decide), v16_0_at m ρ c]

theorem end_v22_2 : W21 m ρ c main_v22_2 = (kDD (args m c) : Mat 1 1024) := by
  rw [W21_of m ρ c main_v22_2 (by decide), v22_2_at m ρ c]

theorem end_v20 : W21 m ρ c main_v20 = (kDwg (args m c) : Mat 1024 1024) := by
  rw [W21_of m ρ c main_v20 (by decide), W20_of m ρ c main_v20 (by decide), W19_of m ρ c main_v20 (by decide),
    v20_at m ρ c]

theorem end_v22_3 : W21 m ρ c main_v22_3 = (kDbg (args m c) : Mat 1 1024) := by
  rw [W21_of m ρ c main_v22_3 (by decide), v22_3_at m ρ c]

theorem end_v18 : W21 m ρ c main_v18 = (kDwp (args m c) : Mat 1024 1024) := by
  rw [W21_of m ρ c main_v18 (by decide), W20_of m ρ c main_v18 (by decide), W19_of m ρ c main_v18 (by decide),
    W18_of m ρ c main_v18 (by decide), W17_of m ρ c main_v18 (by decide), v18_at m ρ c]

theorem end_v16_2 : W21 m ρ c main_v16_2 = (kDn (args m c) : Mat 1 2048) := by
  rw [W21_of m ρ c main_v16_2 (by decide), W20_of m ρ c main_v16_2 (by decide), W19_of m ρ c main_v16_2 (by decide),
    W18_of m ρ c main_v16_2 (by decide), W17_of m ρ c main_v16_2 (by decide), W16_of m ρ c main_v16_2 (by decide),
    W15_of m ρ c main_v16_2 (by decide), v16_2_at m ρ c]

theorem end_v15 : W21 m ρ c main_v15 = (kDws (args m c) : Mat 2048 1024) := by
  rw [W21_of m ρ c main_v15 (by decide), W20_of m ρ c main_v15 (by decide), W19_of m ρ c main_v15 (by decide),
    W18_of m ρ c main_v15 (by decide), W17_of m ρ c main_v15 (by decide), W16_of m ρ c main_v15 (by decide),
    W15_of m ρ c main_v15 (by decide), W14_of m ρ c main_v15 (by decide), v15_at m ρ c]

theorem end_v13_3 : W21 m ρ c main_v13_3 = (kDbq (args m c) : Mat 1 2048) := by
  rw [W21_of m ρ c main_v13_3 (by decide), W20_of m ρ c main_v13_3 (by decide), W19_of m ρ c main_v13_3 (by decide),
    W18_of m ρ c main_v13_3 (by decide), W17_of m ρ c main_v13_3 (by decide), W16_of m ρ c main_v13_3 (by decide),
    W15_of m ρ c main_v13_3 (by decide), W14_of m ρ c main_v13_3 (by decide), W13_of m ρ c main_v13_3 (by decide),
    W12_of m ρ c main_v13_3 (by decide), v13_3_at m ρ c]

theorem end_v12 : W21 m ρ c main_v12 = (kDwo (args m c) : Mat 1024 1024) := by
  rw [W21_of m ρ c main_v12 (by decide), W20_of m ρ c main_v12 (by decide), W19_of m ρ c main_v12 (by decide),
    W18_of m ρ c main_v12 (by decide), W17_of m ρ c main_v12 (by decide), W16_of m ρ c main_v12 (by decide),
    W15_of m ρ c main_v12 (by decide), W14_of m ρ c main_v12 (by decide), W13_of m ρ c main_v12 (by decide),
    W12_of m ρ c main_v12 (by decide), W11_of m ρ c main_v12 (by decide), v12_at m ρ c]

theorem end_v23 : W21 m ρ c main_v23 = (kDz (args m c) : Mat 4096 2048) := by
  have h : W21 m ρ c main_v23 = (W20 m ρ c main_v16_1 : Mat 4096 2048) := by
    funext j
    after_reads_at
  rw [h, W20_of m ρ c main_v16_1 (by decide), W19_of m ρ c main_v16_1 (by decide),
    W18_of m ρ c main_v16_1 (by decide), W17_of m ρ c main_v16_1 (by decide), W16_of m ρ c main_v16_1 (by decide),
    W15_of m ρ c main_v16_1 (by decide), v16_1_at m ρ c]

theorem end_v24 : W21 m ρ c main_v24 = (kDq (args m c) : Mat 4096 2048) := by
  have h : W21 m ρ c main_v24 = (W20 m ρ c main_v13_2 : Mat 4096 2048) := by
    funext j
    after_reads_at
  rw [h, W20_of m ρ c main_v13_2 (by decide), W19_of m ρ c main_v13_2 (by decide),
    W18_of m ρ c main_v13_2 (by decide), W17_of m ρ c main_v13_2 (by decide), W16_of m ρ c main_v13_2 (by decide),
    W15_of m ρ c main_v13_2 (by decide), W14_of m ρ c main_v13_2 (by decide), W13_of m ρ c main_v13_2 (by decide),
    W12_of m ρ c main_v13_2 (by decide), v13_2_at m ρ c]

end Mix

end
-- ==== Proof.Mixer.Run.lean ====
/-
  The run of the mixer's calls, with everything it leaves: at the end of every execution each unscoped buffer holds what the
  fold over the program's segments says, and every counter is at zero.
-/
module

public import proofs.«01_k».proof.Proof.Gen.MixerIdeal.Frame
public import Idealize.ShloMosaic.PureOps.Ideal

@[expose] public section

set_option maxRecDepth 16384

noncomputable section

namespace Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerIdeal Cert.MixerIdeal.Gen

variable (m : (p : Loc nD τ sig) → Buf (Elt Ideal) p) (ρ : Dev nD → PrngReg)

local notation "𝕄" => MT nD τ sig Unit (Elt Ideal) ℕ (UR sig nD τ) ℕ

set_option backward.isDefEq.respectTransparency.types false in
/-- Every execution ends with the buffers at the last boundary's contents. -/
theorem run : θ_run defs (onTc (τ := τ) (main (F := Ideal))) ⟨m, fun _ => 0, ρ⟩ (fun r =>
    (∀ c : Dev nD, ∀ b ∈ Pipeline.ucRefs τ sig, r.2.mem (((c : Thread nD τ)).1, b) = W21 m ρ c b)
      ∧ r.2.sem = fun _ => 0) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W21 m ρ c b)
    ?own ?chain ?start ?read ?done
  case own =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  case chain =>
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case start =>
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case read =>
    intro c s'
    iintro ⟨⟨Hh, -⟩, HSI⟩
    unfold StableHlo.held
    imodintro
    iapply (pointsTo_read_all (Pipeline.ucRefs τ sig) (fun b => (((c : Thread nD τ)).1, b)) (W21 m ρ c) s')
    isplitl [Hh] <;> iassumption
  case done => exact fun s h hz => ⟨h, funext fun g => hz g (.inr (no_unscoped g.2))⟩

end Mix

end
-- ==== Proof.Mixer.Reference.lean ====
/-
  The reference's results as expressions of the fourteen arguments: each stage of its program, on whole matrices, is
  one of the matrix expressions, up to the order of factors and of summands.
-/
module

public import proofs.«01_k».proof.Proof.Mixer.Args
public import proofs.«01_k».proof.Proof.Gen.MixerRefIdeal.Run
public import Idealize.ShloMosaic.Lib.Pipeline.ValueKit
public import Idealize.ShloMosaic.Lib.Claim

@[expose] public section

set_option maxRecDepth 16384

noncomputable section

namespace Mix.Ref

open Idealize.ShloMosaic Idealize.ShloMosaic.TcCoe Idealize.SL.Sem Ffn
open Cert.MixerRefIdeal Cert.MixerRefIdeal.Gen Cert.MixerRefIdeal.Value

/-! ## The stages of the reference's program -/

abbrev V1024 := FVec Ideal S4096x1024 .f32
abbrev V2048 := FVec Ideal S4096x2048 .f32
abbrev R1024 := FVec Ideal S1x1024 .f32
abbrev R2048 := FVec Ideal S1x2048 .f32
abbrev Col := FVec Ideal S4096x1 .f32
abbrev Sq := FVec Ideal S1024x1024 .f32
abbrev Tall := FVec Ideal S2048x1024 .f32

/-- A constant, in every entry. -/
def cT (b : BitVec 32) : V1024 := broadcastInDim S4096x1024 ![] bcast_S_S4096x1024 (constant S_ .f32 b)
/-- A constant, in every entry of a wide matrix. -/
def wT (b : BitVec 32) : V2048 := broadcastInDim S4096x2048 ![] bcast_S_S4096x2048 (constant S_ .f32 b)
/-- A constant, in every entry of a column. -/
def lT (b : BitVec 32) : Col := broadcastInDim S4096x1 ![] bcast_S_S4096x1 (constant S_ .f32 b)
/-- A row, in every row. -/
def rowT (D : R1024) : V1024 := broadcastInDim S4096x1024 ![0, 1] bcast_S1x1024_S4096x1024_0_1 D
/-- A wide row, in every row. -/
def wrowT (N : R2048) : V2048 := broadcastInDim S4096x2048 ![0, 1] bcast_S1x2048_S4096x2048_0_1 N
/-- A column, in every column. -/
def colT (C : Col) : V2048 := broadcastInDim S4096x2048 ![0, 1] bcast_S4096x1_S4096x2048_0_1 C
/-- The column sums. -/
def sumT (X : V1024) : R1024 := shapeCast S1x1024 (Host.reduceAdd X (constant S_ .f32 0x00000000#32) reducesTo_S4096x1024_S1024_d0 h_S_) shapeCasts_S1024_S1x1024
/-- The column sums of a wide matrix. -/
def wsumT (X : V2048) : R2048 := shapeCast S1x2048 (Host.reduceAdd X (constant S_ .f32 0x00000000#32) reducesTo_S4096x2048_S2048_d0 h_S_) shapeCasts_S2048_S1x2048

/-- The scan's output plus the skip. -/
def skipT (Y U : V1024) (D : R1024) : V1024 := addf Y (mulf (rowT D) U)
/-- The hyperbolic tangent inside `gelu`. -/
def thT (X : V1024) : V1024 := Host.tanh (mulf (cT 0x3F4C422A#32) (addf X (mulf (cT 0x3D372713#32) (mulf (mulf X X) X))))
/-- `gelu`'s factor. -/
def facT (X : V1024) : V1024 := mulf (cT 0x3F000000#32) (addf (cT 0x3F800000#32) (thT X))
/-- `gelu`. -/
def geluT (X : V1024) : V1024 := mulf X (facT X)
/-- What reaches the argument of the hyperbolic tangent. -/
def dthT (X G : V1024) : V1024 := mulf (cT 0x3F4C422A#32) (mulf (mulf (cT 0x3F000000#32) (mulf X G))
  (mulf (addf (cT 0x3F800000#32) (thT X)) (subf (cT 0x3F800000#32) (thT X))))
/-- The gradient of `gelu`. -/
def dgeluT (X G : V1024) : V1024 := addf (addf (mulf G (facT X)) (dthT X G))
  (mulf (mulf (cT 0x3D372713#32) (dthT X G)) (mulf (cT 0x40400000#32) (mulf X X)))

/-- A product with a square weight. -/
def nnT (A : V1024) (B : Sq) : V1024 := Host.dotGeneral dot_S4096x1024_S1024x1024_S4096x1024_1_0_0_1_n_n none A B
/-- A product with a tall weight. -/
def nnsT (A : V2048) (B : Tall) : V1024 := Host.dotGeneral dot_S4096x2048_S2048x1024_S4096x1024_1_0_0_1_n_n none A B
/-- A product with a square weight's transpose. -/
def ntT (A : V1024) (B : Sq) : V1024 := Host.dotGeneral dot_S4096x1024_S1024x1024_S4096x1024_1_1_0_0_n_n none A B
/-- A product with a tall weight's transpose. -/
def ntsT (A : V1024) (B : Tall) : V2048 := Host.dotGeneral dot_S4096x1024_S2048x1024_S4096x2048_1_1_0_0_n_n none A B
/-- The gradient of a square weight. -/
def tnT (A B : V1024) : Sq := transpose S1024x1024 [1, 0] (Host.dotGeneral dot_S4096x1024_S4096x1024_S1024x1024_0_0_1_1_n_n none B A) transposes_S1024x1024_S1024x1024_1_0
/-- The gradient of the tall weight. -/
def tnsT (A : V2048) (B : V1024) : Tall := transpose S2048x1024 [1, 0] (Host.dotGeneral dot_S4096x1024_S4096x2048_S1024x2048_0_0_1_1_n_n none B A) transposes_S1024x2048_S2048x1024_1_0

/-- The first branch's gate. -/
def gateT (G : V1024) (W : Sq) (b : R1024) : V1024 := Host.divf (cT 0x3F800000#32) (addf (cT 0x3F800000#32) (Host.exp (Host.negf (addf (nnT G W) (rowT b)))))
/-- The gradient of its argument. -/
def dglT (G : V1024) (W : Sq) (b : R1024) (C : V1024) : V1024 := mulf (mulf G C) (mulf (gateT G W b) (subf (cT 0x3F800000#32) (gateT G W b)))
/-- What reaches the gated rows. -/
def dgT (D : V1024) (G : V1024) (W : Sq) (b : R1024) (C : V1024) : V1024 := addf (mulf C (gateT G W b)) (ntT D W)

/-- The logistic function, entry by entry. -/
def sgmT (A : V2048) : V2048 := Host.divf (wT 0x3F800000#32) (addf (wT 0x3F800000#32) (Host.exp (Host.negf A)))
/-- `Y · silu(Z)`. -/
def gatedT (Y Z : V2048) : V2048 := mulf Y (mulf Z (sgmT Z))
/-- The shifted mean squares of the rows. -/
def msT (X : V2048) : Col := addf (Host.divf (broadcastInDim S4096x1 ![0] bcast_S4096_S4096x1_0 (Host.reduceAdd (mulf X X) (constant S_ .f32 0x00000000#32) reducesTo_S4096x2048_S4096_d1 h_S_)) (lT 0x45000000#32)) (lT 0x358637BD#32)
/-- The normalised rows. -/
def unitT (X : V2048) : V2048 := mulf X (colT (Host.rsqrt (msT X)))
/-- The coefficients of the rows in the gradient of the normalisation. -/
def coefT (X H : V2048) : V2048 := broadcastInDim S4096x2048 ![0] bcast_S4096_S4096x2048_0 (Host.reduceAdd (Host.divf (mulf (shapeCast S4096x1 (Host.reduceAdd (mulf X H) (constant S_ .f32 0x00000000#32) reducesTo_S4096x2048_S4096_d1 h_S_) shapeCasts_S4096_S4096x1) (mulf (lT 0xBF000000#32) (Host.divf (Host.rsqrt (msT X)) (msT X)))) (lT 0x45000000#32)) (constant S_ .f32 0x00000000#32) reducesTo_S4096x1_S4096_d1 h_S_)
/-- What reaches the product `Y · silu(Z)`. -/
def dgatedT (X H : V2048) : V2048 := addf (addf (mulf H (colT (Host.rsqrt (msT X)))) (mulf X (coefT X H))) (mulf (coefT X H) X)
/-- The gradient of `Y`. -/
def dyrT (Y Z C : V2048) (N : R2048) : V2048 := mulf (dgatedT (gatedT Y Z) (mulf C (wrowT N))) (mulf Z (sgmT Z))
/-- The gradient of `Z`. -/
def dzT (Y Z C : V2048) (N : R2048) : V2048 :=
  addf (mulf (mulf Y (dgatedT (gatedT Y Z) (mulf C (wrowT N)))) (sgmT Z)) (mulf (mulf Z (mulf Y (dgatedT (gatedT Y Z) (mulf C (wrowT N))))) (mulf (sgmT Z) (subf (wT 0x3F800000#32) (sgmT Z))))

/-- The gates. -/
def sgT (Q : V2048) (b : R2048) : V2048 := sgmT (addf Q (wrowT b))
/-- The first half. -/
def loT (A : V2048) : V1024 := extractStridedSlice S4096x1024 ![0, 0] A slices_S4096x2048_S4096x1024_0_0
/-- The second half. -/
def hiT (A : V2048) : V1024 := extractStridedSlice S4096x1024 ![0, 1024] A slices_S4096x2048_S4096x1024_0_1024
/-- The gated sum. -/
def mergeT (Q : V2048) (b : R2048) (A B : V1024) : V1024 := addf (mulf (loT (sgT Q b)) A) (mulf (hiT (sgT Q b)) B)
/-- What reaches the gates: one branch's product in each half. -/
def dsgT (A B C : V1024) : V2048 := addf
  (pad S4096x2048 ![0, 1024] ![0, 0] ![0, 0] (mulf C B) (constant S_ .f32 0x00000000#32) pads_S4096x1024_S4096x2048_000_102400 h_S_)
  (pad S4096x2048 ![0, 0] ![0, 1024] ![0, 0] (mulf C A) (constant S_ .f32 0x00000000#32) pads_S4096x1024_S4096x2048_000_010240 h_S_)
/-- What reaches their arguments. -/
def dqT (Q : V2048) (b : R2048) (A B C : V1024) : V2048 := mulf (dsgT A B C) (mulf (sgT Q b) (subf (wT 0x3F800000#32) (sgT Q b)))

/-! ## The stages are the matrix expressions -/

variable (Y U G C A B : V1024) (D b : R1024) (X Z Q H E : V2048) (N q : R2048) (W : Sq) (T : Tall)

theorem ext2 {m n : ℕ} {P R : Mat m n} (h : ∀ r s, P (ix2 r s) = R (ix2 r s)) : P = R :=
  funext fun j => by simpa using h (j 0) (j 1)

theorem wrowT_apply (r : Fin 4096) (s : Fin 2048) : wrowT N (ix2 r s) = N (ix2 0 s) := by
  pointwise [wrowT]

theorem actT_eq : geluT (skipT Y U D) = act (Y : Mat 4096 1024) (U : Mat 4096 1024) (D : Mat 1 1024) := by
  funext j
  pointwise [geluT, facT, thT, cT, skipT, rowT, act, gelu, th, skip, mk, cA, cB, half]
  simp only [mul_assoc]

theorem dactT_eq : dgeluT (skipT Y U D) G = dact (Y : Mat 4096 1024) (U : Mat 4096 1024) (G : Mat 4096 1024) (D : Mat 1 1024) := by
  funext j
  pointwise [dgeluT, facT, dthT, thT, cT, skipT, rowT, dact, dgelu, dth, th, skip, mk, cA, cB, half, three]
  simp only [mul_assoc]

theorem scaleT_eq : mulf (rowT D) G = scale (G : Mat 4096 1024) (D : Mat 1 1024) := by
  funext j
  pointwise [rowT, scale, mk]
  rw [mul_comm]

theorem colDotT_eq : sumT (mulf G U) = colDot (G : Mat 4096 1024) (U : Mat 4096 1024) := by
  funext j
  pointwise [sumT, colDot, mk]

theorem colSumT_eq : sumT G = colSum (G : Mat 4096 1024) := by
  funext j
  pointwise [sumT, colSum, mk]

theorem wcolSumT_eq : wsumT X = colSum (X : Mat 4096 2048) := by
  funext j
  pointwise [wsumT, colSum, mk]

theorem nnT_eq : nnT A W = nn (A : Mat 4096 1024) (W : Mat 1024 1024) := by
  funext j
  pointwise [nnT, nn, mk]

theorem nnsT_eq : nnsT X T = nn (X : Mat 4096 2048) (T : Mat 2048 1024) := by
  funext j
  pointwise [nnsT, nn, mk]

theorem ntT_eq : ntT A W = nt (A : Mat 4096 1024) (W : Mat 1024 1024) := by
  funext j
  pointwise [ntT, nt, mk]

theorem ntsT_eq : ntsT A T = nt (A : Mat 4096 1024) (T : Mat 2048 1024) := by
  funext j
  pointwise [ntsT, nt, mk]

theorem tnT_eq : tnT A B = tn (A : Mat 4096 1024) (B : Mat 4096 1024) := by
  funext j
  pointwise [tnT, tn, mk]
  exact Finset.sum_congr rfl fun _ _ => mul_comm _ _

theorem tnsT_eq : tnsT X B = tn (X : Mat 4096 2048) (B : Mat 4096 1024) := by
  funext j
  pointwise [tnsT, tn, mk]
  exact Finset.sum_congr rfl fun _ _ => mul_comm _ _

theorem gluT_eq : mulf A (gateT G W b) = glu (G : Mat 4096 1024) (W : Mat 1024 1024) (b : Mat 1 1024) (A : Mat 4096 1024) := by
  funext j
  pointwise [gateT, nnT, cT, rowT, glu, gate, mk, Ideal.logistic]

theorem dglT_eq : dglT G W b C = dgl (G : Mat 4096 1024) (W : Mat 1024 1024) (b : Mat 1 1024) (G : Mat 4096 1024) (C : Mat 4096 1024) := by
  funext j
  pointwise [dglT, gateT, nnT, cT, rowT, dgl, gate, mk, Ideal.logistic]

theorem dgT_eq : dgT A G W b C = ntAdd (A : Mat 4096 1024) (W : Mat 1024 1024)
    (glu (G : Mat 4096 1024) (W : Mat 1024 1024) (b : Mat 1 1024) (C : Mat 4096 1024)) := by
  have h : dgT A G W b C = addf (mulf C (gateT G W b)) (ntT A W) := rfl
  rw [h, gluT_eq, ntT_eq]
  funext j
  pointwise [ntAdd, nt, mk]
  rw [add_comm]

theorem gatedT_apply (r : Fin 4096) (s : Fin 2048) : gatedT X Z (ix2 r s) = gated (X : Mat 4096 2048) (Z : Mat 4096 2048) r s := by
  pointwise [gatedT, sgmT, wT, gated, Ideal.logistic]

theorem msT_apply (r : Fin 4096) (s : Fin 1) : msT (gatedT X Z) (ix2 r s) = ms (X : Mat 4096 2048) (Z : Mat 4096 2048) r := by
  pointwise [msT, lT, ms]
  simp only [gatedT_apply]

theorem unitT_apply (r : Fin 4096) (s : Fin 2048) : unitT (gatedT X Z) (ix2 r s)
    = gated (X : Mat 4096 2048) (Z : Mat 4096 2048) r s * Ideal.rsqrt (ms (X : Mat 4096 2048) (Z : Mat 4096 2048) r) := by
  pointwise [unitT, colT]
  simp only [gatedT_apply, msT_apply]

theorem gnormT_eq : mulf (unitT (gatedT X Z)) (wrowT N) = gnorm (X : Mat 4096 2048) (Z : Mat 4096 2048) (N : Mat 1 2048) := by
  refine ext2 fun r s => ?_
  pointwise [wrowT, gnorm, mk]
  simp only [unitT_apply]

theorem dnT_eq : wsumT (mulf (unitT (gatedT X Z)) E) = dn (X : Mat 4096 2048) (Z : Mat 4096 2048) (E : Mat 4096 2048) := by
  refine ext2 fun r s => ?_
  pointwise [wsumT, dn, dnTerm, mk]
  simp only [unitT_apply]

theorem coefT_apply (r : Fin 4096) (s : Fin 2048) : coefT (gatedT X Z) (mulf E (wrowT N)) (ix2 r s)
    = gcoef (X : Mat 4096 2048) (Z : Mat 4096 2048) (E : Mat 4096 2048) (N : Mat 1 2048) r := by
  pointwise [coefT, lT, wrowT, gcoef]
  simp only [gatedT_apply, msT_apply]

theorem dgatedT_apply (r : Fin 4096) (s : Fin 2048) : dgatedT (gatedT X Z) (mulf E (wrowT N)) (ix2 r s)
    = dgated (X : Mat 4096 2048) (Z : Mat 4096 2048) (E : Mat 4096 2048) (N : Mat 1 2048) r s := by
  pointwise [dgatedT, colT, dgated]
  simp only [wrowT_apply, gatedT_apply, msT_apply, coefT_apply]

theorem dyrT_eq : dyrT X Z E N = dyraw (X : Mat 4096 2048) (Z : Mat 4096 2048) (E : Mat 4096 2048) (N : Mat 1 2048) := by
  refine ext2 fun r s => ?_
  pointwise [dyrT, sgmT, wT, dyraw, mk, Ideal.logistic]
  simp only [dgatedT_apply]

theorem dzT_eq : dzT X Z E N = dz (X : Mat 4096 2048) (Z : Mat 4096 2048) (E : Mat 4096 2048) (N : Mat 1 2048) := by
  refine ext2 fun r s => ?_
  pointwise [dzT, sgmT, wT, dz, mk, Ideal.logistic]
  simp only [dgatedT_apply]

theorem sgT_apply (r : Fin 4096) (s : Fin 2048) : sgT Q q (ix2 r s) = sg (Q : Mat 4096 2048) (q : Mat 1 2048) r s := by
  pointwise [sgT, sgmT, wT, wrowT, sg, Ideal.logistic]

theorem loT_apply (r : Fin 4096) (s : Fin 1024) : loT X (ix2 r s) = X (ix2 r (lo s)) := by
  pointwise [loT, lo]

theorem hiT_apply (r : Fin 4096) (s : Fin 1024) : hiT X (ix2 r s) = X (ix2 r (hi s)) := by
  pointwise [hiT, hi]

theorem mergeT_eq : mergeT Q q A B = merge (Q : Mat 4096 2048) (q : Mat 1 2048) (A : Mat 4096 1024) (B : Mat 4096 1024) := by
  refine ext2 fun r s => ?_
  pointwise [mergeT, merge, mk]
  simp only [loT_apply, hiT_apply, sgT_apply]

theorem dloT_eq : mulf (loT (sgT Q q)) C = dlo (Q : Mat 4096 2048) (q : Mat 1 2048) (C : Mat 4096 1024) := by
  refine ext2 fun r s => ?_
  pointwise [dlo, mk]
  simp only [loT_apply, sgT_apply]

theorem dhiT_eq : mulf (hiT (sgT Q q)) C = dhi (Q : Mat 4096 2048) (q : Mat 1 2048) (C : Mat 4096 1024) := by
  refine ext2 fun r s => ?_
  pointwise [dhi, mk]
  simp only [hiT_apply, sgT_apply]

theorem dsgT_apply (r : Fin 4096) (s : Fin 2048) : dsgT A B C (ix2 r s) = dsg (A : Mat 4096 1024) (B : Mat 4096 1024) (C : Mat 4096 1024) r s := by
  pointwise [dsgT, dsg]
  by_cases h : s.val < 1024
  · rw [dif_neg (by omega), dif_pos h, dif_pos h, zero_add]
  · rw [dif_pos (by omega), dif_neg h, dif_neg h, add_zero]

theorem dqT_eq : dqT Q q A B C = dq (Q : Mat 4096 2048) (q : Mat 1 2048) (A : Mat 4096 1024) (B : Mat 4096 1024) (C : Mat 4096 1024) := by
  refine ext2 fun r s => ?_
  pointwise [dqT, wT, dq, mk]
  simp only [dsgT_apply, sgT_apply]

/-! ## The results -/

section
variable (V : Valuation τ sig (Elt Ideal))

/-- The arguments in a valuation. -/
def rargs : Args where
  dy := V (Proc.devRef .tc main_arg0)
  ys := V (Proc.devRef .tc main_arg1)
  u := V (Proc.devRef .tc main_arg2)
  yr := V (Proc.devRef .tc main_arg3)
  z := V (Proc.devRef .tc main_arg4)
  gl := V (Proc.devRef .tc main_arg5)
  skipD := V (Proc.devRef .tc main_arg6)
  wg := V (Proc.devRef .tc main_arg7)
  bg := V (Proc.devRef .tc main_arg8)
  wp := V (Proc.devRef .tc main_arg9)
  gain := V (Proc.devRef .tc main_arg10)
  ws := V (Proc.devRef .tc main_arg11)
  bq := V (Proc.devRef .tc main_arg12)
  wo := V (Proc.devRef .tc main_arg13)

theorem v23_eq : res_main_v23 V = (kG (rargs V) : Mat 4096 1024) := by
  have h : res_main_v23 V = geluT (skipT (V (Proc.devRef .tc main_arg1)) (V (Proc.devRef .tc main_arg2)) (V (Proc.devRef .tc main_arg6))) := rfl
  rw [h, actT_eq]
  rfl

theorem v36_eq : res_main_v36 V = (kY5 (rargs V) : Mat 4096 1024) := by
  have h : res_main_v36 V = mulf (res_main_v23 V) (gateT (res_main_v23 V) (V (Proc.devRef .tc main_arg7)) (V (Proc.devRef .tc main_arg8))) := rfl
  rw [h, v23_eq, gluT_eq]
  rfl

theorem v53_eq : res_main_v53 V = (kYs (rargs V) : Mat 4096 2048) := by
  have h : res_main_v53 V = mulf (unitT (gatedT (V (Proc.devRef .tc main_arg3)) (V (Proc.devRef .tc main_arg4)))) (wrowT (V (Proc.devRef .tc main_arg10))) := rfl
  rw [h, gnormT_eq]
  rfl

theorem v66_eq : res_main_v66 V = (kP5 (rargs V) : Mat 4096 1024) := by
  have h : res_main_v66 V = nnT (res_main_v36 V) (V (Proc.devRef .tc main_arg9)) := rfl
  rw [h, v36_eq, nnT_eq]
  rfl

theorem v69_eq : res_main_v69 V = (kPs (rargs V) : Mat 4096 1024) := by
  have h : res_main_v69 V = nnsT (res_main_v53 V) (V (Proc.devRef .tc main_arg11)) := rfl
  rw [h, v53_eq, nnsT_eq]
  rfl

theorem v71_eq : res_main_v71 V = (kM (rargs V) : Mat 4096 1024) := by
  have h : res_main_v71 V = mergeT (V (Proc.devRef .tc main_arg5)) (V (Proc.devRef .tc main_arg12)) (res_main_v66 V) (res_main_v69 V) := rfl
  rw [h, v66_eq, v69_eq, mergeT_eq]
  rfl

theorem v75_eq : res_main_v75 V = (kDm (rargs V) : Mat 4096 1024) := by
  have h : res_main_v75 V = ntT (V (Proc.devRef .tc main_arg0)) (V (Proc.devRef .tc main_arg13)) := rfl
  rw [h, ntT_eq]
  rfl

theorem v82_eq : res_main_v82 V = (kD5 (rargs V) : Mat 4096 1024) := by
  have h : res_main_v82 V = mulf (loT (sgT (V (Proc.devRef .tc main_arg5)) (V (Proc.devRef .tc main_arg12)))) (res_main_v75 V) := rfl
  rw [h, v75_eq, dloT_eq]
  rfl

theorem v76_eq : res_main_v76 V = (kDs (rargs V) : Mat 4096 1024) := by
  have h : res_main_v76 V = mulf (hiT (sgT (V (Proc.devRef .tc main_arg5)) (V (Proc.devRef .tc main_arg12)))) (res_main_v75 V) := rfl
  rw [h, v75_eq, dhiT_eq]
  rfl

theorem v80_eq : res_main_v80 V = (kDys (rargs V) : Mat 4096 2048) := by
  have h : res_main_v80 V = ntsT (res_main_v76 V) (V (Proc.devRef .tc main_arg11)) := rfl
  rw [h, v76_eq, ntsT_eq]
  rfl

theorem v86_eq : res_main_v86 V = (kDy5 (rargs V) : Mat 4096 1024) := by
  have h : res_main_v86 V = ntT (res_main_v82 V) (V (Proc.devRef .tc main_arg9)) := rfl
  rw [h, v82_eq, ntT_eq]
  rfl

theorem v116_eq : res_main_v116 V = (kDt (rargs V) : Mat 4096 1024) := by
  have h : res_main_v116 V = dglT (res_main_v23 V) (V (Proc.devRef .tc main_arg7)) (V (Proc.devRef .tc main_arg8)) (res_main_v86 V) := rfl
  rw [h, v23_eq, v86_eq, dglT_eq]
  rfl

theorem v122_eq : res_main_v122 V = (kDg (rargs V) : Mat 4096 1024) := by
  have h : res_main_v122 V = dgT (res_main_v116 V) (res_main_v23 V) (V (Proc.devRef .tc main_arg7)) (V (Proc.devRef .tc main_arg8)) (res_main_v86 V) := rfl
  rw [h, v116_eq, v23_eq, v86_eq, dgT_eq]
  rfl

theorem v134_eq : res_main_v134 V = (kDx (rargs V) : Mat 4096 1024) := by
  have h : res_main_v134 V = dgeluT (skipT (V (Proc.devRef .tc main_arg1)) (V (Proc.devRef .tc main_arg2)) (V (Proc.devRef .tc main_arg6))) (res_main_v122 V) := rfl
  rw [h, v122_eq, dactT_eq]
  rfl
end

section
variable (m : (p : Loc nD τ sig) → Buf (Elt Ideal) p) (c : Dev nD)

/-- The arguments on a device. -/
def args : Args := rargs (StableHlo.launchContents m c)

/-- A run ends with the thirteen results as these expressions of the arguments. -/
theorem run_stages (ρ : Dev nD → PrngReg) :
    θ_run defs (onTc (τ := τ) (main (F := Ideal))) ⟨m, fun _ => 0, ρ⟩ fun r => ∀ c : Dev nD,
      r.2.mem ((c.tc : Thread nD τ).loc main_v134) = (kDx (args m c) : Mat 4096 1024)
      ∧ r.2.mem ((c.tc : Thread nD τ).loc main_v136) = (kDu (args m c) : Mat 4096 1024)
      ∧ r.2.mem ((c.tc : Thread nD τ).loc main_v112) = (kDyr (args m c) : Mat 4096 2048)
      ∧ r.2.mem ((c.tc : Thread nD τ).loc main_v113) = (kDz (args m c) : Mat 4096 2048)
      ∧ r.2.mem ((c.tc : Thread nD τ).loc main_v89) = (kDq (args m c) : Mat 4096 2048)
      ∧ r.2.mem ((c.tc : Thread nD τ).loc main_v139) = (kDD (args m c) : Mat 1 1024)
      ∧ r.2.mem ((c.tc : Thread nD τ).loc main_v120) = (kDwg (args m c) : Mat 1024 1024)
      ∧ r.2.mem ((c.tc : Thread nD τ).loc main_v118) = (kDbg (args m c) : Mat 1 1024)
      ∧ r.2.mem ((c.tc : Thread nD τ).loc main_v85) = (kDwp (args m c) : Mat 1024 1024)
      ∧ r.2.mem ((c.tc : Thread nD τ).loc main_v94) = (kDn (args m c) : Mat 1 2048)
      ∧ r.2.mem ((c.tc : Thread nD τ).loc main_v79) = (kDws (args m c) : Mat 2048 1024)
      ∧ r.2.mem ((c.tc : Thread nD τ).loc main_v91) = (kDbq (args m c) : Mat 1 2048)
      ∧ r.2.mem ((c.tc : Thread nD τ).loc main_v74) = (kDwo (args m c) : Mat 1024 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) := by
  refine θ_run_mono (Cert.MixerRefIdeal.Value.run m ρ) fun r h c => ?_
  obtain ⟨h0, h1, h2, h3, h4, h5, h6, h7, h8, h9, h10, h11, h12, hargs⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, hargs⟩
  · exact v134_eq _
  · show mulf (rowT ((StableHlo.launchContents m c) (Proc.devRef .tc main_arg6))) (res_main_v134 (StableHlo.launchContents m c)) = _
    rw [v134_eq, scaleT_eq]
    rfl
  · show dyrT ((StableHlo.launchContents m c) (Proc.devRef .tc main_arg3)) ((StableHlo.launchContents m c) (Proc.devRef .tc main_arg4)) (res_main_v80 (StableHlo.launchContents m c)) ((StableHlo.launchContents m c) (Proc.devRef .tc main_arg10)) = _
    rw [v80_eq, dyrT_eq]
    rfl
  · show dzT ((StableHlo.launchContents m c) (Proc.devRef .tc main_arg3)) ((StableHlo.launchContents m c) (Proc.devRef .tc main_arg4)) (res_main_v80 (StableHlo.launchContents m c)) ((StableHlo.launchContents m c) (Proc.devRef .tc main_arg10)) = _
    rw [v80_eq, dzT_eq]
    rfl
  · show dqT ((StableHlo.launchContents m c) (Proc.devRef .tc main_arg5)) ((StableHlo.launchContents m c) (Proc.devRef .tc main_arg12)) (res_main_v66 (StableHlo.launchContents m c)) (res_main_v69 (StableHlo.launchContents m c)) (res_main_v75 (StableHlo.launchContents m c)) = _
    rw [v66_eq, v69_eq, v75_eq, dqT_eq]
    rfl
  · show sumT (mulf (res_main_v134 (StableHlo.launchContents m c)) ((StableHlo.launchContents m c) (Proc.devRef .tc main_arg2))) = _
    rw [v134_eq, colDotT_eq]
    rfl
  · show tnT (res_main_v23 (StableHlo.launchContents m c)) (res_main_v116 (StableHlo.launchContents m c)) = _
    rw [v23_eq, v116_eq, tnT_eq]
    rfl
  · show sumT (res_main_v116 (StableHlo.launchContents m c)) = _
    rw [v116_eq, colSumT_eq]
    rfl
  · show tnT (res_main_v36 (StableHlo.launchContents m c)) (res_main_v82 (StableHlo.launchContents m c)) = _
    rw [v36_eq, v82_eq, tnT_eq]
    rfl
  · show wsumT (mulf (unitT (gatedT ((StableHlo.launchContents m c) (Proc.devRef .tc main_arg3)) ((StableHlo.launchContents m c) (Proc.devRef .tc main_arg4)))) (res_main_v80 (StableHlo.launchContents m c))) = _
    rw [v80_eq, dnT_eq]
    rfl
  · show tnsT (res_main_v53 (StableHlo.launchContents m c)) (res_main_v76 (StableHlo.launchContents m c)) = _
    rw [v53_eq, v76_eq, tnsT_eq]
    rfl
  · show wsumT (dqT ((StableHlo.launchContents m c) (Proc.devRef .tc main_arg5)) ((StableHlo.launchContents m c) (Proc.devRef .tc main_arg12)) (res_main_v66 (StableHlo.launchContents m c)) (res_main_v69 (StableHlo.launchContents m c)) (res_main_v75 (StableHlo.launchContents m c))) = _
    rw [v66_eq, v69_eq, v75_eq, dqT_eq, wcolSumT_eq]
    rfl
  · show tnT (res_main_v71 (StableHlo.launchContents m c)) ((StableHlo.launchContents m c) (Proc.devRef .tc main_arg0)) = _
    rw [v71_eq, tnT_eq]
    rfl
end

end Mix.Ref

end
-- ==== Proof.Mixer.Value.lean ====
/-
  The two programs give the same thirteen results, on any arguments.
-/
module

public import proofs.«01_k».proof.Defs
public import proofs.«01_k».proof.Proof.Mixer.Fold
public import proofs.«01_k».proof.Proof.Mixer.Run
public import proofs.«01_k».proof.Proof.Mixer.Reference
public import Idealize.ShloMosaic.Lib.Claim

@[expose] public section

set_option maxRecDepth 16384

noncomputable section

namespace Mix

open Idealize.ShloMosaic Idealize.ShloMosaic.TcCoe Idealize.SL.Sem

open Cert.MixerIdeal.Gen in
/-- The kernel's thirteen results are the reference's. -/
theorem algebraic : Cert.algebraic_MixerIdeal_MixerRefIdeal (hMixerIdeal := Cert.MixerIdeal.Gen.facts)
    (hMixerRefIdeal := Cert.MixerRefIdeal.Gen.facts) := by
  intro m g m' g' _ hag
  have same : ∀ c, Ref.args m' c = args m c := fun c => by
    obtain ⟨e0, e1, e2, e3, e4, e5, e6, e7, e8, e9, e10, e11, e12, e13⟩ := hag c
    have b0 : (Ref.args m' c).dy = (args m c).dy := e0
    have b1 : (Ref.args m' c).ys = (args m c).ys := e1
    have b2 : (Ref.args m' c).u = (args m c).u := e2
    have b3 : (Ref.args m' c).yr = (args m c).yr := e3
    have b4 : (Ref.args m' c).z = (args m c).z := e4
    have b5 : (Ref.args m' c).gl = (args m c).gl := e5
    have b6 : (Ref.args m' c).skipD = (args m c).skipD := e6
    have b7 : (Ref.args m' c).wg = (args m c).wg := e7
    have b8 : (Ref.args m' c).bg = (args m c).bg := e8
    have b9 : (Ref.args m' c).wp = (args m c).wp := e9
    have b10 : (Ref.args m' c).gain = (args m c).gain := e10
    have b11 : (Ref.args m' c).ws = (args m c).ws := e11
    have b12 : (Ref.args m' c).bq = (args m c).bq := e12
    have b13 : (Ref.args m' c).wo = (args m c).wo := e13
    generalize Ref.args m' c = P at *
    generalize args m c = R at *
    cases P
    cases R
    simp_all only
  refine ⟨fun c => kDx (args m c),
    fun c => kDu (args m c),
    fun c => kDyr (args m c),
    fun c => kDz (args m c),
    fun c => kDq (args m c),
    fun c => kDD (args m c),
    fun c => kDwg (args m c),
    fun c => kDbg (args m c),
    fun c => kDwp (args m c),
    fun c => kDn (args m c),
    fun c => kDws (args m c),
    fun c => kDbq (args m c),
    fun c => kDwo (args m c), ?_, ?_⟩
  · refine θ_run_mono (θ_run_and (Mix.run m g) (Cert.MixerIdeal.Gen.frame m g)) fun r h c => ?_
    have at_end := h.1.1 c
    exact ⟨(at_end _ (mem_uc Cert.MixerIdeal.main_v22_0 (by decide))).trans (end_v22_0 m g c),
      (at_end _ (mem_uc Cert.MixerIdeal.main_v22_1 (by decide))).trans (end_v22_1 m g c),
      (at_end _ (mem_uc Cert.MixerIdeal.main_v16_0 (by decide))).trans (end_v16_0 m g c),
      (at_end _ (mem_uc Cert.MixerIdeal.main_v23 (by decide))).trans (end_v23 m g c),
      (at_end _ (mem_uc Cert.MixerIdeal.main_v24 (by decide))).trans (end_v24 m g c),
      (at_end _ (mem_uc Cert.MixerIdeal.main_v22_2 (by decide))).trans (end_v22_2 m g c),
      (at_end _ (mem_uc Cert.MixerIdeal.main_v20 (by decide))).trans (end_v20 m g c),
      (at_end _ (mem_uc Cert.MixerIdeal.main_v22_3 (by decide))).trans (end_v22_3 m g c),
      (at_end _ (mem_uc Cert.MixerIdeal.main_v18 (by decide))).trans (end_v18 m g c),
      (at_end _ (mem_uc Cert.MixerIdeal.main_v16_2 (by decide))).trans (end_v16_2 m g c),
      (at_end _ (mem_uc Cert.MixerIdeal.main_v15 (by decide))).trans (end_v15 m g c),
      (at_end _ (mem_uc Cert.MixerIdeal.main_v13_3 (by decide))).trans (end_v13_3 m g c),
      (at_end _ (mem_uc Cert.MixerIdeal.main_v12 (by decide))).trans (end_v12 m g c), h.2.1 c⟩
  · refine θ_run_mono (Ref.run_stages m' g') fun r h c => ?_
    have hc := h c
    rw [same c] at hc
    exact hc

end Mix

end
-- ==== Proof.Proj.Args.lean ====
/- The eleven arguments of the projection, and the kernel's arrays as expressions of them. -/
module

public import proofs.«01_k».proof.Proof.Ffn.Mat

@[expose] public section

set_option maxRecDepth 16384

noncomputable section

namespace Proj

open Idealize.ShloMosaic Ffn

/-- The arguments. -/
structure Args where
  /-- The cotangent of the block's input along the residual. -/
  dy : Mat 4096 1024
  /-- The cotangent of the S5 input. -/
  du : Mat 4096 1024
  /-- The cotangent of the gate of the second branch. -/
  dz : Mat 4096 2048
  /-- The cotangent of the first columns of the convolution's input. -/
  dxs : Mat 4096 2048
  /-- The cotangent of its middle columns. -/
  dB : Mat 4096 1024
  /-- The cotangent of its last columns. -/
  dC : Mat 4096 1024
  /-- The cotangent of the step sizes. -/
  ddt : Mat 4096 32
  /-- The cotangent of the merge's gates. -/
  dgl : Mat 4096 2048
  /-- The block's input. -/
  x : Mat 4096 1024
  /-- The normalisation's gain. -/
  gain : Mat 1 1024
  /-- The projection's weights. -/
  w : Mat 1024 9248

/-- The `n` columns of a matrix from column `lo` on, as rows. -/
def cols {k w : ℕ} (lo n : ℕ) (h : lo + n ≤ w) (W : Mat k w) : Mat n k := mk fun r s => W (ix2 s ⟨lo + r.val, by omega⟩)

variable (a : Args)

/-- The normalised input. -/
def kH : Mat 4096 1024 := hn a.x a.gain
/-- The columns of the S5 input. -/
def kU : Mat 4096 1024 := nt (kH a) (cols 0 1024 (by decide) a.w)
/-- The columns of the gate of the second branch. -/
def kZ : Mat 4096 2048 := nt (kH a) (cols 1024 2048 (by decide) a.w)
/-- The columns of the convolution's input. -/
def kV : Mat 4096 4096 := nt (kH a) (cols 3072 4096 (by decide) a.w)
/-- The columns of the step sizes. -/
def kT : Mat 4096 32 := nt (kH a) (cols 7168 32 (by decide) a.w)
/-- The columns of the gates of the merge. -/
def kL : Mat 4096 2048 := nt (kH a) (cols 7200 2048 (by decide) a.w)
/-- The first term of the cotangent of the normalised input. -/
def kN0 : Mat 4096 1024 := nn a.du (cols 0 1024 (by decide) a.w)
/-- Its first two terms. -/
def kN1 : Mat 4096 1024 := nnAdd a.dz (cols 1024 2048 (by decide) a.w) (kN0 a)
/-- Its first three terms. -/
def kN2 : Mat 4096 1024 := nnAdd a.dxs (cols 3072 2048 (by decide) a.w) (kN1 a)
/-- Its first four terms. -/
def kN3 : Mat 4096 1024 := nnAdd a.dB (cols 5120 1024 (by decide) a.w) (kN2 a)
/-- Its first five terms. -/
def kN4 : Mat 4096 1024 := nnAdd a.dC (cols 6144 1024 (by decide) a.w) (kN3 a)
/-- Its first six terms. -/
def kN5 : Mat 4096 1024 := nnAdd a.ddt (cols 7168 32 (by decide) a.w) (kN4 a)
/-- All seven terms. -/
def kN6 : Mat 4096 1024 := nnAdd a.dgl (cols 7200 2048 (by decide) a.w) (kN5 a)
/-- The cotangent of the projection's output: its seven groups of columns side by side. -/
def side : Mat 4096 9248 := mk fun r s =>
  if h0 : s.val < 1024 then a.du (ix2 r ⟨s.val, by omega⟩)
  else if h1 : s.val - 1024 < 2048 then a.dz (ix2 r ⟨s.val - 1024, by omega⟩)
  else if h2 : s.val - 1024 - 2048 < 2048 then a.dxs (ix2 r ⟨s.val - 1024 - 2048, by omega⟩)
  else if h3 : s.val - 1024 - 2048 - 2048 < 1024 then a.dB (ix2 r ⟨s.val - 1024 - 2048 - 2048, by omega⟩)
  else if h4 : s.val - 1024 - 2048 - 2048 - 1024 < 1024 then a.dC (ix2 r ⟨s.val - 1024 - 2048 - 2048 - 1024, by omega⟩)
  else if h5 : s.val - 1024 - 2048 - 2048 - 1024 - 1024 < 32 then a.ddt (ix2 r ⟨s.val - 1024 - 2048 - 2048 - 1024 - 1024, by omega⟩)
  else a.dgl (ix2 r ⟨s.val - 1024 - 2048 - 2048 - 1024 - 1024 - 32, by omega⟩)
/-- The gradient of the projection's weights. -/
def kDw : Mat 1024 9248 := tr (tn (side a) (kH a))
/-- The gradient of the block's input. -/
def kDx : Mat 4096 1024 := dx a.x (kN6 a) a.dy a.gain
/-- The gradient of the gain. -/
def kDg : Mat 1 1024 := dg a.x (kN6 a)

/-- Equal where they agree at every pair of indices. -/
theorem ext2 {m n : ℕ} {P R : Mat m n} (h : ∀ r s, P (ix2 r s) = R (ix2 r s)) : P = R :=
  funext fun j => by simpa using h (j 0) (j 1)

/-- A block of rows of the transpose is a block of columns. -/
theorem rows_tr {k w n lo : ℕ} (h : lo + n ≤ w) (hs : (⟨2, ![w, k]⟩ : Shape).Slices ![lo, 0] ⟨2, ![n, k]⟩) (W : Mat k w) :
    extractStridedSlice (⟨2, ![n, k]⟩ : Shape) ![lo, 0] (tr W) hs = cols lo n h W := by
  refine ext2 fun r s => ?_
  pointwise [tr, cols, mk]
  congr 2 <;> apply Fin.ext <;> simp [Shape.Idx.norm]

/-- The product with all columns is the sum of the groups' products. -/
theorem side_eq : nt (side a) a.w = kN6 a := by
  refine ext2 fun r s => ?_
  pointwise [sumSplitAll, side, kN6, kN5, kN4, kN3, kN2, kN1, kN0, nnAdd, nn, nt, cols, mk]
  ac_rfl

end Proj

end
-- ==== Proof.Proj.Forward.lean ====
/- The forward calls of the projection: what each leaves in its result array. -/
module

public import proofs.«01_k».proof.Proof.Ffn.Mat
public import proofs.«01_k».proof.Proof.Gen.ProjIdeal.Frame.Region0
public import proofs.«01_k».proof.Proof.Gen.ProjIdeal.Frame.Region1
public import proofs.«01_k».proof.Proof.Gen.ProjIdeal.Frame.Region2
public import proofs.«01_k».proof.Proof.Gen.ProjIdeal.Frame.Region3
public import proofs.«01_k».proof.Proof.Gen.ProjIdeal.Frame.Region4
public import proofs.«01_k».proof.Proof.Gen.ProjIdeal.Frame.Region5
public import Idealize.ShloMosaic.Lib.Pipeline.ValueKit

@[expose] public section

set_option maxRecDepth 16384

noncomputable section

namespace Proj

open Idealize.ShloMosaic Idealize.ShloMosaic.TcCoe Idealize.SL.Sem Ffn
open Cert.ProjIdeal Cert.ProjIdeal.Gen

variable (V : (c : Dev nD) → (b : Ref sig .tc) → Buf (Elt Ideal) ((c : Thread nD τ).loc b))

theorem idx0 : ∀ t : Fin cfg0.N,
    win0_0.index t = ![(grid0.coords t 0).val, 0] ∧
    win0_1.index t = ![0, 0] ∧
    win0_2.index t = ![(grid0.coords t 0).val, 0] :=
  (by decide +kernel : ∀ t : Fin grid0.N, _)

/-- The normalised rows. -/
theorem norm_out (c : Dev nD) : (dat0 V c).arrAt 2 cfg0.N
    = hn (V c main_arg8 : Mat 4096 1024) (V c main_arg9 : Mat 1 1024) := by
  refine (dat0 V c).arrAt_eq_of_covers 2 _ (by decide +kernel) fun t hf y => ?_
  blk_simp
  rw [after0_2]
  frame_out
  pointwise [k0_pay1, hn, rs, msq, mk]
  blk_point [iblk0, idx0 t]

theorem idx1 : ∀ t : Fin cfg1.N,
    win1_0.index t = ![(grid1.coords t 1).val, 0] ∧
    win1_1.index t = ![(grid1.coords t 0).val, 0] ∧
    win1_2.index t = ![(grid1.coords t 1).val, (grid1.coords t 0).val] :=
  (by decide +kernel : ∀ t : Fin grid1.N, _)

/-- The columns of the S5 input. -/
theorem in0_out (c : Dev nD) : (dat1 V c).arrAt 2 cfg1.N
    = nt (V c main_v2 : Mat 4096 1024) (V c main_v3 : Mat 1024 1024) := by
  refine (dat1 V c).arrAt_eq_of_covers 2 _ (by decide +kernel) fun t hf y => ?_
  blk_simp
  rw [after1_2]
  frame_out
  pointwise [k1_pay1, nt, mk]
  blk_point [iblk1, idx1 t]

theorem idx2 : ∀ t : Fin cfg2.N,
    win2_0.index t = ![(grid2.coords t 1).val, 0] ∧
    win2_1.index t = ![(grid2.coords t 0).val, 0] ∧
    win2_2.index t = ![(grid2.coords t 1).val, (grid2.coords t 0).val] :=
  (by decide +kernel : ∀ t : Fin grid2.N, _)

/-- The columns of the gate of the second branch. -/
theorem in1_out (c : Dev nD) : (dat2 V c).arrAt 2 cfg2.N
    = nt (V c main_v2 : Mat 4096 1024) (V c main_v5 : Mat 2048 1024) := by
  refine (dat2 V c).arrAt_eq_of_covers 2 _ (by decide +kernel) fun t hf y => ?_
  blk_simp
  rw [after2_2]
  frame_out
  pointwise [k2_pay1, nt, mk]
  blk_point [iblk2, idx2 t]

theorem idx3 : ∀ t : Fin cfg3.N,
    win3_0.index t = ![(grid3.coords t 0).val, 0] ∧
    win3_1.index t = ![(grid3.coords t 1).val, 0] ∧
    win3_2.index t = ![(grid3.coords t 0).val, (grid3.coords t 1).val] :=
  (by decide +kernel : ∀ t : Fin grid3.N, _)

/-- The columns of the convolution's input. -/
theorem in2_out (c : Dev nD) : (dat3 V c).arrAt 2 cfg3.N
    = nt (V c main_v2 : Mat 4096 1024) (V c main_v7 : Mat 4096 1024) := by
  refine (dat3 V c).arrAt_eq_of_covers 2 _ (by decide +kernel) fun t hf y => ?_
  blk_simp
  rw [after3_2]
  frame_out
  pointwise [k3_pay1, nt, mk]
  blk_point [iblk3, idx3 t]

theorem idx4 : ∀ t : Fin cfg4.N,
    win4_0.index t = ![(grid4.coords t 1).val, 0] ∧
    win4_1.index t = ![(grid4.coords t 0).val, 0] ∧
    win4_2.index t = ![(grid4.coords t 1).val, (grid4.coords t 0).val] :=
  (by decide +kernel : ∀ t : Fin grid4.N, _)

/-- The columns of the step sizes. -/
theorem in3_out (c : Dev nD) : (dat4 V c).arrAt 2 cfg4.N
    = nt (V c main_v2 : Mat 4096 1024) (V c main_v9 : Mat 32 1024) := by
  refine (dat4 V c).arrAt_eq_of_covers 2 _ (by decide +kernel) fun t hf y => ?_
  blk_simp
  rw [after4_2]
  frame_out
  pointwise [k4_pay1, nt, mk]
  blk_point [iblk4, idx4 t]

theorem idx5 : ∀ t : Fin cfg5.N,
    win5_0.index t = ![(grid5.coords t 1).val, 0] ∧
    win5_1.index t = ![(grid5.coords t 0).val, 0] ∧
    win5_2.index t = ![(grid5.coords t 1).val, (grid5.coords t 0).val] :=
  (by decide +kernel : ∀ t : Fin grid5.N, _)

/-- The columns of the gates of the merge. -/
theorem in4_out (c : Dev nD) : (dat5 V c).arrAt 2 cfg5.N
    = nt (V c main_v2 : Mat 4096 1024) (V c main_v11 : Mat 2048 1024) := by
  refine (dat5 V c).arrAt_eq_of_covers 2 _ (by decide +kernel) fun t hf y => ?_
  blk_simp
  rw [after5_2]
  frame_out
  pointwise [k5_pay1, nt, mk]
  blk_point [iblk5, idx5 t]

end Proj

end
-- ==== Proof.Proj.Inputs.lean ====
/- The cotangent of the normalised rows: each call adds the product of one group of columns. -/
module

public import proofs.«01_k».proof.Proof.Ffn.Mat
public import proofs.«01_k».proof.Proof.Gen.ProjIdeal.Frame.Region7
public import proofs.«01_k».proof.Proof.Gen.ProjIdeal.Frame.Region9
public import proofs.«01_k».proof.Proof.Gen.ProjIdeal.Frame.Region11
public import proofs.«01_k».proof.Proof.Gen.ProjIdeal.Frame.Region13
public import proofs.«01_k».proof.Proof.Gen.ProjIdeal.Frame.Region15
public import proofs.«01_k».proof.Proof.Gen.ProjIdeal.Frame.Region17
public import proofs.«01_k».proof.Proof.Gen.ProjIdeal.Frame.Region19
public import Idealize.ShloMosaic.Lib.Pipeline.ValueKit

@[expose] public section

set_option maxRecDepth 16384

noncomputable section

namespace Proj

open Idealize.ShloMosaic Idealize.ShloMosaic.TcCoe Idealize.SL.Sem Ffn
open Cert.ProjIdeal Cert.ProjIdeal.Gen

variable (V : (c : Dev nD) → (b : Ref sig .tc) → Buf (Elt Ideal) ((c : Thread nD τ).loc b))

theorem idx7 : ∀ t : Fin cfg7.N,
    win7_0.index t = ![(grid7.coords t 1).val, 0] ∧
    win7_1.index t = ![0, (grid7.coords t 0).val] ∧
    win7_2.index t = ![(grid7.coords t 1).val, (grid7.coords t 0).val] :=
  (by decide +kernel : ∀ t : Fin grid7.N, _)

/-- The columns of the S5 input. -/
theorem dh0_out (c : Dev nD) : (dat7 V c).arrAt 2 cfg7.N
    = nn (V c main_arg1 : Mat 4096 1024) (V c main_v19 : Mat 1024 1024) := by
  refine (dat7 V c).arrAt_eq_of_covers 2 _ (by decide +kernel) fun t hf y => ?_
  blk_simp
  rw [after7_2]
  frame_out
  pointwise [k7_pay1, nn, mk]
  blk_point [iblk7, idx7 t]

theorem idx9 : ∀ t : Fin cfg9.N,
    win9_0.index t = ![(grid9.coords t 1).val, 0] ∧
    win9_1.index t = ![0, (grid9.coords t 0).val] ∧
    win9_2.index t = ![(grid9.coords t 1).val, (grid9.coords t 0).val] ∧
    win9_3.index t = ![(grid9.coords t 1).val, (grid9.coords t 0).val] :=
  (by decide +kernel : ∀ t : Fin grid9.N, _)

/-- The columns of the gate of the second branch, added. -/
theorem dh1_out (c : Dev nD) : (dat9 V c).arrAt 3 cfg9.N
    = nnAdd (V c main_v16 : Mat 4096 2048) (V c main_v22 : Mat 2048 1024) (V c main_v20 : Mat 4096 1024) := by
  refine (dat9 V c).arrAt_eq_of_covers 3 _ (by decide +kernel) fun t hf y => ?_
  blk_simp
  rw [after9_3]
  frame_out
  pointwise [k9_pay1, nnAdd, mk]
  blk_point [iblk9, idx9 t]

theorem idx11 : ∀ t : Fin cfg11.N,
    win11_0.index t = ![(grid11.coords t 1).val, 0] ∧
    win11_1.index t = ![0, (grid11.coords t 0).val] ∧
    win11_2.index t = ![(grid11.coords t 1).val, (grid11.coords t 0).val] ∧
    win11_3.index t = ![(grid11.coords t 1).val, (grid11.coords t 0).val] :=
  (by decide +kernel : ∀ t : Fin grid11.N, _)

/-- The columns of the convolution's first columns, added. -/
theorem dh2_out (c : Dev nD) : (dat11 V c).arrAt 3 cfg11.N
    = nnAdd (V c main_v13 : Mat 4096 2048) (V c main_v25 : Mat 2048 1024) (V c main_v23 : Mat 4096 1024) := by
  refine (dat11 V c).arrAt_eq_of_covers 3 _ (by decide +kernel) fun t hf y => ?_
  blk_simp
  rw [after11_3]
  frame_out
  pointwise [k11_pay1, nnAdd, mk]
  blk_point [iblk11, idx11 t]

theorem idx13 : ∀ t : Fin cfg13.N,
    win13_0.index t = ![(grid13.coords t 1).val, 0] ∧
    win13_1.index t = ![0, (grid13.coords t 0).val] ∧
    win13_2.index t = ![(grid13.coords t 1).val, (grid13.coords t 0).val] ∧
    win13_3.index t = ![(grid13.coords t 1).val, (grid13.coords t 0).val] :=
  (by decide +kernel : ∀ t : Fin grid13.N, _)

/-- The columns of the convolution's middle columns, added. -/
theorem dh3_out (c : Dev nD) : (dat13 V c).arrAt 3 cfg13.N
    = nnAdd (V c main_v14 : Mat 4096 1024) (V c main_v28 : Mat 1024 1024) (V c main_v26 : Mat 4096 1024) := by
  refine (dat13 V c).arrAt_eq_of_covers 3 _ (by decide +kernel) fun t hf y => ?_
  blk_simp
  rw [after13_3]
  frame_out
  pointwise [k13_pay1, nnAdd, mk]
  blk_point [iblk13, idx13 t]

theorem idx15 : ∀ t : Fin cfg15.N,
    win15_0.index t = ![(grid15.coords t 1).val, 0] ∧
    win15_1.index t = ![0, (grid15.coords t 0).val] ∧
    win15_2.index t = ![(grid15.coords t 1).val, (grid15.coords t 0).val] ∧
    win15_3.index t = ![(grid15.coords t 1).val, (grid15.coords t 0).val] :=
  (by decide +kernel : ∀ t : Fin grid15.N, _)

/-- The columns of the convolution's last columns, added. -/
theorem dh4_out (c : Dev nD) : (dat15 V c).arrAt 3 cfg15.N
    = nnAdd (V c main_v15 : Mat 4096 1024) (V c main_v31 : Mat 1024 1024) (V c main_v29 : Mat 4096 1024) := by
  refine (dat15 V c).arrAt_eq_of_covers 3 _ (by decide +kernel) fun t hf y => ?_
  blk_simp
  rw [after15_3]
  frame_out
  pointwise [k15_pay1, nnAdd, mk]
  blk_point [iblk15, idx15 t]

theorem idx17 : ∀ t : Fin cfg17.N,
    win17_0.index t = ![(grid17.coords t 1).val, 0] ∧
    win17_1.index t = ![0, (grid17.coords t 0).val] ∧
    win17_2.index t = ![(grid17.coords t 1).val, (grid17.coords t 0).val] ∧
    win17_3.index t = ![(grid17.coords t 1).val, (grid17.coords t 0).val] :=
  (by decide +kernel : ∀ t : Fin grid17.N, _)

/-- The columns of the step sizes, added. -/
theorem dh5_out (c : Dev nD) : (dat17 V c).arrAt 3 cfg17.N
    = nnAdd (V c main_arg6 : Mat 4096 32) (V c main_v34 : Mat 32 1024) (V c main_v32 : Mat 4096 1024) := by
  refine (dat17 V c).arrAt_eq_of_covers 3 _ (by decide +kernel) fun t hf y => ?_
  blk_simp
  rw [after17_3]
  frame_out
  pointwise [k17_pay1, nnAdd, mk]
  blk_point [iblk17, idx17 t]

theorem idx19 : ∀ t : Fin cfg19.N,
    win19_0.index t = ![(grid19.coords t 1).val, 0] ∧
    win19_1.index t = ![0, (grid19.coords t 0).val] ∧
    win19_2.index t = ![(grid19.coords t 1).val, (grid19.coords t 0).val] ∧
    win19_3.index t = ![(grid19.coords t 1).val, (grid19.coords t 0).val] :=
  (by decide +kernel : ∀ t : Fin grid19.N, _)

/-- The columns of the gates of the merge, added. -/
theorem dh6_out (c : Dev nD) : (dat19 V c).arrAt 3 cfg19.N
    = nnAdd (V c main_v17 : Mat 4096 2048) (V c main_v37 : Mat 2048 1024) (V c main_v35 : Mat 4096 1024) := by
  refine (dat19 V c).arrAt_eq_of_covers 3 _ (by decide +kernel) fun t hf y => ?_
  blk_simp
  rw [after19_3]
  frame_out
  pointwise [k19_pay1, nnAdd, mk]
  blk_point [iblk19, idx19 t]

end Proj

end
-- ==== Proof.Proj.Weights.lean ====
/- The gradient of the projection's weights: what the call of each group of columns leaves in its result array. -/
module

public import proofs.«01_k».proof.Proof.Ffn.Mat
public import proofs.«01_k».proof.Proof.Gen.ProjIdeal.Frame.Region6
public import proofs.«01_k».proof.Proof.Gen.ProjIdeal.Frame.Region8
public import proofs.«01_k».proof.Proof.Gen.ProjIdeal.Frame.Region10
public import proofs.«01_k».proof.Proof.Gen.ProjIdeal.Frame.Region12
public import proofs.«01_k».proof.Proof.Gen.ProjIdeal.Frame.Region14
public import proofs.«01_k».proof.Proof.Gen.ProjIdeal.Frame.Region16
public import proofs.«01_k».proof.Proof.Gen.ProjIdeal.Frame.Region18
public import Idealize.ShloMosaic.Lib.Pipeline.ValueKit

@[expose] public section

set_option maxRecDepth 16384

noncomputable section

namespace Proj

open Idealize.ShloMosaic Idealize.ShloMosaic.TcCoe Idealize.SL.Sem Ffn
open Cert.ProjIdeal Cert.ProjIdeal.Gen

variable (V : (c : Dev nD) → (b : Ref sig .tc) → Buf (Elt Ideal) ((c : Thread nD τ).loc b))

theorem idx6 : ∀ t : Fin cfg6.N,
    win6_0.index t = ![0, (grid6.coords t 0).val] ∧
    win6_1.index t = ![0, (grid6.coords t 1).val] ∧
    win6_2.index t = ![(grid6.coords t 0).val, (grid6.coords t 1).val] :=
  (by decide +kernel : ∀ t : Fin grid6.N, _)

/-- The columns of the S5 input. -/
theorem dw0_out (c : Dev nD) : (dat6 V c).arrAt 2 cfg6.N
    = tn (V c main_arg1 : Mat 4096 1024) (V c main_v2 : Mat 4096 1024) := by
  refine (dat6 V c).arrAt_eq_of_covers 2 _ (by decide +kernel) fun t hf y => ?_
  blk_simp
  rw [after6_2]
  frame_out
  pointwise [k6_pay1, tn, mk]
  blk_point [iblk6, idx6 t]

theorem idx8 : ∀ t : Fin cfg8.N,
    win8_0.index t = ![0, (grid8.coords t 0).val] ∧
    win8_1.index t = ![0, (grid8.coords t 1).val] ∧
    win8_2.index t = ![(grid8.coords t 0).val, (grid8.coords t 1).val] :=
  (by decide +kernel : ∀ t : Fin grid8.N, _)

/-- The columns of the gate of the second branch. -/
theorem dw1_out (c : Dev nD) : (dat8 V c).arrAt 2 cfg8.N
    = tn (V c main_v16 : Mat 4096 2048) (V c main_v2 : Mat 4096 1024) := by
  refine (dat8 V c).arrAt_eq_of_covers 2 _ (by decide +kernel) fun t hf y => ?_
  blk_simp
  rw [after8_2]
  frame_out
  pointwise [k8_pay1, tn, mk]
  blk_point [iblk8, idx8 t]

theorem idx10 : ∀ t : Fin cfg10.N,
    win10_0.index t = ![0, (grid10.coords t 0).val] ∧
    win10_1.index t = ![0, (grid10.coords t 1).val] ∧
    win10_2.index t = ![(grid10.coords t 0).val, (grid10.coords t 1).val] :=
  (by decide +kernel : ∀ t : Fin grid10.N, _)

/-- The columns of the convolution's first columns. -/
theorem dw2_out (c : Dev nD) : (dat10 V c).arrAt 2 cfg10.N
    = tn (V c main_v13 : Mat 4096 2048) (V c main_v2 : Mat 4096 1024) := by
  refine (dat10 V c).arrAt_eq_of_covers 2 _ (by decide +kernel) fun t hf y => ?_
  blk_simp
  rw [after10_2]
  frame_out
  pointwise [k10_pay1, tn, mk]
  blk_point [iblk10, idx10 t]

theorem idx12 : ∀ t : Fin cfg12.N,
    win12_0.index t = ![0, (grid12.coords t 0).val] ∧
    win12_1.index t = ![0, (grid12.coords t 1).val] ∧
    win12_2.index t = ![(grid12.coords t 0).val, (grid12.coords t 1).val] :=
  (by decide +kernel : ∀ t : Fin grid12.N, _)

/-- The columns of the convolution's middle columns. -/
theorem dw3_out (c : Dev nD) : (dat12 V c).arrAt 2 cfg12.N
    = tn (V c main_v14 : Mat 4096 1024) (V c main_v2 : Mat 4096 1024) := by
  refine (dat12 V c).arrAt_eq_of_covers 2 _ (by decide +kernel) fun t hf y => ?_
  blk_simp
  rw [after12_2]
  frame_out
  pointwise [k12_pay1, tn, mk]
  blk_point [iblk12, idx12 t]

theorem idx14 : ∀ t : Fin cfg14.N,
    win14_0.index t = ![0, (grid14.coords t 0).val] ∧
    win14_1.index t = ![0, (grid14.coords t 1).val] ∧
    win14_2.index t = ![(grid14.coords t 0).val, (grid14.coords t 1).val] :=
  (by decide +kernel : ∀ t : Fin grid14.N, _)

/-- The columns of the convolution's last columns. -/
theorem dw4_out (c : Dev nD) : (dat14 V c).arrAt 2 cfg14.N
    = tn (V c main_v15 : Mat 4096 1024) (V c main_v2 : Mat 4096 1024) := by
  refine (dat14 V c).arrAt_eq_of_covers 2 _ (by decide +kernel) fun t hf y => ?_
  blk_simp
  rw [after14_2]
  frame_out
  pointwise [k14_pay1, tn, mk]
  blk_point [iblk14, idx14 t]

theorem idx16 : ∀ t : Fin cfg16.N,
    win16_0.index t = ![0, (grid16.coords t 0).val] ∧
    win16_1.index t = ![0, (grid16.coords t 1).val] ∧
    win16_2.index t = ![(grid16.coords t 0).val, (grid16.coords t 1).val] :=
  (by decide +kernel : ∀ t : Fin grid16.N, _)

/-- The columns of the step sizes. -/
theorem dw5_out (c : Dev nD) : (dat16 V c).arrAt 2 cfg16.N
    = tn (V c main_arg6 : Mat 4096 32) (V c main_v2 : Mat 4096 1024) := by
  refine (dat16 V c).arrAt_eq_of_covers 2 _ (by decide +kernel) fun t hf y => ?_
  blk_simp
  rw [after16_2]
  frame_out
  pointwise [k16_pay1, tn, mk]
  blk_point [iblk16, idx16 t]

theorem idx18 : ∀ t : Fin cfg18.N,
    win18_0.index t = ![0, (grid18.coords t 0).val] ∧
    win18_1.index t = ![0, (grid18.coords t 1).val] ∧
    win18_2.index t = ![(grid18.coords t 0).val, (grid18.coords t 1).val] :=
  (by decide +kernel : ∀ t : Fin grid18.N, _)

/-- The columns of the gates of the merge. -/
theorem dw6_out (c : Dev nD) : (dat18 V c).arrAt 2 cfg18.N
    = tn (V c main_v17 : Mat 4096 2048) (V c main_v2 : Mat 4096 1024) := by
  refine (dat18 V c).arrAt_eq_of_covers 2 _ (by decide +kernel) fun t hf y => ?_
  blk_simp
  rw [after18_2]
  frame_out
  pointwise [k18_pay1, tn, mk]
  blk_point [iblk18, idx18 t]

end Proj

end
-- ==== Proof.Proj.Norm.lean ====
/- The gradient of the normalisation: what the last call leaves in the two result arrays that are returned. -/
module

public import proofs.«01_k».proof.Proof.Ffn.Mat
public import proofs.«01_k».proof.Proof.Gen.ProjIdeal.Frame.Region20
public import Idealize.ShloMosaic.Lib.Pipeline.ValueKit

@[expose] public section

set_option maxRecDepth 16384

noncomputable section

namespace Proj

open Idealize.ShloMosaic Idealize.ShloMosaic.TcCoe Idealize.SL.Sem Ffn
open Cert.ProjIdeal Cert.ProjIdeal.Gen

variable (V : (c : Dev nD) → (b : Ref sig .tc) → Buf (Elt Ideal) ((c : Thread nD τ).loc b))

theorem idx20 : ∀ t : Fin cfg20.N, win20_0.index t = ![t.val, 0] ∧ win20_1.index t = ![t.val, 0]
    ∧ win20_2.index t = ![t.val, 0] ∧ win20_3.index t = ![0, 0] ∧ win20_4.index t = ![t.val, 0]
    ∧ win20_6.index t = ![0, 0] :=
  (by decide +kernel : ∀ t : Fin grid20.N, _)

/-- The first result at a grid point, first or later: the same expression of the point's input blocks. -/
theorem out20_4 (c : Dev nD) (t : Fin cfg20.N) :
    (outsAt20 V c t.val t.isLt).1 = k20_pay9 (iblk20 V c 0 t) (iblk20 V c 1 t) (iblk20 V c 2 t) (iblk20 V c 3 t) := by
  by_cases h : t.val % 8 = 0
  · rw [outsAt20_A V c t h]; frame_out
  · rw [outsAt20_B V c t h]; frame_out

/-- The gradient of the block's input. -/
theorem dx_out (c : Dev nD) :
    (dat20 V c).arrAt 4 cfg20.N
      = dx (V c main_arg8 : Mat 4096 1024) (V c main_v38 : Mat 4096 1024) (V c main_arg0 : Mat 4096 1024) (V c main_arg9 : Mat 1 1024) := by
  refine (dat20 V c).arrAt_eq_of_covers 4 _ (by decide +kernel) fun t hf y => ?_
  blk_simp
  rw [after20_4, out20_4]
  pointwise [k20_pay9, k20_pay8, k20_pay6, k20_pay5, k20_pay4, dx, coef, rs, msq, mk]
  blk_point [iblk20, idx20 t]

theorem pay7_apply (x h : Vec Ideal S512x1024 .f32) (v : Vec Ideal S1x1024 .f32) (y : S1x1024.Idx) :
    k20_pay3 (k20_pay7 x h) v y = v y + ∑ r : Fin 512, dgTerm (x : Mat 512 1024) (h : Mat 512 1024) r (y 1) := by
  pointwise [k20_pay7, k20_pay3, k20_pay6, k20_pay5, k20_pay4, dgTerm, rs, msq, mk]

theorem pay2_apply (y : S1x1024.Idx) : k20_pay2 (F := Ideal) y = 0 := by
  pointwise [k20_pay2]

/-- The gradient of the gain: each grid point adds its 512 rows. -/
theorem dg_out (c : Dev nD) :
    (dat20 V c).arrAt 6 cfg20.N = dg (V c main_arg8 : Mat 4096 1024) (V c main_v38 : Mat 4096 1024) := by
  refine (dat20 V c).arrAt_eq_of_covers 6 _ (by decide +kernel) fun t hf y => ?_
  have ht : t.val + 1 = cfg20.N := by
    have := (flush20_6 t).mp hf
    have := t.isLt
    have hN : cfg20.N = 8 := by decide
    omega
  blk_simp
  rw [after20_6, Pipeline.eq_sum_fin_of_reset_step_apply_last (fun n h => (outsAt20 V c n h).2.2) 8 (fun _ => 0) _
    (fun t h j => by rw [outsAt20_A V c t h]; frame_out; rw [pay7_apply, pay2_apply])
    (fun t h j => by rw [outsAt20_B V c t h]; frame_out; rw [pay7_apply])
    (by decide) t ht y, zero_add]
  pointwise [dg, dgTerm, rs, msq, mk]
  refine Fin.sum_mul_add_congr fun p k hl => ?_
  blk_point [iblk20, idx20 p, idx20 t]

end Proj

end
-- ==== Proof.Proj.Fold.lean ====
/-
  What each array holds when the call that reads it is entered, as an expression of the arguments: the calls' result
  arrays, carried over the calls in between, which do not write them.
-/
module

public import proofs.«01_k».proof.Proof.Proj.Args
public import proofs.«01_k».proof.Proof.Proj.Forward
public import proofs.«01_k».proof.Proof.Proj.Inputs
public import proofs.«01_k».proof.Proof.Proj.Weights
public import proofs.«01_k».proof.Proof.Proj.Norm
public import proofs.«01_k».proof.Proof.Gen.ProjIdeal.Frame.Fold0
public import Idealize.ShloMosaic.Lib.StableHlo.ReadAt

@[expose] public section

set_option maxRecDepth 16384

noncomputable section

namespace Proj

open Idealize.ShloMosaic Idealize.ShloMosaic.TcCoe Idealize.SL.Sem Ffn
open Cert.ProjIdeal Cert.ProjIdeal.Gen

variable (m : (p : Loc nD τ sig) → Buf (Elt Ideal) p) (ρ : Dev nD → PrngReg) (c : Dev nD)

/-- The arguments on a device. -/
def args : Args where
  dy := m ((c : Thread nD τ).loc main_arg0)
  du := m ((c : Thread nD τ).loc main_arg1)
  dz := m ((c : Thread nD τ).loc main_arg2)
  dxs := m ((c : Thread nD τ).loc main_arg3)
  dB := m ((c : Thread nD τ).loc main_arg4)
  dC := m ((c : Thread nD τ).loc main_arg5)
  ddt := m ((c : Thread nD τ).loc main_arg6)
  dgl := m ((c : Thread nD τ).loc main_arg7)
  x := m ((c : Thread nD τ).loc main_arg8)
  gain := m ((c : Thread nD τ).loc main_arg9)
  w := m ((c : Thread nD τ).loc main_arg10)

/-! ## The weights, transposed -/

theorem v1_at1 : W1 m ρ c main_v1 = (tr (args m c).w : Mat 9248 1024) := by
  refine ext2 fun r s => ?_
  after_reads_at
  pointwise [tr, mk]
  rfl

/-! ## The forward calls -/

theorem v2_at2 : W2 m ρ c main_v2 = (kH (args m c) : Mat 4096 1024) := by
  refine ((W2_arr m ρ c 2).trans (norm_out _ c)).trans ?_
  show hn (W1 m ρ c main_arg8) (W1 m ρ c main_arg9) = _
  rw [W1_args m ρ c main_arg8 (by decide), W1_args m ρ c main_arg9 (by decide)]
  rfl

theorem v1_at2 : W2 m ρ c main_v1 = (tr (args m c).w : Mat 9248 1024) := by
  rw [W2_of m ρ c main_v1 (by decide), v1_at1 m ρ c]

theorem v3_at3 : W3 m ρ c main_v3 = (cols 0 1024 (by decide) (args m c).w : Mat 1024 1024) := by
  have h : W3 m ρ c main_v3 = extractStridedSlice S1024x1024 ![0, 0] (W2 m ρ c main_v1) slices_S9248x1024_S1024x1024_0_0 := by
    funext j
    after_reads_at
  rw [h, v1_at2 m ρ c]
  exact rows_tr _ _ _

theorem v2_at3 : W3 m ρ c main_v2 = (kH (args m c) : Mat 4096 1024) := by
  rw [W3_of m ρ c main_v2 (by decide), v2_at2 m ρ c]

theorem v4_at4 : W4 m ρ c main_v4 = (kU (args m c) : Mat 4096 1024) := by
  refine ((W4_arr m ρ c 2).trans (in0_out _ c)).trans ?_
  show nt (W3 m ρ c main_v2) (W3 m ρ c main_v3) = _
  rw [v2_at3 m ρ c, v3_at3 m ρ c]
  rfl

theorem v1_at4 : W4 m ρ c main_v1 = (tr (args m c).w : Mat 9248 1024) := by
  rw [W4_of m ρ c main_v1 (by decide), W3_of m ρ c main_v1 (by decide), v1_at2 m ρ c]

theorem v5_at5 : W5 m ρ c main_v5 = (cols 1024 2048 (by decide) (args m c).w : Mat 2048 1024) := by
  have h : W5 m ρ c main_v5 = extractStridedSlice S2048x1024 ![1024, 0] (W4 m ρ c main_v1) slices_S9248x1024_S2048x1024_1024_0 := by
    funext j
    after_reads_at
  rw [h, v1_at4 m ρ c]
  exact rows_tr _ _ _

theorem v2_at5 : W5 m ρ c main_v2 = (kH (args m c) : Mat 4096 1024) := by
  rw [W5_of m ρ c main_v2 (by decide), W4_of m ρ c main_v2 (by decide), v2_at3 m ρ c]

theorem v6_at6 : W6 m ρ c main_v6 = (kZ (args m c) : Mat 4096 2048) := by
  refine ((W6_arr m ρ c 2).trans (in1_out _ c)).trans ?_
  show nt (W5 m ρ c main_v2) (W5 m ρ c main_v5) = _
  rw [v2_at5 m ρ c, v5_at5 m ρ c]
  rfl

theorem v1_at6 : W6 m ρ c main_v1 = (tr (args m c).w : Mat 9248 1024) := by
  rw [W6_of m ρ c main_v1 (by decide), W5_of m ρ c main_v1 (by decide), v1_at4 m ρ c]

theorem v7_at7 : W7 m ρ c main_v7 = (cols 3072 4096 (by decide) (args m c).w : Mat 4096 1024) := by
  have h : W7 m ρ c main_v7 = extractStridedSlice S4096x1024 ![3072, 0] (W6 m ρ c main_v1) slices_S9248x1024_S4096x1024_3072_0 := by
    funext j
    after_reads_at
  rw [h, v1_at6 m ρ c]
  exact rows_tr _ _ _

theorem v2_at7 : W7 m ρ c main_v2 = (kH (args m c) : Mat 4096 1024) := by
  rw [W7_of m ρ c main_v2 (by decide), W6_of m ρ c main_v2 (by decide), v2_at5 m ρ c]

theorem v8_at8 : W8 m ρ c main_v8 = (kV (args m c) : Mat 4096 4096) := by
  refine ((W8_arr m ρ c 2).trans (in2_out _ c)).trans ?_
  show nt (W7 m ρ c main_v2) (W7 m ρ c main_v7) = _
  rw [v2_at7 m ρ c, v7_at7 m ρ c]
  rfl

theorem v1_at8 : W8 m ρ c main_v1 = (tr (args m c).w : Mat 9248 1024) := by
  rw [W8_of m ρ c main_v1 (by decide), W7_of m ρ c main_v1 (by decide), v1_at6 m ρ c]

theorem v9_at9 : W9 m ρ c main_v9 = (cols 7168 32 (by decide) (args m c).w : Mat 32 1024) := by
  have h : W9 m ρ c main_v9 = extractStridedSlice S32x1024 ![7168, 0] (W8 m ρ c main_v1) slices_S9248x1024_S32x1024_7168_0 := by
    funext j
    after_reads_at
  rw [h, v1_at8 m ρ c]
  exact rows_tr _ _ _

theorem v2_at9 : W9 m ρ c main_v2 = (kH (args m c) : Mat 4096 1024) := by
  rw [W9_of m ρ c main_v2 (by decide), W8_of m ρ c main_v2 (by decide), v2_at7 m ρ c]

theorem v10_at10 : W10 m ρ c main_v10 = (kT (args m c) : Mat 4096 32) := by
  refine ((W10_arr m ρ c 2).trans (in3_out _ c)).trans ?_
  show nt (W9 m ρ c main_v2) (W9 m ρ c main_v9) = _
  rw [v2_at9 m ρ c, v9_at9 m ρ c]
  rfl

theorem v1_at10 : W10 m ρ c main_v1 = (tr (args m c).w : Mat 9248 1024) := by
  rw [W10_of m ρ c main_v1 (by decide), W9_of m ρ c main_v1 (by decide), v1_at8 m ρ c]

theorem v11_at11 : W11 m ρ c main_v11 = (cols 7200 2048 (by decide) (args m c).w : Mat 2048 1024) := by
  have h : W11 m ρ c main_v11 = extractStridedSlice S2048x1024 ![7200, 0] (W10 m ρ c main_v1) slices_S9248x1024_S2048x1024_7200_0 := by
    funext j
    after_reads_at
  rw [h, v1_at10 m ρ c]
  exact rows_tr _ _ _

theorem v2_at11 : W11 m ρ c main_v2 = (kH (args m c) : Mat 4096 1024) := by
  rw [W11_of m ρ c main_v2 (by decide), W10_of m ρ c main_v2 (by decide), v2_at9 m ρ c]

theorem v12_at12 : W12 m ρ c main_v12 = (kL (args m c) : Mat 4096 2048) := by
  refine ((W12_arr m ρ c 2).trans (in4_out _ c)).trans ?_
  show nt (W11 m ρ c main_v2) (W11 m ρ c main_v11) = _
  rw [v2_at11 m ρ c, v11_at11 m ρ c]
  rfl

/-! ## The cotangents cast -/

theorem v13_at13 : W13 m ρ c main_v13 = ((args m c).dxs : Mat 4096 2048) := by
  have h : W13 m ρ c main_v13 = (W12 m ρ c main_arg3 : Mat 4096 2048) := by
    funext j
    after_reads_at
  rw [h, W12_args m ρ c main_arg3 (by decide)]
  rfl

theorem v14_at13 : W13 m ρ c main_v14 = ((args m c).dB : Mat 4096 1024) := by
  have h : W13 m ρ c main_v14 = (W12 m ρ c main_arg4 : Mat 4096 1024) := by
    funext j
    after_reads_at
  rw [h, W12_args m ρ c main_arg4 (by decide)]
  rfl

theorem v15_at13 : W13 m ρ c main_v15 = ((args m c).dC : Mat 4096 1024) := by
  have h : W13 m ρ c main_v15 = (W12 m ρ c main_arg5 : Mat 4096 1024) := by
    funext j
    after_reads_at
  rw [h, W12_args m ρ c main_arg5 (by decide)]
  rfl

theorem v16_at13 : W13 m ρ c main_v16 = ((args m c).dz : Mat 4096 2048) := by
  have h : W13 m ρ c main_v16 = (W12 m ρ c main_arg2 : Mat 4096 2048) := by
    funext j
    after_reads_at
  rw [h, W12_args m ρ c main_arg2 (by decide)]
  rfl

theorem v17_at13 : W13 m ρ c main_v17 = ((args m c).dgl : Mat 4096 2048) := by
  have h : W13 m ρ c main_v17 = (W12 m ρ c main_arg7 : Mat 4096 2048) := by
    funext j
    after_reads_at
  rw [h, W12_args m ρ c main_arg7 (by decide)]
  rfl

/-! ## The backward calls -/

theorem v2_at13 : W13 m ρ c main_v2 = (kH (args m c) : Mat 4096 1024) := by
  rw [W13_of m ρ c main_v2 (by decide), W12_of m ρ c main_v2 (by decide), v2_at11 m ρ c]

theorem v18_at14 : W14 m ρ c main_v18 = (tn (args m c).du (kH (args m c)) : Mat 1024 1024) := by
  refine ((W14_arr m ρ c 2).trans (dw0_out _ c)).trans ?_
  show tn (W13 m ρ c main_arg1) (W13 m ρ c main_v2) = _
  rw [W13_args m ρ c main_arg1 (by decide), v2_at13 m ρ c]
  rfl

theorem v1_at14 : W14 m ρ c main_v1 = (tr (args m c).w : Mat 9248 1024) := by
  rw [W14_of m ρ c main_v1 (by decide), W13_of m ρ c main_v1 (by decide), W12_of m ρ c main_v1 (by decide), W11_of m ρ
    c main_v1 (by decide), v1_at10 m ρ c]

theorem v19_at15 : W15 m ρ c main_v19 = (cols 0 1024 (by decide) (args m c).w : Mat 1024 1024) := by
  have h : W15 m ρ c main_v19 = extractStridedSlice S1024x1024 ![0, 0] (W14 m ρ c main_v1) slices_S9248x1024_S1024x1024_0_0 := by
    funext j
    after_reads_at
  rw [h, v1_at14 m ρ c]
  exact rows_tr _ _ _

theorem v20_at16 : W16 m ρ c main_v20 = (kN0 (args m c) : Mat 4096 1024) := by
  refine ((W16_arr m ρ c 2).trans (dh0_out _ c)).trans ?_
  show nn (W15 m ρ c main_arg1) (W15 m ρ c main_v19) = _
  rw [W15_args m ρ c main_arg1 (by decide), v19_at15 m ρ c]
  rfl

theorem v16_at16 : W16 m ρ c main_v16 = ((args m c).dz : Mat 4096 2048) := by
  rw [W16_of m ρ c main_v16 (by decide), W15_of m ρ c main_v16 (by decide), W14_of m ρ c main_v16 (by decide),
    v16_at13 m ρ c]

theorem v2_at16 : W16 m ρ c main_v2 = (kH (args m c) : Mat 4096 1024) := by
  rw [W16_of m ρ c main_v2 (by decide), W15_of m ρ c main_v2 (by decide), W14_of m ρ c main_v2 (by decide), v2_at13 m
    ρ c]

theorem v21_at17 : W17 m ρ c main_v21 = (tn (args m c).dz (kH (args m c)) : Mat 2048 1024) := by
  refine ((W17_arr m ρ c 2).trans (dw1_out _ c)).trans ?_
  show tn (W16 m ρ c main_v16) (W16 m ρ c main_v2) = _
  rw [v16_at16 m ρ c, v2_at16 m ρ c]

theorem v1_at17 : W17 m ρ c main_v1 = (tr (args m c).w : Mat 9248 1024) := by
  rw [W17_of m ρ c main_v1 (by decide), W16_of m ρ c main_v1 (by decide), W15_of m ρ c main_v1 (by decide), v1_at14 m
    ρ c]

theorem v22_at18 : W18 m ρ c main_v22 = (cols 1024 2048 (by decide) (args m c).w : Mat 2048 1024) := by
  have h : W18 m ρ c main_v22 = extractStridedSlice S2048x1024 ![1024, 0] (W17 m ρ c main_v1) slices_S9248x1024_S2048x1024_1024_0 := by
    funext j
    after_reads_at
  rw [h, v1_at17 m ρ c]
  exact rows_tr _ _ _

theorem v16_at18 : W18 m ρ c main_v16 = ((args m c).dz : Mat 4096 2048) := by
  rw [W18_of m ρ c main_v16 (by decide), W17_of m ρ c main_v16 (by decide), v16_at16 m ρ c]

theorem v20_at18 : W18 m ρ c main_v20 = (kN0 (args m c) : Mat 4096 1024) := by
  rw [W18_of m ρ c main_v20 (by decide), W17_of m ρ c main_v20 (by decide), v20_at16 m ρ c]

theorem v23_at19 : W19 m ρ c main_v23 = (kN1 (args m c) : Mat 4096 1024) := by
  refine ((W19_arr m ρ c 3).trans (dh1_out _ c)).trans ?_
  show nnAdd (W18 m ρ c main_v16) (W18 m ρ c main_v22) (W18 m ρ c main_v20) = _
  rw [v16_at18 m ρ c, v22_at18 m ρ c, v20_at18 m ρ c]
  rfl

theorem v13_at19 : W19 m ρ c main_v13 = ((args m c).dxs : Mat 4096 2048) := by
  rw [W19_of m ρ c main_v13 (by decide), W18_of m ρ c main_v13 (by decide), W17_of m ρ c main_v13 (by decide), W16_of
    m ρ c main_v13 (by decide), W15_of m ρ c main_v13 (by decide), W14_of m ρ c main_v13 (by decide), v13_at13 m ρ c]

theorem v2_at19 : W19 m ρ c main_v2 = (kH (args m c) : Mat 4096 1024) := by
  rw [W19_of m ρ c main_v2 (by decide), W18_of m ρ c main_v2 (by decide), W17_of m ρ c main_v2 (by decide), v2_at16 m
    ρ c]

theorem v24_at20 : W20 m ρ c main_v24 = (tn (args m c).dxs (kH (args m c)) : Mat 2048 1024) := by
  refine ((W20_arr m ρ c 2).trans (dw2_out _ c)).trans ?_
  show tn (W19 m ρ c main_v13) (W19 m ρ c main_v2) = _
  rw [v13_at19 m ρ c, v2_at19 m ρ c]

theorem v1_at20 : W20 m ρ c main_v1 = (tr (args m c).w : Mat 9248 1024) := by
  rw [W20_of m ρ c main_v1 (by decide), W19_of m ρ c main_v1 (by decide), W18_of m ρ c main_v1 (by decide), v1_at17 m
    ρ c]

theorem v25_at21 : W21 m ρ c main_v25 = (cols 3072 2048 (by decide) (args m c).w : Mat 2048 1024) := by
  have h : W21 m ρ c main_v25 = extractStridedSlice S2048x1024 ![3072, 0] (W20 m ρ c main_v1) slices_S9248x1024_S2048x1024_3072_0 := by
    funext j
    after_reads_at
  rw [h, v1_at20 m ρ c]
  exact rows_tr _ _ _

theorem v13_at21 : W21 m ρ c main_v13 = ((args m c).dxs : Mat 4096 2048) := by
  rw [W21_of m ρ c main_v13 (by decide), W20_of m ρ c main_v13 (by decide), v13_at19 m ρ c]

theorem v23_at21 : W21 m ρ c main_v23 = (kN1 (args m c) : Mat 4096 1024) := by
  rw [W21_of m ρ c main_v23 (by decide), W20_of m ρ c main_v23 (by decide), v23_at19 m ρ c]

theorem v26_at22 : W22 m ρ c main_v26 = (kN2 (args m c) : Mat 4096 1024) := by
  refine ((W22_arr m ρ c 3).trans (dh2_out _ c)).trans ?_
  show nnAdd (W21 m ρ c main_v13) (W21 m ρ c main_v25) (W21 m ρ c main_v23) = _
  rw [v13_at21 m ρ c, v25_at21 m ρ c, v23_at21 m ρ c]
  rfl

theorem v14_at22 : W22 m ρ c main_v14 = ((args m c).dB : Mat 4096 1024) := by
  rw [W22_of m ρ c main_v14 (by decide), W21_of m ρ c main_v14 (by decide), W20_of m ρ c main_v14 (by decide), W19_of
    m ρ c main_v14 (by decide), W18_of m ρ c main_v14 (by decide), W17_of m ρ c main_v14 (by decide), W16_of m ρ c
    main_v14 (by decide), W15_of m ρ c main_v14 (by decide), W14_of m ρ c main_v14 (by decide), v14_at13 m ρ c]

theorem v2_at22 : W22 m ρ c main_v2 = (kH (args m c) : Mat 4096 1024) := by
  rw [W22_of m ρ c main_v2 (by decide), W21_of m ρ c main_v2 (by decide), W20_of m ρ c main_v2 (by decide), v2_at19 m
    ρ c]

theorem v27_at23 : W23 m ρ c main_v27 = (tn (args m c).dB (kH (args m c)) : Mat 1024 1024) := by
  refine ((W23_arr m ρ c 2).trans (dw3_out _ c)).trans ?_
  show tn (W22 m ρ c main_v14) (W22 m ρ c main_v2) = _
  rw [v14_at22 m ρ c, v2_at22 m ρ c]

theorem v1_at23 : W23 m ρ c main_v1 = (tr (args m c).w : Mat 9248 1024) := by
  rw [W23_of m ρ c main_v1 (by decide), W22_of m ρ c main_v1 (by decide), W21_of m ρ c main_v1 (by decide), v1_at20 m
    ρ c]

theorem v28_at24 : W24 m ρ c main_v28 = (cols 5120 1024 (by decide) (args m c).w : Mat 1024 1024) := by
  have h : W24 m ρ c main_v28 = extractStridedSlice S1024x1024 ![5120, 0] (W23 m ρ c main_v1) slices_S9248x1024_S1024x1024_5120_0 := by
    funext j
    after_reads_at
  rw [h, v1_at23 m ρ c]
  exact rows_tr _ _ _

theorem v14_at24 : W24 m ρ c main_v14 = ((args m c).dB : Mat 4096 1024) := by
  rw [W24_of m ρ c main_v14 (by decide), W23_of m ρ c main_v14 (by decide), v14_at22 m ρ c]

theorem v26_at24 : W24 m ρ c main_v26 = (kN2 (args m c) : Mat 4096 1024) := by
  rw [W24_of m ρ c main_v26 (by decide), W23_of m ρ c main_v26 (by decide), v26_at22 m ρ c]

theorem v29_at25 : W25 m ρ c main_v29 = (kN3 (args m c) : Mat 4096 1024) := by
  refine ((W25_arr m ρ c 3).trans (dh3_out _ c)).trans ?_
  show nnAdd (W24 m ρ c main_v14) (W24 m ρ c main_v28) (W24 m ρ c main_v26) = _
  rw [v14_at24 m ρ c, v28_at24 m ρ c, v26_at24 m ρ c]
  rfl

theorem v15_at25 : W25 m ρ c main_v15 = ((args m c).dC : Mat 4096 1024) := by
  rw [W25_of m ρ c main_v15 (by decide), W24_of m ρ c main_v15 (by decide), W23_of m ρ c main_v15 (by decide), W22_of
    m ρ c main_v15 (by decide), W21_of m ρ c main_v15 (by decide), W20_of m ρ c main_v15 (by decide), W19_of m ρ c
    main_v15 (by decide), W18_of m ρ c main_v15 (by decide), W17_of m ρ c main_v15 (by decide), W16_of m ρ c main_v15
    (by decide), W15_of m ρ c main_v15 (by decide), W14_of m ρ c main_v15 (by decide), v15_at13 m ρ c]

theorem v2_at25 : W25 m ρ c main_v2 = (kH (args m c) : Mat 4096 1024) := by
  rw [W25_of m ρ c main_v2 (by decide), W24_of m ρ c main_v2 (by decide), W23_of m ρ c main_v2 (by decide), v2_at22 m
    ρ c]

theorem v30_at26 : W26 m ρ c main_v30 = (tn (args m c).dC (kH (args m c)) : Mat 1024 1024) := by
  refine ((W26_arr m ρ c 2).trans (dw4_out _ c)).trans ?_
  show tn (W25 m ρ c main_v15) (W25 m ρ c main_v2) = _
  rw [v15_at25 m ρ c, v2_at25 m ρ c]

theorem v1_at26 : W26 m ρ c main_v1 = (tr (args m c).w : Mat 9248 1024) := by
  rw [W26_of m ρ c main_v1 (by decide), W25_of m ρ c main_v1 (by decide), W24_of m ρ c main_v1 (by decide), v1_at23 m
    ρ c]

theorem v31_at27 : W27 m ρ c main_v31 = (cols 6144 1024 (by decide) (args m c).w : Mat 1024 1024) := by
  have h : W27 m ρ c main_v31 = extractStridedSlice S1024x1024 ![6144, 0] (W26 m ρ c main_v1) slices_S9248x1024_S1024x1024_6144_0 := by
    funext j
    after_reads_at
  rw [h, v1_at26 m ρ c]
  exact rows_tr _ _ _

theorem v15_at27 : W27 m ρ c main_v15 = ((args m c).dC : Mat 4096 1024) := by
  rw [W27_of m ρ c main_v15 (by decide), W26_of m ρ c main_v15 (by decide), v15_at25 m ρ c]

theorem v29_at27 : W27 m ρ c main_v29 = (kN3 (args m c) : Mat 4096 1024) := by
  rw [W27_of m ρ c main_v29 (by decide), W26_of m ρ c main_v29 (by decide), v29_at25 m ρ c]

theorem v32_at28 : W28 m ρ c main_v32 = (kN4 (args m c) : Mat 4096 1024) := by
  refine ((W28_arr m ρ c 3).trans (dh4_out _ c)).trans ?_
  show nnAdd (W27 m ρ c main_v15) (W27 m ρ c main_v31) (W27 m ρ c main_v29) = _
  rw [v15_at27 m ρ c, v31_at27 m ρ c, v29_at27 m ρ c]
  rfl

theorem v2_at28 : W28 m ρ c main_v2 = (kH (args m c) : Mat 4096 1024) := by
  rw [W28_of m ρ c main_v2 (by decide), W27_of m ρ c main_v2 (by decide), W26_of m ρ c main_v2 (by decide), v2_at25 m
    ρ c]

theorem v33_at29 : W29 m ρ c main_v33 = (tn (args m c).ddt (kH (args m c)) : Mat 32 1024) := by
  refine ((W29_arr m ρ c 2).trans (dw5_out _ c)).trans ?_
  show tn (W28 m ρ c main_arg6) (W28 m ρ c main_v2) = _
  rw [W28_args m ρ c main_arg6 (by decide), v2_at28 m ρ c]
  rfl

theorem v1_at29 : W29 m ρ c main_v1 = (tr (args m c).w : Mat 9248 1024) := by
  rw [W29_of m ρ c main_v1 (by decide), W28_of m ρ c main_v1 (by decide), W27_of m ρ c main_v1 (by decide), v1_at26 m
    ρ c]

theorem v34_at30 : W30 m ρ c main_v34 = (cols 7168 32 (by decide) (args m c).w : Mat 32 1024) := by
  have h : W30 m ρ c main_v34 = extractStridedSlice S32x1024 ![7168, 0] (W29 m ρ c main_v1) slices_S9248x1024_S32x1024_7168_0 := by
    funext j
    after_reads_at
  rw [h, v1_at29 m ρ c]
  exact rows_tr _ _ _

theorem v32_at30 : W30 m ρ c main_v32 = (kN4 (args m c) : Mat 4096 1024) := by
  rw [W30_of m ρ c main_v32 (by decide), W29_of m ρ c main_v32 (by decide), v32_at28 m ρ c]

theorem v35_at31 : W31 m ρ c main_v35 = (kN5 (args m c) : Mat 4096 1024) := by
  refine ((W31_arr m ρ c 3).trans (dh5_out _ c)).trans ?_
  show nnAdd (W30 m ρ c main_arg6) (W30 m ρ c main_v34) (W30 m ρ c main_v32) = _
  rw [W30_args m ρ c main_arg6 (by decide), v34_at30 m ρ c, v32_at30 m ρ c]
  rfl

theorem v17_at31 : W31 m ρ c main_v17 = ((args m c).dgl : Mat 4096 2048) := by
  rw [W31_of m ρ c main_v17 (by decide), W30_of m ρ c main_v17 (by decide), W29_of m ρ c main_v17 (by decide), W28_of
    m ρ c main_v17 (by decide), W27_of m ρ c main_v17 (by decide), W26_of m ρ c main_v17 (by decide), W25_of m ρ c
    main_v17 (by decide), W24_of m ρ c main_v17 (by decide), W23_of m ρ c main_v17 (by decide), W22_of m ρ c main_v17
    (by decide), W21_of m ρ c main_v17 (by decide), W20_of m ρ c main_v17 (by decide), W19_of m ρ c main_v17 (by
    decide), W18_of m ρ c main_v17 (by decide), W17_of m ρ c main_v17 (by decide), W16_of m ρ c main_v17 (by decide),
    W15_of m ρ c main_v17 (by decide), W14_of m ρ c main_v17 (by decide), v17_at13 m ρ c]

theorem v2_at31 : W31 m ρ c main_v2 = (kH (args m c) : Mat 4096 1024) := by
  rw [W31_of m ρ c main_v2 (by decide), W30_of m ρ c main_v2 (by decide), W29_of m ρ c main_v2 (by decide), v2_at28 m
    ρ c]

theorem v36_at32 : W32 m ρ c main_v36 = (tn (args m c).dgl (kH (args m c)) : Mat 2048 1024) := by
  refine ((W32_arr m ρ c 2).trans (dw6_out _ c)).trans ?_
  show tn (W31 m ρ c main_v17) (W31 m ρ c main_v2) = _
  rw [v17_at31 m ρ c, v2_at31 m ρ c]

theorem v1_at32 : W32 m ρ c main_v1 = (tr (args m c).w : Mat 9248 1024) := by
  rw [W32_of m ρ c main_v1 (by decide), W31_of m ρ c main_v1 (by decide), W30_of m ρ c main_v1 (by decide), v1_at29 m
    ρ c]

theorem v37_at33 : W33 m ρ c main_v37 = (cols 7200 2048 (by decide) (args m c).w : Mat 2048 1024) := by
  have h : W33 m ρ c main_v37 = extractStridedSlice S2048x1024 ![7200, 0] (W32 m ρ c main_v1) slices_S9248x1024_S2048x1024_7200_0 := by
    funext j
    after_reads_at
  rw [h, v1_at32 m ρ c]
  exact rows_tr _ _ _

theorem v17_at33 : W33 m ρ c main_v17 = ((args m c).dgl : Mat 4096 2048) := by
  rw [W33_of m ρ c main_v17 (by decide), W32_of m ρ c main_v17 (by decide), v17_at31 m ρ c]

theorem v35_at33 : W33 m ρ c main_v35 = (kN5 (args m c) : Mat 4096 1024) := by
  rw [W33_of m ρ c main_v35 (by decide), W32_of m ρ c main_v35 (by decide), v35_at31 m ρ c]

theorem v38_at34 : W34 m ρ c main_v38 = (kN6 (args m c) : Mat 4096 1024) := by
  refine ((W34_arr m ρ c 3).trans (dh6_out _ c)).trans ?_
  show nnAdd (W33 m ρ c main_v17) (W33 m ρ c main_v37) (W33 m ρ c main_v35) = _
  rw [v17_at33 m ρ c, v37_at33 m ρ c, v35_at33 m ρ c]
  rfl

theorem v18_at34 : W34 m ρ c main_v18 = (tn (args m c).du (kH (args m c)) : Mat 1024 1024) := by
  rw [W34_of m ρ c main_v18 (by decide), W33_of m ρ c main_v18 (by decide), W32_of m ρ c main_v18 (by decide), W31_of
    m ρ c main_v18 (by decide), W30_of m ρ c main_v18 (by decide), W29_of m ρ c main_v18 (by decide), W28_of m ρ c
    main_v18 (by decide), W27_of m ρ c main_v18 (by decide), W26_of m ρ c main_v18 (by decide), W25_of m ρ c main_v18
    (by decide), W24_of m ρ c main_v18 (by decide), W23_of m ρ c main_v18 (by decide), W22_of m ρ c main_v18 (by
    decide), W21_of m ρ c main_v18 (by decide), W20_of m ρ c main_v18 (by decide), W19_of m ρ c main_v18 (by decide),
    W18_of m ρ c main_v18 (by decide), W17_of m ρ c main_v18 (by decide), W16_of m ρ c main_v18 (by decide), W15_of m
    ρ c main_v18 (by decide), v18_at14 m ρ c]

theorem v21_at34 : W34 m ρ c main_v21 = (tn (args m c).dz (kH (args m c)) : Mat 2048 1024) := by
  rw [W34_of m ρ c main_v21 (by decide), W33_of m ρ c main_v21 (by decide), W32_of m ρ c main_v21 (by decide), W31_of
    m ρ c main_v21 (by decide), W30_of m ρ c main_v21 (by decide), W29_of m ρ c main_v21 (by decide), W28_of m ρ c
    main_v21 (by decide), W27_of m ρ c main_v21 (by decide), W26_of m ρ c main_v21 (by decide), W25_of m ρ c main_v21
    (by decide), W24_of m ρ c main_v21 (by decide), W23_of m ρ c main_v21 (by decide), W22_of m ρ c main_v21 (by
    decide), W21_of m ρ c main_v21 (by decide), W20_of m ρ c main_v21 (by decide), W19_of m ρ c main_v21 (by decide),
    W18_of m ρ c main_v21 (by decide), v21_at17 m ρ c]

theorem v24_at34 : W34 m ρ c main_v24 = (tn (args m c).dxs (kH (args m c)) : Mat 2048 1024) := by
  rw [W34_of m ρ c main_v24 (by decide), W33_of m ρ c main_v24 (by decide), W32_of m ρ c main_v24 (by decide), W31_of
    m ρ c main_v24 (by decide), W30_of m ρ c main_v24 (by decide), W29_of m ρ c main_v24 (by decide), W28_of m ρ c
    main_v24 (by decide), W27_of m ρ c main_v24 (by decide), W26_of m ρ c main_v24 (by decide), W25_of m ρ c main_v24
    (by decide), W24_of m ρ c main_v24 (by decide), W23_of m ρ c main_v24 (by decide), W22_of m ρ c main_v24 (by
    decide), W21_of m ρ c main_v24 (by decide), v24_at20 m ρ c]

theorem v27_at34 : W34 m ρ c main_v27 = (tn (args m c).dB (kH (args m c)) : Mat 1024 1024) := by
  rw [W34_of m ρ c main_v27 (by decide), W33_of m ρ c main_v27 (by decide), W32_of m ρ c main_v27 (by decide), W31_of
    m ρ c main_v27 (by decide), W30_of m ρ c main_v27 (by decide), W29_of m ρ c main_v27 (by decide), W28_of m ρ c
    main_v27 (by decide), W27_of m ρ c main_v27 (by decide), W26_of m ρ c main_v27 (by decide), W25_of m ρ c main_v27
    (by decide), W24_of m ρ c main_v27 (by decide), v27_at23 m ρ c]

theorem v30_at34 : W34 m ρ c main_v30 = (tn (args m c).dC (kH (args m c)) : Mat 1024 1024) := by
  rw [W34_of m ρ c main_v30 (by decide), W33_of m ρ c main_v30 (by decide), W32_of m ρ c main_v30 (by decide), W31_of
    m ρ c main_v30 (by decide), W30_of m ρ c main_v30 (by decide), W29_of m ρ c main_v30 (by decide), W28_of m ρ c
    main_v30 (by decide), W27_of m ρ c main_v30 (by decide), v30_at26 m ρ c]

theorem v33_at34 : W34 m ρ c main_v33 = (tn (args m c).ddt (kH (args m c)) : Mat 32 1024) := by
  rw [W34_of m ρ c main_v33 (by decide), W33_of m ρ c main_v33 (by decide), W32_of m ρ c main_v33 (by decide), W31_of
    m ρ c main_v33 (by decide), W30_of m ρ c main_v33 (by decide), v33_at29 m ρ c]

theorem v36_at34 : W34 m ρ c main_v36 = (tn (args m c).dgl (kH (args m c)) : Mat 2048 1024) := by
  rw [W34_of m ρ c main_v36 (by decide), W33_of m ρ c main_v36 (by decide), v36_at32 m ρ c]

/-! ## The results -/

/-- Seven groups of rows, one below the other. -/
def stack (A0 : Mat 1024 1024) (A1 A2 : Mat 2048 1024) (A3 A4 : Mat 1024 1024) (A5 : Mat 32 1024) (A6 : Mat 2048 1024) : Mat 9248 1024 :=
  concatenate S9248x1024 0 [⟨S1024x1024, A0⟩, ⟨S2048x1024, A1⟩, ⟨S2048x1024, A2⟩, ⟨S1024x1024, A3⟩, ⟨S1024x1024, A4⟩, ⟨S32x1024, A5⟩,
    ⟨S2048x1024, A6⟩] concatenates_S1024x1024_S2048x1024_S2048x1024_S1024x1024_S1024x1024_S32x1024_S2048x1024_S9248x1024_d0

/-- The products of seven groups of columns are the rows of one product. -/
theorem stack_tn (a : Args) (H : Mat 4096 1024) :
    stack (tn a.du H) (tn a.dz H) (tn a.dxs H) (tn a.dB H) (tn a.dC H) (tn a.ddt H) (tn a.dgl H) = tn (side a) H := by
  refine ext2 fun r s => ?_
  pointwise [stack, tn, side, mk]
  split_ifs <;> rfl

theorem v39_at35 : W35 m ρ c main_v39 = (tn (side (args m c)) (kH (args m c)) : Mat 9248 1024) := by
  have h : W35 m ρ c main_v39 = stack (W34 m ρ c main_v18) (W34 m ρ c main_v21) (W34 m ρ c main_v24) (W34 m ρ c main_v27) (W34 m ρ c main_v30) (W34 m ρ c main_v33) (W34 m ρ c main_v36) := by
    funext j
    after_reads_at
    pointwise [stack]
  rw [h, v18_at34 m ρ c, v21_at34 m ρ c, v24_at34 m ρ c, v27_at34 m ρ c, v30_at34 m ρ c, v33_at34 m ρ c, v36_at34 m ρ
    c]
  exact stack_tn _ _

theorem v38_at35 : W35 m ρ c main_v38 = (kN6 (args m c) : Mat 4096 1024) := by
  rw [W35_of m ρ c main_v38 (by decide), v38_at34 m ρ c]

theorem v40_0_at36 : W36 m ρ c main_v40_0 = (kDx (args m c) : Mat 4096 1024) := by
  refine ((W36_arr m ρ c 4).trans (dx_out _ c)).trans ?_
  show dx (W35 m ρ c main_arg8) (W35 m ρ c main_v38) (W35 m ρ c main_arg0) (W35 m ρ c main_arg9) = _
  rw [W35_args m ρ c main_arg8 (by decide), v38_at35 m ρ c, W35_args m ρ c main_arg0 (by decide), W35_args m ρ c
    main_arg9 (by decide)]
  rfl

theorem v40_2_at36 : W36 m ρ c main_v40_2 = (kDg (args m c) : Mat 1 1024) := by
  refine ((W36_arr m ρ c 6).trans (dg_out _ c)).trans ?_
  show dg (W35 m ρ c main_arg8) (W35 m ρ c main_v38) = _
  rw [W35_args m ρ c main_arg8 (by decide), v38_at35 m ρ c]
  rfl

theorem v39_at36 : W36 m ρ c main_v39 = (tn (side (args m c)) (kH (args m c)) : Mat 9248 1024) := by
  rw [W36_of m ρ c main_v39 (by decide), v39_at35 m ρ c]

theorem end_v41 : W37 m ρ c main_v41 = (kDw (args m c) : Mat 1024 9248) := by
  have h : W37 m ρ c main_v41 = tr (W36 m ρ c main_v39 : Mat 9248 1024) := by
    funext j
    after_reads_at
    pointwise [tr, mk]
  rw [h, v39_at36 m ρ c]
  rfl

theorem v4_at37 : W37 m ρ c main_v4 = (kU (args m c) : Mat 4096 1024) := by
  rw [W37_of m ρ c main_v4 (by decide), W36_of m ρ c main_v4 (by decide), W35_of m ρ c main_v4 (by decide), W34_of m ρ
    c main_v4 (by decide), W33_of m ρ c main_v4 (by decide), W32_of m ρ c main_v4 (by decide), W31_of m ρ c main_v4
    (by decide), W30_of m ρ c main_v4 (by decide), W29_of m ρ c main_v4 (by decide), W28_of m ρ c main_v4 (by decide),
    W27_of m ρ c main_v4 (by decide), W26_of m ρ c main_v4 (by decide), W25_of m ρ c main_v4 (by decide), W24_of m ρ c
    main_v4 (by decide), W23_of m ρ c main_v4 (by decide), W22_of m ρ c main_v4 (by decide), W21_of m ρ c main_v4 (by
    decide), W20_of m ρ c main_v4 (by decide), W19_of m ρ c main_v4 (by decide), W18_of m ρ c main_v4 (by decide),
    W17_of m ρ c main_v4 (by decide), W16_of m ρ c main_v4 (by decide), W15_of m ρ c main_v4 (by decide), W14_of m ρ c
    main_v4 (by decide), W13_of m ρ c main_v4 (by decide), W12_of m ρ c main_v4 (by decide), W11_of m ρ c main_v4 (by
    decide), W10_of m ρ c main_v4 (by decide), W9_of m ρ c main_v4 (by decide), W8_of m ρ c main_v4 (by decide), W7_of
    m ρ c main_v4 (by decide), W6_of m ρ c main_v4 (by decide), W5_of m ρ c main_v4 (by decide), v4_at4 m ρ c]

theorem v6_at37 : W37 m ρ c main_v6 = (kZ (args m c) : Mat 4096 2048) := by
  rw [W37_of m ρ c main_v6 (by decide), W36_of m ρ c main_v6 (by decide), W35_of m ρ c main_v6 (by decide), W34_of m ρ
    c main_v6 (by decide), W33_of m ρ c main_v6 (by decide), W32_of m ρ c main_v6 (by decide), W31_of m ρ c main_v6
    (by decide), W30_of m ρ c main_v6 (by decide), W29_of m ρ c main_v6 (by decide), W28_of m ρ c main_v6 (by decide),
    W27_of m ρ c main_v6 (by decide), W26_of m ρ c main_v6 (by decide), W25_of m ρ c main_v6 (by decide), W24_of m ρ c
    main_v6 (by decide), W23_of m ρ c main_v6 (by decide), W22_of m ρ c main_v6 (by decide), W21_of m ρ c main_v6 (by
    decide), W20_of m ρ c main_v6 (by decide), W19_of m ρ c main_v6 (by decide), W18_of m ρ c main_v6 (by decide),
    W17_of m ρ c main_v6 (by decide), W16_of m ρ c main_v6 (by decide), W15_of m ρ c main_v6 (by decide), W14_of m ρ c
    main_v6 (by decide), W13_of m ρ c main_v6 (by decide), W12_of m ρ c main_v6 (by decide), W11_of m ρ c main_v6 (by
    decide), W10_of m ρ c main_v6 (by decide), W9_of m ρ c main_v6 (by decide), W8_of m ρ c main_v6 (by decide), W7_of
    m ρ c main_v6 (by decide), v6_at6 m ρ c]

theorem v8_at37 : W37 m ρ c main_v8 = (kV (args m c) : Mat 4096 4096) := by
  rw [W37_of m ρ c main_v8 (by decide), W36_of m ρ c main_v8 (by decide), W35_of m ρ c main_v8 (by decide), W34_of m ρ
    c main_v8 (by decide), W33_of m ρ c main_v8 (by decide), W32_of m ρ c main_v8 (by decide), W31_of m ρ c main_v8
    (by decide), W30_of m ρ c main_v8 (by decide), W29_of m ρ c main_v8 (by decide), W28_of m ρ c main_v8 (by decide),
    W27_of m ρ c main_v8 (by decide), W26_of m ρ c main_v8 (by decide), W25_of m ρ c main_v8 (by decide), W24_of m ρ c
    main_v8 (by decide), W23_of m ρ c main_v8 (by decide), W22_of m ρ c main_v8 (by decide), W21_of m ρ c main_v8 (by
    decide), W20_of m ρ c main_v8 (by decide), W19_of m ρ c main_v8 (by decide), W18_of m ρ c main_v8 (by decide),
    W17_of m ρ c main_v8 (by decide), W16_of m ρ c main_v8 (by decide), W15_of m ρ c main_v8 (by decide), W14_of m ρ c
    main_v8 (by decide), W13_of m ρ c main_v8 (by decide), W12_of m ρ c main_v8 (by decide), W11_of m ρ c main_v8 (by
    decide), W10_of m ρ c main_v8 (by decide), W9_of m ρ c main_v8 (by decide), v8_at8 m ρ c]

theorem v10_at37 : W37 m ρ c main_v10 = (kT (args m c) : Mat 4096 32) := by
  rw [W37_of m ρ c main_v10 (by decide), W36_of m ρ c main_v10 (by decide), W35_of m ρ c main_v10 (by decide), W34_of
    m ρ c main_v10 (by decide), W33_of m ρ c main_v10 (by decide), W32_of m ρ c main_v10 (by decide), W31_of m ρ c
    main_v10 (by decide), W30_of m ρ c main_v10 (by decide), W29_of m ρ c main_v10 (by decide), W28_of m ρ c main_v10
    (by decide), W27_of m ρ c main_v10 (by decide), W26_of m ρ c main_v10 (by decide), W25_of m ρ c main_v10 (by
    decide), W24_of m ρ c main_v10 (by decide), W23_of m ρ c main_v10 (by decide), W22_of m ρ c main_v10 (by decide),
    W21_of m ρ c main_v10 (by decide), W20_of m ρ c main_v10 (by decide), W19_of m ρ c main_v10 (by decide), W18_of m
    ρ c main_v10 (by decide), W17_of m ρ c main_v10 (by decide), W16_of m ρ c main_v10 (by decide), W15_of m ρ c
    main_v10 (by decide), W14_of m ρ c main_v10 (by decide), W13_of m ρ c main_v10 (by decide), W12_of m ρ c main_v10
    (by decide), W11_of m ρ c main_v10 (by decide), v10_at10 m ρ c]

theorem v12_at37 : W37 m ρ c main_v12 = (kL (args m c) : Mat 4096 2048) := by
  rw [W37_of m ρ c main_v12 (by decide), W36_of m ρ c main_v12 (by decide), W35_of m ρ c main_v12 (by decide), W34_of
    m ρ c main_v12 (by decide), W33_of m ρ c main_v12 (by decide), W32_of m ρ c main_v12 (by decide), W31_of m ρ c
    main_v12 (by decide), W30_of m ρ c main_v12 (by decide), W29_of m ρ c main_v12 (by decide), W28_of m ρ c main_v12
    (by decide), W27_of m ρ c main_v12 (by decide), W26_of m ρ c main_v12 (by decide), W25_of m ρ c main_v12 (by
    decide), W24_of m ρ c main_v12 (by decide), W23_of m ρ c main_v12 (by decide), W22_of m ρ c main_v12 (by decide),
    W21_of m ρ c main_v12 (by decide), W20_of m ρ c main_v12 (by decide), W19_of m ρ c main_v12 (by decide), W18_of m
    ρ c main_v12 (by decide), W17_of m ρ c main_v12 (by decide), W16_of m ρ c main_v12 (by decide), W15_of m ρ c
    main_v12 (by decide), W14_of m ρ c main_v12 (by decide), W13_of m ρ c main_v12 (by decide), v12_at12 m ρ c]

theorem v40_0_at37 : W37 m ρ c main_v40_0 = (kDx (args m c) : Mat 4096 1024) := by
  rw [W37_of m ρ c main_v40_0 (by decide), v40_0_at36 m ρ c]

theorem v40_2_at37 : W37 m ρ c main_v40_2 = (kDg (args m c) : Mat 1 1024) := by
  rw [W37_of m ρ c main_v40_2 (by decide), v40_2_at36 m ρ c]

end Proj

end
-- ==== Proof.Proj.Run.lean ====
/-
  The run of the projection's calls, with everything it leaves: at the end of every execution each unscoped buffer holds what the
  fold over the program's segments says, and every counter is at zero.
-/
module

public import proofs.«01_k».proof.Proof.Gen.ProjIdeal.Frame
public import Idealize.ShloMosaic.PureOps.Ideal

@[expose] public section

set_option maxRecDepth 16384

noncomputable section

namespace Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProjIdeal Cert.ProjIdeal.Gen

variable (m : (p : Loc nD τ sig) → Buf (Elt Ideal) p) (ρ : Dev nD → PrngReg)

local notation "𝕄" => MT nD τ sig Unit (Elt Ideal) ℕ (UR sig nD τ) ℕ

set_option backward.isDefEq.respectTransparency.types false in
/-- Every execution ends with the buffers at the last boundary's contents. -/
theorem run : θ_run defs (onTc (τ := τ) (main (F := Ideal))) ⟨m, fun _ => 0, ρ⟩ (fun r =>
    (∀ c : Dev nD, ∀ b ∈ Pipeline.ucRefs τ sig, r.2.mem (((c : Thread nD τ)).1, b) = W37 m ρ c b)
      ∧ r.2.sem = fun _ => 0) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W37 m ρ c b)
    ?own ?chain ?start ?read ?done
  case own =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  case chain =>
    refine ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _
      => .rfl, fun _ => .rfl, fun _ => .rfl, fun _ => .rfl, fun _ => .rfl, fun _ => .rfl, fun _ => .rfl, fun _ =>
      .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _
      => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case start =>
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case read =>
    intro c s'
    iintro ⟨⟨Hh, -⟩, HSI⟩
    unfold StableHlo.held
    imodintro
    iapply (pointsTo_read_all (Pipeline.ucRefs τ sig) (fun b => (((c : Thread nD τ)).1, b)) (W37 m ρ c) s')
    isplitl [Hh] <;> iassumption
  case done => exact fun s h hz => ⟨h, funext fun g => hz g (.inr (no_unscoped g.2))⟩

end Proj

end
-- ==== Proof.Proj.Reference.lean ====
/-
  The reference's results as expressions of the eleven arguments: each stage of its program, on whole matrices, is one of
  the matrix expressions.
-/
module

public import proofs.«01_k».proof.Proof.Proj.Args
public import proofs.«01_k».proof.Proof.Ffn.Algebra
public import proofs.«01_k».proof.Proof.Gen.ProjRefIdeal.Run
public import Idealize.ShloMosaic.Lib.Claim

@[expose] public section

set_option maxRecDepth 16384

noncomputable section

namespace Proj.Ref

open Idealize.ShloMosaic Idealize.ShloMosaic.TcCoe Idealize.SL.Sem Ffn
open Cert.ProjRefIdeal Cert.ProjRefIdeal.Gen Cert.ProjRefIdeal.Value

/-! ## The stages of the reference's program -/

abbrev V1024 := FVec Ideal S4096x1024 .f32
abbrev V2048 := FVec Ideal S4096x2048 .f32
abbrev V9248 := FVec Ideal S4096x9248 .f32
abbrev V32 := FVec Ideal S4096x32 .f32
abbrev Gain := FVec Ideal S1x1024 .f32
abbrev Col := FVec Ideal S4096x1 .f32
abbrev Win := FVec Ideal S1024x9248 .f32

/-- The shifted mean squares of the rows. -/
def msqT (X : V1024) : Col :=
  addf (Host.divf (broadcastInDim S4096x1 ![0] bcast_S4096_S4096x1_0 (Host.reduceAdd (mulf X X) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))
/-- The rows' scales, along every row. -/
def rsT (X : V1024) : V1024 := broadcastInDim S4096x1024 ![0, 1] bcast_S4096x1_S4096x1024_0_1 (Host.rsqrt (msqT X))
/-- The gain, in every row. -/
def gainT (G : Gain) : V1024 := broadcastInDim S4096x1024 ![0, 1] bcast_S1x1024_S4096x1024_0_1 G
/-- The normalised input. -/
def hT (X : V1024) (G : Gain) : V1024 := mulf (mulf X (rsT X)) (gainT G)
/-- The projection. -/
def projT (H : V1024) (W : Win) : V9248 := Host.dotGeneral dot_S4096x1024_S1024x9248_S4096x9248_1_0_0_1_n_n none H W
/-- The cotangent of the projection: the groups of columns side by side, three of them joined first. -/
def sideT (U : V1024) (Z X : V2048) (B C : V1024) (T : V32) (L : V2048) : V9248 := fn_main_v22 (F := Ideal) U Z (fn_main_v21 (F := Ideal) X B C) T L
/-- The product with the projection's transpose. -/
def backT (E : V9248) (W : Win) : V1024 := Host.dotGeneral dot_S4096x9248_S1024x9248_S4096x1024_1_1_0_0_n_n none E W
/-- The gradient of the projection's weights. -/
def dwT (E : V9248) (H : V1024) : Win :=
  transpose S1024x9248 [1, 0] (Host.dotGeneral dot_S4096x9248_S4096x1024_S9248x1024_0_0_1_1_n_n none E H) transposes_S9248x1024_S1024x9248_1_0
/-- The gradient of the gain. -/
def dgT (X H : V1024) : Gain :=
  shapeCast S1x1024 (Host.reduceAdd (mulf (mulf X (rsT X)) H) (constant S_ .f32 0x00000000#32) reducesTo_S4096x1024_S1024_d0 h_S_)
    shapeCasts_S1024_S1x1024
/-- The coefficients of the input in the gradient of the normalisation, along every row. -/
def coefT (X H : V1024) (G : Gain) : V1024 :=
  broadcastInDim S4096x1024 ![0] bcast_S4096_S4096x1024_0 (Host.reduceAdd (Host.divf (mulf
    (shapeCast S4096x1 (Host.reduceAdd (mulf X (mulf H (gainT G))) (constant S_ .f32 0x00000000#32) reducesTo_S4096x1024_S4096_d1 h_S_)
      shapeCasts_S4096_S4096x1)
    (mulf (broadcastInDim S4096x1 ![] bcast_S_S4096x1 (constant S_ .f32 0xBF000000#32)) (Host.divf (Host.rsqrt (msqT X)) (msqT X))))
    (broadcastInDim S4096x1 ![] bcast_S_S4096x1 (constant S_ .f32 0x44800000#32)))
    (constant S_ .f32 0x00000000#32) reducesTo_S4096x1_S4096_d1 h_S_)
/-- The gradient of the block's input. -/
def dxT (X H Y : V1024) (G : Gain) : V1024 :=
  addf (addf (addf Y (mulf (mulf H (gainT G)) (rsT X))) (mulf X (coefT X H G))) (mulf (coefT X H G) X)

/-! ## The stages are the matrix expressions -/

theorem hT_eq (X : V1024) (G : Gain) : hT X G = hn (X : Mat 4096 1024) (G : Mat 1 1024) := by
  funext j
  pointwise [hT, rsT, gainT, msqT, hn, rs, msq, mk]

theorem sideT_eq (a : Args) : sideT a.du a.dz a.dxs a.dB a.dC a.ddt a.dgl = side a := by
  refine ext2 fun r s => ?_
  pointwise [sideT, fn_main_v22, fn_main_v21, side, mk]
  split_ifs <;> first | with_reducible rfl | (exfalso; omega) | skip
  · rw [dif_pos (show s.val - 1024 - 2048 - 2048 - 1024 < 1024 by omega)]
  · rw [dif_neg (show ¬ s.val - 1024 - 2048 < 2048 by omega), dif_neg (show ¬ s.val - 1024 - 2048 - 2048 < 1024 by omega),
      dif_neg (show ¬ s.val - 1024 - 2048 - 2048 - 1024 < 1024 by omega),
      dif_pos (show s.val - 1024 - 2048 - 2048 - 1024 - 1024 < 32 by omega)]
    exact congrArg (fun q => a.ddt (ix2 r q)) (Fin.ext (show s.val - 1024 - 2048 - 4096 = s.val - 1024 - 2048 - 2048 - 1024 - 1024 by omega))
  · rw [dif_neg (show ¬ s.val - 1024 - 2048 < 2048 by omega), dif_neg (show ¬ s.val - 1024 - 2048 - 2048 < 1024 by omega),
      dif_neg (show ¬ s.val - 1024 - 2048 - 2048 - 1024 < 1024 by omega),
      dif_neg (show ¬ s.val - 1024 - 2048 - 2048 - 1024 - 1024 < 32 by omega)]
    exact congrArg (fun q => a.dgl (ix2 r q)) (Fin.ext (show s.val - 1024 - 2048 - 4096 - 32 = s.val - 1024 - 2048 - 2048 - 1024 - 1024 - 32 by omega))

theorem backT_eq (E : V9248) (W : Win) : backT E W = nt (E : Mat 4096 9248) (W : Mat 1024 9248) := by
  funext j
  pointwise [backT, nt, mk]

theorem dwT_eq (E : V9248) (H : V1024) : dwT E H = tr (tn (E : Mat 4096 9248) (H : Mat 4096 1024)) := by
  funext j
  pointwise [dwT, tr, tn, mk]

theorem dgT_eq (X H : V1024) : dgT X H = dg (X : Mat 4096 1024) (H : Mat 4096 1024) := by
  funext j
  pointwise [dgT, rsT, msqT, dg, dgTerm, rs, msq, mk]

theorem dxT_eq (X H Y : V1024) (G : Gain) : dxT X H Y G = dx (X : Mat 4096 1024) (H : Mat 4096 1024) (Y : Mat 4096 1024) (G : Mat 1 1024) := by
  rw [dx_eq]
  funext j
  pointwise [dxT, coefT, gainT, rsT, msqT, dxR, coef, rs, msq, mk]

/-- A group of columns of the projection is the product with a group of columns of the weights. -/
theorem slice_eq {lo n : ℕ} (h : lo + n ≤ 9248) (hs : S4096x9248.Slices ![0, lo] ⟨2, ![4096, n]⟩) (H : V1024) (W : Win) :
    extractStridedSlice (⟨2, ![4096, n]⟩ : Shape) ![0, lo] (projT H W) hs = nt (H : Mat 4096 1024) (cols lo n h (W : Mat 1024 9248)) := by
  have e : projT H W = nn (H : Mat 4096 1024) (W : Mat 1024 9248) := by
    funext j
    pointwise [projT, nn, mk]
  rw [e]
  refine ext2 fun r s => ?_
  pointwise [nn, nt, cols, mk]

section
variable (m : (p : Loc nD τ sig) → Buf (Elt Ideal) p) (c : Dev nD)

/-- The arguments on a device. -/
def args : Args where
  dy := m ((c.tc : Thread nD τ).loc main_arg0)
  du := m ((c.tc : Thread nD τ).loc main_arg1)
  dz := m ((c.tc : Thread nD τ).loc main_arg2)
  dxs := m ((c.tc : Thread nD τ).loc main_arg3)
  dB := m ((c.tc : Thread nD τ).loc main_arg4)
  dC := m ((c.tc : Thread nD τ).loc main_arg5)
  ddt := m ((c.tc : Thread nD τ).loc main_arg6)
  dgl := m ((c.tc : Thread nD τ).loc main_arg7)
  x := m ((c.tc : Thread nD τ).loc main_arg8)
  gain := m ((c.tc : Thread nD τ).loc main_arg9)
  w := m ((c.tc : Thread nD τ).loc main_arg10)

/-- The cotangent of the normalised input. -/
theorem back_eq (a : Args) : backT (sideT a.du a.dz a.dxs a.dB a.dC a.ddt a.dgl) a.w = kN6 a := by
  rw [sideT_eq, backT_eq, side_eq]

theorem v45_eq : res_main_v45 m c = (kDx (args m c) : Mat 4096 1024) := by
  have h : ∀ a : Args, args m c = a → res_main_v45 m c = dxT a.x (backT (sideT a.du a.dz a.dxs a.dB a.dC a.ddt a.dgl) a.w) a.dy a.gain := by
    rintro _ rfl
    rfl
  rw [h _ rfl, back_eq, dxT_eq]
  rfl

/-- A run ends with the eight results as these expressions of the arguments. -/
theorem run_stages (ρ : Dev nD → PrngReg) :
    θ_run defs (onTc (τ := τ) (main (F := Ideal))) ⟨m, fun _ => 0, ρ⟩ fun r => ∀ c : Dev nD,
      r.2.mem ((c.tc : Thread nD τ).loc main_v16) = (kU (args m c) : Mat 4096 1024)
      ∧ r.2.mem ((c.tc : Thread nD τ).loc main_v17) = (kZ (args m c) : Mat 4096 2048)
      ∧ r.2.mem ((c.tc : Thread nD τ).loc main_v18) = (kV (args m c) : Mat 4096 4096)
      ∧ r.2.mem ((c.tc : Thread nD τ).loc main_v19) = (kT (args m c) : Mat 4096 32)
      ∧ r.2.mem ((c.tc : Thread nD τ).loc main_v20) = (kL (args m c) : Mat 4096 2048)
      ∧ r.2.mem ((c.tc : Thread nD τ).loc main_v45) = (kDx (args m c) : Mat 4096 1024)
      ∧ r.2.mem ((c.tc : Thread nD τ).loc main_v28) = (kDg (args m c) : Mat 1 1024)
      ∧ r.2.mem ((c.tc : Thread nD τ).loc main_v24) = (kDw (args m c) : Mat 1024 9248)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine θ_run_mono (Cert.ProjRefIdeal.Value.run m ρ) fun r h c => ?_
  obtain ⟨h0, h1, h2, h3, h4, h5, h6, h7, hargs⟩ := h c
  have hh : hT (args m c).x (args m c).gain = kH (args m c) := hT_eq _ _
  refine ⟨h0.trans ?_, h1.trans ?_, h2.trans ?_, h3.trans ?_, h4.trans ?_, h5.trans (v45_eq m c), h6.trans ?_, h7.trans ?_, hargs⟩
  · show extractStridedSlice S4096x1024 ![0, 0] (projT (hT (args m c).x (args m c).gain) (args m c).w) slices_S4096x9248_S4096x1024_0_0 = _
    rw [hh]
    exact slice_eq (by decide) _ _ _
  · show extractStridedSlice S4096x2048 ![0, 1024] (projT (hT (args m c).x (args m c).gain) (args m c).w) slices_S4096x9248_S4096x2048_0_1024 = _
    rw [hh]
    exact slice_eq (by decide) _ _ _
  · show extractStridedSlice S4096x4096 ![0, 3072] (projT (hT (args m c).x (args m c).gain) (args m c).w) slices_S4096x9248_S4096x4096_0_3072 = _
    rw [hh]
    exact slice_eq (by decide) _ _ _
  · show extractStridedSlice S4096x32 ![0, 7168] (projT (hT (args m c).x (args m c).gain) (args m c).w) slices_S4096x9248_S4096x32_0_7168 = _
    rw [hh]
    exact slice_eq (by decide) _ _ _
  · show extractStridedSlice S4096x2048 ![0, 7200] (projT (hT (args m c).x (args m c).gain) (args m c).w) slices_S4096x9248_S4096x2048_0_7200 = _
    rw [hh]
    exact slice_eq (by decide) _ _ _
  · show dgT (args m c).x (backT (sideT (args m c).du (args m c).dz (args m c).dxs (args m c).dB (args m c).dC (args m c).ddt (args m c).dgl) (args m c).w) = _
    rw [back_eq, dgT_eq]
    rfl
  · show dwT (sideT (args m c).du (args m c).dz (args m c).dxs (args m c).dB (args m c).dC (args m c).ddt (args m c).dgl) (hT (args m c).x (args m c).gain) = _
    rw [hh, sideT_eq, dwT_eq]
    rfl
end

end Proj.Ref

end
-- ==== Proof.Proj.Value.lean ====
/-
  The two programs give the same eight results, on any arguments.
-/
module

public import proofs.«01_k».proof.Defs
public import proofs.«01_k».proof.Proof.Proj.Fold
public import proofs.«01_k».proof.Proof.Proj.Run
public import proofs.«01_k».proof.Proof.Proj.Reference
public import Idealize.ShloMosaic.Lib.Claim

@[expose] public section

set_option maxRecDepth 16384

noncomputable section

namespace Proj

open Idealize.ShloMosaic Idealize.ShloMosaic.TcCoe Idealize.SL.Sem

open Cert.ProjIdeal.Gen in
/-- The kernel's eight results are the reference's. -/
theorem algebraic : Cert.algebraic_ProjIdeal_ProjRefIdeal (hProjIdeal := Cert.ProjIdeal.Gen.facts)
    (hProjRefIdeal := Cert.ProjRefIdeal.Gen.facts) := by
  intro m g m' g' _ hag
  have same : ∀ c, Ref.args m' c = args m c := fun c => by
    obtain ⟨e0, e1, e2, e3, e4, e5, e6, e7, e8, e9, e10⟩ := hag c
    have b0 : (Ref.args m' c).dy = (args m c).dy := e0
    have b1 : (Ref.args m' c).du = (args m c).du := e1
    have b2 : (Ref.args m' c).dz = (args m c).dz := e2
    have b3 : (Ref.args m' c).dxs = (args m c).dxs := e3
    have b4 : (Ref.args m' c).dB = (args m c).dB := e4
    have b5 : (Ref.args m' c).dC = (args m c).dC := e5
    have b6 : (Ref.args m' c).ddt = (args m c).ddt := e6
    have b7 : (Ref.args m' c).dgl = (args m c).dgl := e7
    have b8 : (Ref.args m' c).x = (args m c).x := e8
    have b9 : (Ref.args m' c).gain = (args m c).gain := e9
    have b10 : (Ref.args m' c).w = (args m c).w := e10
    generalize Ref.args m' c = P at *
    generalize args m c = R at *
    cases P
    cases R
    simp_all only
  refine ⟨fun c => kU (args m c),
    fun c => kZ (args m c),
    fun c => kV (args m c),
    fun c => kT (args m c),
    fun c => kL (args m c),
    fun c => kDx (args m c),
    fun c => kDg (args m c),
    fun c => kDw (args m c), ?_, ?_⟩
  · refine θ_run_mono (θ_run_and (Proj.run m g) (Cert.ProjIdeal.Gen.frame m g)) fun r h c => ?_
    have at_end := h.1.1 c
    exact ⟨(at_end _ (mem_uc Cert.ProjIdeal.main_v4 (by decide))).trans (v4_at37 m g c),
      (at_end _ (mem_uc Cert.ProjIdeal.main_v6 (by decide))).trans (v6_at37 m g c),
      (at_end _ (mem_uc Cert.ProjIdeal.main_v8 (by decide))).trans (v8_at37 m g c),
      (at_end _ (mem_uc Cert.ProjIdeal.main_v10 (by decide))).trans (v10_at37 m g c),
      (at_end _ (mem_uc Cert.ProjIdeal.main_v12 (by decide))).trans (v12_at37 m g c),
      (at_end _ (mem_uc Cert.ProjIdeal.main_v40_0 (by decide))).trans (v40_0_at37 m g c),
      (at_end _ (mem_uc Cert.ProjIdeal.main_v40_2 (by decide))).trans (v40_2_at37 m g c),
      (at_end _ (mem_uc Cert.ProjIdeal.main_v41 (by decide))).trans (end_v41 m g c), h.2.1 c⟩
  · refine θ_run_mono (Ref.run_stages m' g') fun r h c => ?_
    have hc := h c
    rw [same c] at hc
    exact hc

end Proj

end
-- ==== Proof.Conv.Args.lean ====
/-
  The causal convolution over time and its gradient, as expressions of matrices: the rows are time steps, the columns
  channels, and each channel is convolved with its own four weights.
-/
module

public import proofs.«01_k».proof.Proof.Proj.Args

@[expose] public section

set_option maxRecDepth 16384

noncomputable section

namespace Conv

open Idealize.ShloMosaic Ffn

variable {m n k : ℕ}

/-- The `n` columns of a matrix from column `lo` on. -/
def part {w : ℕ} (lo n : ℕ) (h : lo + n ≤ w) (A : Mat k w) : Mat k n := mk fun r s => A (ix2 r ⟨lo + s.val, by omega⟩)
/-- The rows moved down by `l`, with zeros above. -/
def back (l : ℕ) (A : Mat m n) : Mat m n := mk fun r s => if _h : l ≤ r.val then A (ix2 ⟨r.val - l, by omega⟩ s) else 0
/-- The rows moved up by `l`, with zeros below. -/
def ahead (l : ℕ) (A : Mat m n) : Mat m n := mk fun r s => if h : r.val + l < m then A (ix2 ⟨r.val + l, h⟩ s) else 0

/-- The convolution plus the bias, before the activation. -/
def pre (X : Mat m n) (W : Mat 4 n) (B : Mat 1 n) : Mat m n := mk fun r s =>
  X (ix2 r s) * W (ix2 3 s) + B (ix2 0 s) + back 1 X (ix2 r s) * W (ix2 2 s) + back 2 X (ix2 r s) * W (ix2 1 s)
    + back 3 X (ix2 r s) * W (ix2 0 s)
/-- `silu` of every entry. -/
def act (P : Mat m n) : Mat m n := mk fun r s => P (ix2 r s) * Ideal.logistic (P (ix2 r s))
/-- The cotangent `D` times the derivative of `silu` at `P`. -/
def dact (P D : Mat m n) : Mat m n := mk fun r s =>
  D (ix2 r s) * Ideal.logistic (P (ix2 r s))
    + P (ix2 r s) * D (ix2 r s) * (Ideal.logistic (P (ix2 r s)) * (1 - Ideal.logistic (P (ix2 r s))))
/-- The cotangent of the convolution's value before the activation. -/
def dpre (X : Mat m n) (W : Mat 4 n) (B : Mat 1 n) (D : Mat m n) : Mat m n := dact (pre X W B) D
/-- The gradient of the input, from the cotangent `E` of the convolution's value. -/
def dxm (W : Mat 4 n) (E : Mat m n) : Mat m n := mk fun r s =>
  E (ix2 r s) * W (ix2 3 s) + ahead 1 E (ix2 r s) * W (ix2 2 s) + ahead 2 E (ix2 r s) * W (ix2 1 s)
    + ahead 3 E (ix2 r s) * W (ix2 0 s)
/-- The gradient of the weight that multiplies the input `l` steps back. -/
def dwRow (X E : Mat m n) (l : ℕ) (s : Fin n) : EReal := ∑ t : Fin m, ahead l E (ix2 t s) * X (ix2 t s)
/-- The gradient of the weights. -/
def dwm (X E : Mat m n) : Mat 4 n := mk fun i s => dwRow X E (3 - i.val) s
/-- The gradient of the bias. -/
def dbm (E : Mat m n) : Mat 1 n := mk fun _ s => ∑ t : Fin m, E (ix2 t s)

/-! ## A group of columns of a result is the result on the group of columns -/

section
variable {w lo : ℕ} (h : lo + n ≤ w)

theorem part_pre (X : Mat m w) (W : Mat 4 w) (B : Mat 1 w) :
    part lo n h (pre X W B) = pre (part lo n h X) (part lo n h W) (part lo n h B) := rfl
theorem part_act (P : Mat m w) : part lo n h (act P) = act (part lo n h P) := rfl
theorem part_dpre (X : Mat m w) (W : Mat 4 w) (B : Mat 1 w) (D : Mat m w) :
    part lo n h (dpre X W B D) = dpre (part lo n h X) (part lo n h W) (part lo n h B) (part lo n h D) := rfl
theorem part_dxm (W : Mat 4 w) (E : Mat m w) : part lo n h (dxm W E) = dxm (part lo n h W) (part lo n h E) := rfl
theorem part_dwm (X E : Mat m w) : part lo n h (dwm X E) = dwm (part lo n h X) (part lo n h E) := rfl
theorem part_dbm (E : Mat m w) : part lo n h (dbm E) = dbm (part lo n h E) := rfl

end

/-! ## A sum over the steps, read from either end of the lag -/

theorem sum_shift (l : ℕ) (f : Fin m → Fin m → EReal) :
    (∑ t : Fin m, if _h : l ≤ t.val then f ⟨t.val - l, by omega⟩ t else 0)
      = ∑ u : Fin m, if h : u.val + l < m then f u ⟨u.val + l, h⟩ else 0 := by
  have left : ∀ t : Fin m, (if _h : l ≤ t.val then f ⟨t.val - l, by omega⟩ t else 0)
      = ∑ u : Fin m, if u.val + l = t.val then f u t else 0 := fun t => by
    split_ifs with h
    · rw [Finset.sum_eq_single (⟨t.val - l, by omega⟩ : Fin m)]
      · rw [if_pos (show t.val - l + l = t.val by omega)]
      · intro u _ hu
        exact if_neg fun e => hu (Fin.ext (show u.val = t.val - l by omega))
      · exact fun hu => absurd (Finset.mem_univ _) hu
    · exact (Finset.sum_eq_zero fun u _ => if_neg (by omega)).symm
  have right : ∀ u : Fin m, (if h : u.val + l < m then f u ⟨u.val + l, h⟩ else 0)
      = ∑ t : Fin m, if u.val + l = t.val then f u t else 0 := fun u => by
    split_ifs with h
    · rw [Finset.sum_eq_single (⟨u.val + l, h⟩ : Fin m)]
      · rw [if_pos rfl]
      · intro t _ ht
        exact if_neg fun e => ht (Fin.ext e.symm)
      · exact fun ht => absurd (Finset.mem_univ _) ht
    · exact (Finset.sum_eq_zero fun t _ => if_neg (by omega)).symm
  rw [Finset.sum_congr rfl fun t _ => left t, Finset.sum_congr rfl fun u _ => right u, Finset.sum_comm]

/-- The gradient of a weight, summed over the steps of the output instead of those of the input. -/
theorem dwRow_eq (X E : Mat m n) (l : ℕ) (s : Fin n) : dwRow X E l s = ∑ t : Fin m, back l X (ix2 t s) * E (ix2 t s) := by
  have e := sum_shift l fun u t : Fin m => X (ix2 u s) * E (ix2 t s)
  refine Eq.trans (Finset.sum_congr rfl fun t _ => ?_) (e.symm.trans (Finset.sum_congr rfl fun t _ => ?_))
  · show (if h : t.val + l < m then E (ix2 ⟨t.val + l, h⟩ s) else 0) * X (ix2 t s) = _
    split_ifs
    · exact mul_comm _ _
    · exact zero_mul _
  · show _ = (if _h : l ≤ t.val then X (ix2 ⟨t.val - l, by omega⟩ s) else 0) * E (ix2 t s)
    split_ifs
    · rfl
    · exact (zero_mul _).symm

/-! ## The arguments -/

/-- The arguments. -/
structure Args where
  /-- The convolution's input. -/
  x : Mat 4096 4096
  /-- The weights. -/
  w : Mat 4 4096
  /-- The bias. -/
  b : Mat 1 4096
  /-- The cotangent of the first columns of the output. -/
  d0 : Mat 4096 2048
  /-- The cotangent of its middle columns. -/
  d1 : Mat 4096 1024
  /-- The cotangent of its last columns. -/
  d2 : Mat 4096 1024

variable (a : Args)

/-- The cotangent of the output: its three groups of columns side by side. -/
def side : Mat 4096 4096 := mk fun r s =>
  if h0 : s.val < 2048 then a.d0 (ix2 r ⟨s.val, by omega⟩)
  else if h1 : s.val - 2048 < 1024 then a.d1 (ix2 r ⟨s.val - 2048, by omega⟩)
  else a.d2 (ix2 r ⟨s.val - 2048 - 1024, by omega⟩)

theorem side0 : part 0 2048 (by decide) (side a) = a.d0 := by
  refine Proj.ext2 fun r s => ?_
  show (if h0 : 0 + s.val < 2048 then a.d0 (ix2 r ⟨0 + s.val, h0⟩) else _) = _
  rw [dif_pos (show 0 + s.val < 2048 by omega)]
  exact congrArg (fun q => a.d0 (ix2 r q)) (Fin.ext (Nat.zero_add _))

theorem side1 : part 2048 1024 (by decide) (side a) = a.d1 := by
  refine Proj.ext2 fun r s => ?_
  show (if h0 : 2048 + s.val < 2048 then _ else if h1 : 2048 + s.val - 2048 < 1024 then a.d1 (ix2 r ⟨2048 + s.val - 2048, h1⟩) else _) = _
  rw [dif_neg (show ¬ 2048 + s.val < 2048 by omega), dif_pos (show 2048 + s.val - 2048 < 1024 by omega)]
  exact congrArg (fun q => a.d1 (ix2 r q)) (Fin.ext (show 2048 + s.val - 2048 = s.val by omega))

theorem side2 : part 3072 1024 (by decide) (side a) = a.d2 := by
  refine Proj.ext2 fun r s => ?_
  show (if h0 : 3072 + s.val < 2048 then _ else if h1 : 3072 + s.val - 2048 < 1024 then _
    else a.d2 (ix2 r ⟨3072 + s.val - 2048 - 1024, by omega⟩)) = _
  rw [dif_neg (show ¬ 3072 + s.val < 2048 by omega), dif_neg (show ¬ 3072 + s.val - 2048 < 1024 by omega)]
  exact congrArg (fun q => a.d2 (ix2 r q)) (Fin.ext (show 3072 + s.val - 2048 - 1024 = s.val by omega))

/-- The output. -/
def cOut : Mat 4096 4096 := act (pre a.x a.w a.b)
/-- The cotangent of the convolution's value before the activation. -/
def cE : Mat 4096 4096 := dpre a.x a.w a.b (side a)
/-- The gradient of the input. -/
def cDx : Mat 4096 4096 := dxm a.w (cE a)
/-- The gradient of the weights. -/
def cDw : Mat 4 4096 := dwm a.x (cE a)
/-- The gradient of the bias. -/
def cDb : Mat 1 4096 := dbm (cE a)

end Conv

end
-- ==== Proof.Conv.Block.lean ====
/-
  One block of channels of the convolution's calls: what the kernels compute from a block, as expressions of matrices. A
  rotation whose wrapped rows are masked out is a move of the rows.
-/
module

public import proofs.«01_k».proof.Proof.Conv.Args
public import proofs.«01_k».proof.Proof.Gen.ConvIdeal.Skeleton
public import Idealize.ShloMosaic.Lib.Pointwise
public import Idealize.ShloMosaic.Lib.KernelVsHost
public import Idealize.ShloMosaic.Lib.WordCmp

@[expose] public section

set_option maxRecDepth 16384

noncomputable section

namespace Conv

open Idealize.ShloMosaic Ffn
open Cert.ConvIdeal Cert.ConvIdeal.Gen

abbrev Blk := FVec Ideal S4096x256 .f32
abbrev Wts := FVec Ideal S4x256 .f32
abbrev Row := FVec Ideal S1x256 .f32

/-- The rows rotated down by `l`, zero where they wrapped. -/
def downT (l : ℕ) (X : Blk) : Blk :=
  select (cmpi .sge (iota .tc S4096x256 32 [0] iota_S4096x256_d0_w32) (broadcast S4096x256 (BitVec.ofNat 32 l)))
    (dynamicRotate 0 (BitVec.ofNat 32 l) none X rotates_S4096x256_d0) (broadcast S4096x256 (Scalar.ofBits .f32 0x00000000#32))
/-- The rows rotated down by `4096 - l`, which is up by `l`, zero where they wrapped. -/
def upT (q : ℕ) (X : Blk) : Blk :=
  select (cmpi .slt (iota .tc S4096x256 32 [0] iota_S4096x256_d0_w32) (broadcast S4096x256 (BitVec.ofNat 32 q)))
    (dynamicRotate 0 (BitVec.ofNat 32 q) none X rotates_S4096x256_d0) (broadcast S4096x256 (Scalar.ofBits .f32 0x00000000#32))

theorem downT_eq {l : ℕ} (hl : l < 4096) (X : Blk) : downT l X = back l (X : Mat 4096 256) := by
  refine Proj.ext2 fun r s => ?_
  have hr : r.val < 4096 := r.isLt
  have cond : cmpi .sge (iota .tc S4096x256 32 [0] iota_S4096x256_d0_w32) (broadcast S4096x256 (BitVec.ofNat 32 l)) (ix2 r s)
      = BitVec.ofBool (decide (l ≤ r.val)) := by
    pointwise
    word_cmp
  have hb : (BitVec.ofNat 32 l).toNat = l := WordCmp.toNat_ofNat_of_lt (by omega)
  rw [downT, WordCmp.select_at, cond, WordCmp.select_decide]
  show _ = (if h : l ≤ r.val then X (ix2 ⟨r.val - l, by omega⟩ s) else 0)
  split_ifs with h
  · refine dynamicRotate_apply (0 : Fin 2) _ X rotates_S4096x256_d0 (ix2 r s) (ix2 ⟨r.val - l, by omega⟩ s) fun b => ?_
    rw [hb]
    fin_cases b
    · show r.val - l = (r.val + 4096 - l % 4096) % 4096
      omega
    · rfl
  · pointwise

theorem upT_eq {l q : ℕ} (hl : 0 < l) (hq : l + q = 4096) (X : Blk) : upT q X = ahead l (X : Mat 4096 256) := by
  refine Proj.ext2 fun r s => ?_
  have hr : r.val < 4096 := r.isLt
  have cond : cmpi .slt (iota .tc S4096x256 32 [0] iota_S4096x256_d0_w32) (broadcast S4096x256 (BitVec.ofNat 32 q)) (ix2 r s)
      = BitVec.ofBool (decide (r.val < q)) := by
    pointwise
    word_cmp
  have hb : (BitVec.ofNat 32 q).toNat = q := WordCmp.toNat_ofNat_of_lt (by omega)
  rw [upT, WordCmp.select_at, cond, WordCmp.select_decide]
  show _ = (if h : r.val + l < 4096 then X (ix2 ⟨r.val + l, h⟩ s) else 0)
  by_cases h : r.val < q
  · rw [if_pos h, dif_pos (show r.val + l < 4096 by omega)]
    refine dynamicRotate_apply (0 : Fin 2) _ X rotates_S4096x256_d0 (ix2 r s) (ix2 ⟨r.val + l, by omega⟩ s) fun b => ?_
    rw [hb]
    fin_cases b
    · show r.val + l = (r.val + 4096 - q % 4096) % 4096
      omega
    · rfl
  · rw [if_neg h, dif_neg (show ¬ r.val + l < 4096 by omega)]
    pointwise

/-! ## The kernels' stages -/

/-- The value before the activation, with the masked rotations named. -/
theorem pay_pre (x : Blk) (w : Wts) (b : Row) : k1_pay5 x w b
    = addf (addf (addf (addf (mulf x (broadcastTo S4096x256 (extractStridedSlice S1x256 ![3, 0] w slices_S4x256_o3_0_S1x256) broadcasts_S1x256_S4096x256))
        (broadcastTo S4096x256 b broadcasts_S1x256_S4096x256))
        (mulf (downT 1 x) (broadcastTo S4096x256 (extractStridedSlice S1x256 ![2, 0] w slices_S4x256_o2_0_S1x256) broadcasts_S1x256_S4096x256)))
        (mulf (downT 2 x) (broadcastTo S4096x256 (extractStridedSlice S1x256 ![1, 0] w slices_S4x256_o1_0_S1x256) broadcasts_S1x256_S4096x256)))
        (mulf (downT 3 x) (broadcastTo S4096x256 (extractStridedSlice S1x256 ![0, 0] w slices_S4x256_o0_0_S1x256) broadcasts_S1x256_S4096x256)) := rfl

theorem pre_eq (x : Blk) (w : Wts) (b : Row) : k1_pay5 (F := Ideal) x w b = pre (x : Mat 4096 256) (w : Mat 4 256) (b : Mat 1 256) := by
  rw [pay_pre, downT_eq (by decide), downT_eq (by decide), downT_eq (by decide)]
  refine Proj.ext2 fun r s => ?_
  pointwise [pre, mk]

/-- The forward call's value. -/
theorem out_eq (x : Blk) (w : Wts) (b : Row) : k0_pay1 (F := Ideal) x w b = act (pre (x : Mat 4096 256) (w : Mat 4 256) (b : Mat 1 256)) := by
  show (mulf (F := Ideal) (k1_pay5 x w b) (logistic (k1_pay5 x w b)) : Blk) = _
  rw [pre_eq]
  refine Proj.ext2 fun r s => ?_
  pointwise [act, mk]

/-- The cotangent before the activation, as the backward calls compute it. -/
def eT (x : Blk) (w : Wts) (b : Row) (d : Blk) : Blk := k1_pay8 (k1_pay5 x w b) (k1_pay6 x w b) (k1_pay7 x w b) d

theorem eT_eq (x : Blk) (w : Wts) (b : Row) (d : Blk) :
    eT x w b d = dpre (x : Mat 4096 256) (w : Mat 4 256) (b : Mat 1 256) (d : Mat 4096 256) := by
  rw [dpre, ← pre_eq]
  refine Proj.ext2 fun r s => ?_
  pointwise [eT, k1_pay8, k1_pay7, k1_pay6, dact, mk]

/-- The gradient of the input. -/
theorem pay_dx (x : Blk) (w : Wts) (b : Row) (d : Blk) :
    k1_pay3 w (eT x w b d) (k1_pay13 w (k1_pay5 x w b) (k1_pay6 x w b) (k1_pay7 x w b) d) k1_pay15 4093#32
      = (truncf (φ := .f32) .bf16 (addf (addf (addf (mulf (eT x w b d) (broadcastTo S4096x256 (extractStridedSlice S1x256 ![3, 0] w slices_S4x256_o3_0_S1x256) broadcasts_S1x256_S4096x256))
        (mulf (upT 4095 (eT x w b d)) (broadcastTo S4096x256 (extractStridedSlice S1x256 ![2, 0] w slices_S4x256_o2_0_S1x256) broadcasts_S1x256_S4096x256)))
        (mulf (upT 4094 (eT x w b d)) (broadcastTo S4096x256 (extractStridedSlice S1x256 ![1, 0] w slices_S4x256_o1_0_S1x256) broadcasts_S1x256_S4096x256)))
        (mulf (upT 4093 (eT x w b d)) (broadcastTo S4096x256 (extractStridedSlice S1x256 ![0, 0] w slices_S4x256_o0_0_S1x256) broadcasts_S1x256_S4096x256)))) := rfl

theorem dx_eq (x : Blk) (w : Wts) (b : Row) (d : Blk) :
    k1_pay3 w (eT x w b d) (k1_pay13 w (k1_pay5 x w b) (k1_pay6 x w b) (k1_pay7 x w b) d) k1_pay15 4093#32
      = dxm (w : Mat 4 256) (eT x w b d : Mat 4096 256) := by
  rw [pay_dx, upT_eq (l := 1) (by decide) rfl, upT_eq (l := 2) (by decide) rfl, upT_eq (l := 3) (by decide) rfl]
  refine Proj.ext2 fun r s => ?_
  pointwise [dxm, mk]

/-- The sums over the rows of `E · x`, as one row. -/
def sumT (E x : Blk) : Row :=
  shapeCast S1x256 (multiReduction .add [0] S256 (mulf E x) 0x00000000#32 reduces_S4096x256_S256 (.inl rfl) rfl) shapeCasts_S256_S1x256

theorem sumT_apply (E x : Blk) (u : Fin 1) (s : Fin 256) : sumT E x (ix2 u s) = ∑ t : Fin 4096, E (ix2 t s) * x (ix2 t s) := by
  pointwise [sumT]

theorem db_eq (E : Blk) : k1_pay4 E = dbm (E : Mat 4096 256) := by
  refine Proj.ext2 fun r s => ?_
  pointwise [k1_pay4, dbm, mk]

end Conv

end
-- ==== Proof.Conv.Calls.lean ====
/- What the convolution's four calls leave in their result arrays, as expressions of the arrays they read. -/
module

public import proofs.«01_k».proof.Proof.Conv.Block
public import proofs.«01_k».proof.Proof.Gen.ConvIdeal.Frame
public import Idealize.ShloMosaic.Lib.Pipeline.ValueKit

@[expose] public section

set_option maxRecDepth 16384

noncomputable section

namespace Conv

open Idealize.ShloMosaic Idealize.ShloMosaic.TcCoe Idealize.SL.Sem Ffn
open Cert.ConvIdeal Cert.ConvIdeal.Gen

/-! ## A backward call's three results on one block -/

theorem blk_dx (x : Blk) (w : Wts) (b : Row) (d : Blk) :
    out1_4 (F := Ideal) x w b d = dxm (w : Mat 4 256) (dpre (x : Mat 4096 256) (w : Mat 4 256) (b : Mat 1 256) (d : Mat 4096 256)) := by
  rw [← eT_eq]
  refine Eq.trans ?_ (dx_eq x w b d)
  unfold_out out1_4
  frame_out
  rfl

theorem blk_db (x : Blk) (w : Wts) (b : Row) (d : Blk) :
    out1_6 (F := Ideal) x w b d = dbm (dpre (x : Mat 4096 256) (w : Mat 4 256) (b : Mat 1 256) (d : Mat 4096 256)) := by
  rw [← eT_eq]
  refine Eq.trans ?_ (db_eq (eT x w b d))
  unfold_out out1_6
  frame_out
  rfl

/-- One row of the gradient of the weights. -/
theorem row_dw {i l : ℕ} (hi : i + l = 3) (x E F : Blk) (hF : F = ahead l (E : Mat 4096 256))
    (inb : ∀ a : Fin 2, (![i, 0] : Fin 2 → ℕ) a + S1x256.size a ≤ S4x256.size a) (u : Fin 1) (s : Fin 256) :
    sumT F x (ix2 u s) = dwm (x : Mat 4096 256) (E : Mat 4096 256) ((Rect.unit (s := S4x256) ![i, 0] S1x256.size inb).emb (ix2 u s)) := by
  rw [sumT_apply, hF]
  have e0 : (((Rect.unit (s := S4x256) ![i, 0] S1x256.size inb).emb (ix2 u s)) 0).val = i := by
    simp [Rect.emb, Rect.unit, ix2]
  have e1 : ((Rect.unit (s := S4x256) ![i, 0] S1x256.size inb).emb (ix2 u s)) 1 = s := by
    refine Fin.ext ?_
    simp [Rect.emb, Rect.unit, ix2]
  show _ = dwRow _ _ (3 - _) _
  rw [e0, e1, show 3 - i = l by omega]
  rfl

theorem ahead_zero (E : Mat 4096 256) : ahead 0 E = E := by
  refine Proj.ext2 fun r s => ?_
  exact dif_pos r.isLt

theorem blk_dw (x : Blk) (w : Wts) (b : Row) (d : Blk) :
    out1_5 (F := Ideal) x w b d = dwm (x : Mat 4096 256) (dpre (x : Mat 4096 256) (w : Mat 4 256) (b : Mat 1 256) (d : Mat 4096 256)) := by
  rw [← eT_eq]
  funext y
  unfold_out out1_5
  refine View.canon_apply_of_pieces _ _ (fun p hp q => ?_) y (cover1_5 _ _ _ _ y)
  simp (disch := decide) only [k1_pay16, k1_pay17, k1_pay18, k1_pay19, k1_pay20, View.ld_unit_lit'] at hp
  rcases List.mem_cons.mp hp with rfl | hp
  · have h := row_dw (i := 0) (l := 3) rfl x (eT x w b d) (upT 4093 (eT x w b d)) (upT_eq (by decide) rfl _) inb_S4x256_S1x256_0_0 (q 0) (q 1)
    rwa [ix2_eta q] at h
  rcases List.mem_cons.mp hp with rfl | hp
  · have h := row_dw (i := 1) (l := 2) rfl x (eT x w b d) (upT 4094 (eT x w b d)) (upT_eq (by decide) rfl _) inb_S4x256_S1x256_1_0 (q 0) (q 1)
    rwa [ix2_eta q] at h
  rcases List.mem_cons.mp hp with rfl | hp
  · have h := row_dw (i := 2) (l := 1) rfl x (eT x w b d) (upT 4095 (eT x w b d)) (upT_eq (by decide) rfl _) inb_S4x256_S1x256_2_0 (q 0) (q 1)
    rwa [ix2_eta q] at h
  rcases List.mem_cons.mp hp with rfl | hp
  · have h := row_dw (i := 3) (l := 0) rfl x (eT x w b d) (eT x w b d) (ahead_zero _).symm inb_S4x256_S1x256_3_0 (q 0) (q 1)
    rwa [ix2_eta q] at h
  · exact absurd hp List.not_mem_nil

/-! ## The calls' result arrays -/

variable (V : (c : Dev nD) → (b : Ref sig .tc) → Buf (Elt Ideal) ((c : Thread nD τ).loc b))

theorem idx0 : ∀ t : Fin cfg0.N, win0_0.index t = ![0, t.val] ∧ win0_1.index t = ![0, t.val]
    ∧ win0_2.index t = ![0, t.val] ∧ win0_3.index t = ![0, t.val] ∧ 256 * t.val + 256 ≤ 4096 :=
  (by decide +kernel : ∀ t : Fin grid0.N, _)

theorem blks0 (c : Dev nD) (t : Fin cfg0.N) (h : 256 * t.val + 256 ≤ 4096) :
    iblk0 V c 0 t = part (256 * t.val) 256 h (V c main_arg0 : Mat 4096 4096)
      ∧ iblk0 V c 1 t = part (256 * t.val) 256 h (V c main_arg1 : Mat 4 4096)
      ∧ iblk0 V c 2 t = part (256 * t.val) 256 h (V c main_arg2 : Mat 1 4096) := by
  refine ⟨Proj.ext2 fun r s => ?_, Proj.ext2 fun r s => ?_, Proj.ext2 fun r s => ?_⟩ <;>
  · pointwise [part, mk]
    blk_point [iblk0, idx0 t]

/-- The forward call's output. -/
theorem out_call (c : Dev nD) :
    (dat0 V c).arrAt 3 cfg0.N = act (pre (V c main_arg0 : Mat 4096 4096) (V c main_arg1 : Mat 4 4096) (V c main_arg2 : Mat 1 4096)) := by
  refine (dat0 V c).arrAt_eq_of_covers 3 _ (by decide +kernel) fun t hf y => ?_
  obtain ⟨-, -, -, -, ht⟩ := idx0 t
  obtain ⟨e0, e1, e2⟩ := blks0 V c t ht
  blk_simp
  rw [after0_3, e0, e1, e2]
  frame_out
  rw [out_eq, ← part_pre, ← part_act]
  generalize act _ = M
  pointwise [part, mk]
  blk_point [idx0 t]

/-! ## The first backward call -/

theorem idx1 : ∀ t : Fin cfg1.N, win1_0.index t = ![0, t.val] ∧ win1_1.index t = ![0, t.val]
    ∧ win1_2.index t = ![0, t.val] ∧ win1_3.index t = ![0, t.val] ∧ win1_4.index t = ![0, t.val]
    ∧ win1_5.index t = ![0, t.val] ∧ win1_6.index t = ![0, t.val] ∧ 256 * t.val + 256 ≤ 2048 :=
  (by decide +kernel : ∀ t : Fin grid1.N, _)

theorem lt1 (t : Fin cfg1.N) : 256 * t.val + 256 ≤ 2048 := (idx1 t).2.2.2.2.2.2.2

/-- The cotangent before the activation, on the call's columns. -/
def cot1 (c : Dev nD) : Mat 4096 2048 := dpre (part 0 2048 (by decide) (V c main_arg0 : Mat 4096 4096)) (part 0 2048 (by decide) (V c main_arg1 : Mat 4 4096))
  (part 0 2048 (by decide) (V c main_arg2 : Mat 1 4096)) (V c main_arg3 : Mat 4096 2048)

theorem blks1 (c : Dev nD) (t : Fin cfg1.N) :
    iblk1 V c 0 t = part (256 * t.val) 256 (lt1 t) (part 0 2048 (by decide) (V c main_arg0 : Mat 4096 4096))
      ∧ iblk1 V c 1 t = part (256 * t.val) 256 (lt1 t) (part 0 2048 (by decide) (V c main_arg1 : Mat 4 4096))
      ∧ iblk1 V c 2 t = part (256 * t.val) 256 (lt1 t) (part 0 2048 (by decide) (V c main_arg2 : Mat 1 4096))
      ∧ iblk1 V c 3 t = part (256 * t.val) 256 (lt1 t) (V c main_arg3 : Mat 4096 2048) := by
  refine ⟨Proj.ext2 fun r s => ?_, Proj.ext2 fun r s => ?_, Proj.ext2 fun r s => ?_, Proj.ext2 fun r s => ?_⟩ <;>
  · pointwise [part, mk]
    blk_point [iblk1, idx1 t]

theorem dx_call1 (c : Dev nD) : (dat1 V c).arrAt 4 cfg1.N = dxm (part 0 2048 (by decide) (V c main_arg1 : Mat 4 4096)) (cot1 V c) := by
  refine (dat1 V c).arrAt_eq_of_covers 4 _ (by decide +kernel) fun t hf y => ?_
  obtain ⟨e0, e1, e2, e3⟩ := blks1 V c t
  blk_simp
  rw [after1_4, e0, e1, e2, e3, blk_dx, ← part_dpre, ← part_dxm, ← cot1]
  generalize dxm _ _ = M
  pointwise [part, mk]
  blk_point [idx1 t]

theorem dw_call1 (c : Dev nD) : (dat1 V c).arrAt 5 cfg1.N = dwm (part 0 2048 (by decide) (V c main_arg0 : Mat 4096 4096)) (cot1 V c) := by
  refine (dat1 V c).arrAt_eq_of_covers 5 _ (by decide +kernel) fun t hf y => ?_
  obtain ⟨e0, e1, e2, e3⟩ := blks1 V c t
  blk_simp
  rw [after1_5, e0, e1, e2, e3, blk_dw, ← part_dpre, ← part_dwm, ← cot1]
  generalize dwm _ _ = M
  pointwise [part, mk]
  blk_point [idx1 t]

theorem db_call1 (c : Dev nD) : (dat1 V c).arrAt 6 cfg1.N = dbm (cot1 V c) := by
  refine (dat1 V c).arrAt_eq_of_covers 6 _ (by decide +kernel) fun t hf y => ?_
  obtain ⟨e0, e1, e2, e3⟩ := blks1 V c t
  blk_simp
  rw [after1_6, e0, e1, e2, e3, blk_db, ← part_dpre, ← part_dbm, ← cot1]
  generalize dbm _ = M
  pointwise [part, mk]
  blk_point [idx1 t]

/-! ## The second backward call -/

theorem idx2 : ∀ t : Fin cfg2.N, win2_0.index t = ![0, t.val + 8] ∧ win2_1.index t = ![0, t.val + 8]
    ∧ win2_2.index t = ![0, t.val + 8] ∧ win2_3.index t = ![0, t.val] ∧ win2_4.index t = ![0, t.val]
    ∧ win2_5.index t = ![0, t.val] ∧ win2_6.index t = ![0, t.val] ∧ 256 * t.val + 256 ≤ 1024 :=
  (by decide +kernel : ∀ t : Fin grid2.N, _)

theorem lt2 (t : Fin cfg2.N) : 256 * t.val + 256 ≤ 1024 := (idx2 t).2.2.2.2.2.2.2

/-- The cotangent before the activation, on the call's columns. -/
def cot2 (c : Dev nD) : Mat 4096 1024 := dpre (part 2048 1024 (by decide) (V c main_arg0 : Mat 4096 4096)) (part 2048 1024 (by decide) (V c main_arg1 : Mat 4 4096))
  (part 2048 1024 (by decide) (V c main_arg2 : Mat 1 4096)) (V c main_arg4 : Mat 4096 1024)

theorem blks2 (c : Dev nD) (t : Fin cfg2.N) :
    iblk2 V c 0 t = part (256 * t.val) 256 (lt2 t) (part 2048 1024 (by decide) (V c main_arg0 : Mat 4096 4096))
      ∧ iblk2 V c 1 t = part (256 * t.val) 256 (lt2 t) (part 2048 1024 (by decide) (V c main_arg1 : Mat 4 4096))
      ∧ iblk2 V c 2 t = part (256 * t.val) 256 (lt2 t) (part 2048 1024 (by decide) (V c main_arg2 : Mat 1 4096))
      ∧ iblk2 V c 3 t = part (256 * t.val) 256 (lt2 t) (V c main_arg4 : Mat 4096 1024) := by
  refine ⟨Proj.ext2 fun r s => ?_, Proj.ext2 fun r s => ?_, Proj.ext2 fun r s => ?_, Proj.ext2 fun r s => ?_⟩ <;>
  · pointwise [part, mk]
    blk_point [iblk2, idx2 t]

theorem dx_call2 (c : Dev nD) : (dat2 V c).arrAt 4 cfg2.N = dxm (part 2048 1024 (by decide) (V c main_arg1 : Mat 4 4096)) (cot2 V c) := by
  refine (dat2 V c).arrAt_eq_of_covers 4 _ (by decide +kernel) fun t hf y => ?_
  obtain ⟨e0, e1, e2, e3⟩ := blks2 V c t
  blk_simp
  rw [after2_4, e0, e1, e2, e3, show out2_4 (F := Ideal) = out1_4 from rfl, blk_dx, ← part_dpre, ← part_dxm, ← cot2]
  generalize dxm _ _ = M
  pointwise [part, mk]
  blk_point [idx2 t]

theorem dw_call2 (c : Dev nD) : (dat2 V c).arrAt 5 cfg2.N = dwm (part 2048 1024 (by decide) (V c main_arg0 : Mat 4096 4096)) (cot2 V c) := by
  refine (dat2 V c).arrAt_eq_of_covers 5 _ (by decide +kernel) fun t hf y => ?_
  obtain ⟨e0, e1, e2, e3⟩ := blks2 V c t
  blk_simp
  rw [after2_5, e0, e1, e2, e3, show out2_5 (F := Ideal) = out1_5 from rfl, blk_dw, ← part_dpre, ← part_dwm, ← cot2]
  generalize dwm _ _ = M
  pointwise [part, mk]
  blk_point [idx2 t]

theorem db_call2 (c : Dev nD) : (dat2 V c).arrAt 6 cfg2.N = dbm (cot2 V c) := by
  refine (dat2 V c).arrAt_eq_of_covers 6 _ (by decide +kernel) fun t hf y => ?_
  obtain ⟨e0, e1, e2, e3⟩ := blks2 V c t
  blk_simp
  rw [after2_6, e0, e1, e2, e3, show out2_6 (F := Ideal) = out1_6 from rfl, blk_db, ← part_dpre, ← part_dbm, ← cot2]
  generalize dbm _ = M
  pointwise [part, mk]
  blk_point [idx2 t]

/-! ## The third backward call -/

theorem idx3 : ∀ t : Fin cfg3.N, win3_0.index t = ![0, t.val + 12] ∧ win3_1.index t = ![0, t.val + 12]
    ∧ win3_2.index t = ![0, t.val + 12] ∧ win3_3.index t = ![0, t.val] ∧ win3_4.index t = ![0, t.val]
    ∧ win3_5.index t = ![0, t.val] ∧ win3_6.index t = ![0, t.val] ∧ 256 * t.val + 256 ≤ 1024 :=
  (by decide +kernel : ∀ t : Fin grid3.N, _)

theorem lt3 (t : Fin cfg3.N) : 256 * t.val + 256 ≤ 1024 := (idx3 t).2.2.2.2.2.2.2

/-- The cotangent before the activation, on the call's columns. -/
def cot3 (c : Dev nD) : Mat 4096 1024 := dpre (part 3072 1024 (by decide) (V c main_arg0 : Mat 4096 4096)) (part 3072 1024 (by decide) (V c main_arg1 : Mat 4 4096))
  (part 3072 1024 (by decide) (V c main_arg2 : Mat 1 4096)) (V c main_arg5 : Mat 4096 1024)

theorem blks3 (c : Dev nD) (t : Fin cfg3.N) :
    iblk3 V c 0 t = part (256 * t.val) 256 (lt3 t) (part 3072 1024 (by decide) (V c main_arg0 : Mat 4096 4096))
      ∧ iblk3 V c 1 t = part (256 * t.val) 256 (lt3 t) (part 3072 1024 (by decide) (V c main_arg1 : Mat 4 4096))
      ∧ iblk3 V c 2 t = part (256 * t.val) 256 (lt3 t) (part 3072 1024 (by decide) (V c main_arg2 : Mat 1 4096))
      ∧ iblk3 V c 3 t = part (256 * t.val) 256 (lt3 t) (V c main_arg5 : Mat 4096 1024) := by
  refine ⟨Proj.ext2 fun r s => ?_, Proj.ext2 fun r s => ?_, Proj.ext2 fun r s => ?_, Proj.ext2 fun r s => ?_⟩ <;>
  · pointwise [part, mk]
    blk_point [iblk3, idx3 t]

theorem dx_call3 (c : Dev nD) : (dat3 V c).arrAt 4 cfg3.N = dxm (part 3072 1024 (by decide) (V c main_arg1 : Mat 4 4096)) (cot3 V c) := by
  refine (dat3 V c).arrAt_eq_of_covers 4 _ (by decide +kernel) fun t hf y => ?_
  obtain ⟨e0, e1, e2, e3⟩ := blks3 V c t
  blk_simp
  rw [after3_4, e0, e1, e2, e3, show out3_4 (F := Ideal) = out1_4 from rfl, blk_dx, ← part_dpre, ← part_dxm, ← cot3]
  generalize dxm _ _ = M
  pointwise [part, mk]
  blk_point [idx3 t]

theorem dw_call3 (c : Dev nD) : (dat3 V c).arrAt 5 cfg3.N = dwm (part 3072 1024 (by decide) (V c main_arg0 : Mat 4096 4096)) (cot3 V c) := by
  refine (dat3 V c).arrAt_eq_of_covers 5 _ (by decide +kernel) fun t hf y => ?_
  obtain ⟨e0, e1, e2, e3⟩ := blks3 V c t
  blk_simp
  rw [after3_5, e0, e1, e2, e3, show out3_5 (F := Ideal) = out1_5 from rfl, blk_dw, ← part_dpre, ← part_dwm, ← cot3]
  generalize dwm _ _ = M
  pointwise [part, mk]
  blk_point [idx3 t]

theorem db_call3 (c : Dev nD) : (dat3 V c).arrAt 6 cfg3.N = dbm (cot3 V c) := by
  refine (dat3 V c).arrAt_eq_of_covers 6 _ (by decide +kernel) fun t hf y => ?_
  obtain ⟨e0, e1, e2, e3⟩ := blks3 V c t
  blk_simp
  rw [after3_6, e0, e1, e2, e3, show out3_6 (F := Ideal) = out1_6 from rfl, blk_db, ← part_dpre, ← part_dbm, ← cot3]
  generalize dbm _ = M
  pointwise [part, mk]
  blk_point [idx3 t]

end Conv

end
-- ==== Proof.Conv.Fold.lean ====
/-
  What each result array holds at the end, as an expression of the arguments: the calls' results on the three groups of
  columns are those groups of the results on all columns, and the last steps put the groups side by side.
-/
module

public import proofs.«01_k».proof.Proof.Conv.Calls
public import Idealize.ShloMosaic.Lib.StableHlo.ReadAt

@[expose] public section

set_option maxRecDepth 16384

noncomputable section

namespace Conv

open Idealize.ShloMosaic Idealize.ShloMosaic.TcCoe Idealize.SL.Sem Ffn
open Cert.ConvIdeal Cert.ConvIdeal.Gen

variable (m : (p : Loc nD τ sig) → Buf (Elt Ideal) p) (ρ : Dev nD → PrngReg) (c : Dev nD)

/-- The arguments on a device. -/
def args : Args where
  x := m ((c : Thread nD τ).loc main_arg0)
  w := m ((c : Thread nD τ).loc main_arg1)
  b := m ((c : Thread nD τ).loc main_arg2)
  d0 := m ((c : Thread nD τ).loc main_arg3)
  d1 := m ((c : Thread nD τ).loc main_arg4)
  d2 := m ((c : Thread nD τ).loc main_arg5)

/-! ## The calls' results -/

theorem v0_at1 : W1 m ρ c main_v0 = (cOut (args m c) : Mat 4096 4096) := by
  refine ((W1_arr m ρ c 3).trans (out_call _ c)).trans ?_
  show act (pre (W0 m ρ c main_arg0) (W0 m ρ c main_arg1) (W0 m ρ c main_arg2)) = _
  rw [W0_args m ρ c main_arg0 (by decide), W0_args m ρ c main_arg1 (by decide), W0_args m ρ c main_arg2 (by decide)]
  rfl

theorem cot1_eq : cot1 (V1 m ρ) c = part 0 2048 (by decide) (cE (args m c)) := by
  show dpre (part 0 2048 _ (W1 m ρ c main_arg0)) (part 0 2048 _ (W1 m ρ c main_arg1)) (part 0 2048 _ (W1 m ρ c main_arg2)) (W1 m ρ c main_arg3) = _
  rw [W1_args m ρ c main_arg0 (by decide), W1_args m ρ c main_arg1 (by decide), W1_args m ρ c main_arg2 (by decide),
    W1_args m ρ c main_arg3 (by decide), cE, part_dpre, side0]
  rfl

theorem cot2_eq : cot2 (V2 m ρ) c = part 2048 1024 (by decide) (cE (args m c)) := by
  show dpre (part 2048 1024 _ (W2 m ρ c main_arg0)) (part 2048 1024 _ (W2 m ρ c main_arg1)) (part 2048 1024 _ (W2 m ρ c main_arg2)) (W2 m ρ c main_arg4) = _
  rw [W2_args m ρ c main_arg0 (by decide), W2_args m ρ c main_arg1 (by decide), W2_args m ρ c main_arg2 (by decide),
    W2_args m ρ c main_arg4 (by decide), cE, part_dpre, side1]
  rfl

theorem cot3_eq : cot3 (V3 m ρ) c = part 3072 1024 (by decide) (cE (args m c)) := by
  show dpre (part 3072 1024 _ (W3 m ρ c main_arg0)) (part 3072 1024 _ (W3 m ρ c main_arg1)) (part 3072 1024 _ (W3 m ρ c main_arg2)) (W3 m ρ c main_arg5) = _
  rw [W3_args m ρ c main_arg0 (by decide), W3_args m ρ c main_arg1 (by decide), W3_args m ρ c main_arg2 (by decide),
    W3_args m ρ c main_arg5 (by decide), cE, part_dpre, side2]
  rfl

theorem v1_at2 : W2 m ρ c main_v1_0 = part 0 2048 (by decide) (cDx (args m c))
    ∧ W2 m ρ c main_v1_1 = part 0 2048 (by decide) (cDw (args m c)) ∧ W2 m ρ c main_v1_2 = part 0 2048 (by decide) (cDb (args m c)) := by
  refine ⟨((W2_arr m ρ c 4).trans (dx_call1 _ c)).trans ?_, ((W2_arr m ρ c 5).trans (dw_call1 _ c)).trans ?_,
    ((W2_arr m ρ c 6).trans (db_call1 _ c)).trans ?_⟩
  · rw [cot1_eq]
    show dxm (part 0 2048 _ (W1 m ρ c main_arg1)) _ = _
    rw [W1_args m ρ c main_arg1 (by decide)]
    rfl
  · rw [cot1_eq]
    show dwm (part 0 2048 _ (W1 m ρ c main_arg0)) _ = _
    rw [W1_args m ρ c main_arg0 (by decide)]
    rfl
  · rw [cot1_eq]
    rfl

theorem v2_at3 : W3 m ρ c main_v2_0 = part 2048 1024 (by decide) (cDx (args m c))
    ∧ W3 m ρ c main_v2_1 = part 2048 1024 (by decide) (cDw (args m c)) ∧ W3 m ρ c main_v2_2 = part 2048 1024 (by decide) (cDb (args m c)) := by
  refine ⟨((W3_arr m ρ c 4).trans (dx_call2 _ c)).trans ?_, ((W3_arr m ρ c 5).trans (dw_call2 _ c)).trans ?_,
    ((W3_arr m ρ c 6).trans (db_call2 _ c)).trans ?_⟩
  · rw [cot2_eq]
    show dxm (part 2048 1024 _ (W2 m ρ c main_arg1)) _ = _
    rw [W2_args m ρ c main_arg1 (by decide)]
    rfl
  · rw [cot2_eq]
    show dwm (part 2048 1024 _ (W2 m ρ c main_arg0)) _ = _
    rw [W2_args m ρ c main_arg0 (by decide)]
    rfl
  · rw [cot2_eq]
    rfl

theorem v3_at4 : W4 m ρ c main_v3_0 = part 3072 1024 (by decide) (cDx (args m c))
    ∧ W4 m ρ c main_v3_1 = part 3072 1024 (by decide) (cDw (args m c)) ∧ W4 m ρ c main_v3_2 = part 3072 1024 (by decide) (cDb (args m c)) := by
  refine ⟨((W4_arr m ρ c 4).trans (dx_call3 _ c)).trans ?_, ((W4_arr m ρ c 5).trans (dw_call3 _ c)).trans ?_,
    ((W4_arr m ρ c 6).trans (db_call3 _ c)).trans ?_⟩
  · rw [cot3_eq]
    show dxm (part 3072 1024 _ (W3 m ρ c main_arg1)) _ = _
    rw [W3_args m ρ c main_arg1 (by decide)]
    rfl
  · rw [cot3_eq]
    show dwm (part 3072 1024 _ (W3 m ρ c main_arg0)) _ = _
    rw [W3_args m ρ c main_arg0 (by decide)]
    rfl
  · rw [cot3_eq]
    rfl

/-! ## The results at the end -/

theorem v0_at5 : W5 m ρ c main_v0 = (cOut (args m c) : Mat 4096 4096) := by
  rw [W5_of m ρ c main_v0 (by decide), W4_of m ρ c main_v0 (by decide), W3_of m ρ c main_v0 (by decide),
    W2_of m ρ c main_v0 (by decide), v0_at1 m ρ c]

theorem v1_at4 : W4 m ρ c main_v1_0 = part 0 2048 (by decide) (cDx (args m c))
    ∧ W4 m ρ c main_v1_1 = part 0 2048 (by decide) (cDw (args m c)) ∧ W4 m ρ c main_v1_2 = part 0 2048 (by decide) (cDb (args m c)) := by
  rw [W4_of m ρ c main_v1_0 (by decide), W3_of m ρ c main_v1_0 (by decide), W4_of m ρ c main_v1_1 (by decide),
    W3_of m ρ c main_v1_1 (by decide), W4_of m ρ c main_v1_2 (by decide), W3_of m ρ c main_v1_2 (by decide)]
  exact v1_at2 m ρ c

theorem v2_at4 : W4 m ρ c main_v2_0 = part 2048 1024 (by decide) (cDx (args m c))
    ∧ W4 m ρ c main_v2_1 = part 2048 1024 (by decide) (cDw (args m c)) ∧ W4 m ρ c main_v2_2 = part 2048 1024 (by decide) (cDb (args m c)) := by
  rw [W4_of m ρ c main_v2_0 (by decide), W4_of m ρ c main_v2_1 (by decide), W4_of m ρ c main_v2_2 (by decide)]
  exact v2_at3 m ρ c

theorem v4_at5 : W5 m ρ c main_v4 = (part 0 2048 (by decide) (cDx (args m c)) : Mat 4096 2048) := by
  rw [← (v1_at4 m ρ c).1]
  funext j
  after_reads_at

theorem v5_at5 : W5 m ρ c main_v5 = (part 2048 1024 (by decide) (cDx (args m c)) : Mat 4096 1024) := by
  rw [← (v2_at4 m ρ c).1]
  funext j
  after_reads_at

theorem v6_at5 : W5 m ρ c main_v6 = (part 3072 1024 (by decide) (cDx (args m c)) : Mat 4096 1024) := by
  rw [← (v3_at4 m ρ c).1]
  funext j
  after_reads_at

/-- Three groups of columns side by side. -/
theorem joined {k : ℕ} (M : Mat k 4096)
    (h : Shape.Concatenates [(⟨2, ![k, 2048]⟩ : Shape), ⟨2, ![k, 1024]⟩, ⟨2, ![k, 1024]⟩] ⟨2, ![k, 4096]⟩ 1) :
    concatenate (⟨2, ![k, 4096]⟩ : Shape) 1 [⟨⟨2, ![k, 2048]⟩, part 0 2048 (by decide) M⟩, ⟨⟨2, ![k, 1024]⟩, part 2048 1024 (by decide) M⟩,
      ⟨⟨2, ![k, 1024]⟩, part 3072 1024 (by decide) M⟩] h = M := by
  refine Proj.ext2 fun r s => ?_
  pointwise [part, mk]
  split_ifs with h0 h1
  · refine congrArg M (congrArg₂ ix2 rfl (Fin.ext ?_))
    rfl
  · refine congrArg M (congrArg₂ ix2 rfl (Fin.ext ?_))
    show 2048 + (s.val - 2048) = s.val
    omega
  · refine congrArg M (congrArg₂ ix2 rfl (Fin.ext ?_))
    show 3072 + (s.val - 2048 - 1024) = s.val
    omega

theorem v7_at5 : W5 m ρ c main_v7 = (cDw (args m c) : Mat 4 4096) := by
  have h : W5 m ρ c main_v7 = concatenate S4x4096 1 [⟨S4x2048, W4 m ρ c main_v1_1⟩, ⟨S4x1024, W4 m ρ c main_v2_1⟩, ⟨S4x1024, W4 m ρ c main_v3_1⟩]
      concatenates_S4x2048_S4x1024_S4x1024_S4x4096_d1 := by
    funext j
    after_reads_at
  rw [h, (v1_at4 m ρ c).2.1, (v2_at4 m ρ c).2.1, (v3_at4 m ρ c).2.1]
  exact joined _ _

theorem v8_at5 : W5 m ρ c main_v8 = (cDb (args m c) : Mat 1 4096) := by
  have h : W5 m ρ c main_v8 = concatenate S1x4096 1 [⟨S1x2048, W4 m ρ c main_v1_2⟩, ⟨S1x1024, W4 m ρ c main_v2_2⟩, ⟨S1x1024, W4 m ρ c main_v3_2⟩]
      concatenates_S1x2048_S1x1024_S1x1024_S1x4096_d1 := by
    funext j
    after_reads_at
  rw [h, (v1_at4 m ρ c).2.2, (v2_at4 m ρ c).2.2, (v3_at4 m ρ c).2.2]
  exact joined _ _

end Conv

end
-- ==== Proof.Conv.Run.lean ====
/-
  The run of the convolution's calls, with everything it leaves: at the end of every execution each unscoped buffer holds what the
  fold over the program's segments says, and every counter is at zero.
-/
module

public import proofs.«01_k».proof.Proof.Gen.ConvIdeal.Frame
public import Idealize.ShloMosaic.PureOps.Ideal

@[expose] public section

set_option maxRecDepth 16384

noncomputable section

namespace Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ConvIdeal Cert.ConvIdeal.Gen

variable (m : (p : Loc nD τ sig) → Buf (Elt Ideal) p) (ρ : Dev nD → PrngReg)

local notation "𝕄" => MT nD τ sig Unit (Elt Ideal) ℕ (UR sig nD τ) ℕ

set_option backward.isDefEq.respectTransparency.types false in
/-- Every execution ends with the buffers at the last boundary's contents. -/
theorem run : θ_run defs (onTc (τ := τ) (main (F := Ideal))) ⟨m, fun _ => 0, ρ⟩ (fun r =>
    (∀ c : Dev nD, ∀ b ∈ Pipeline.ucRefs τ sig, r.2.mem (((c : Thread nD τ)).1, b) = W5 m ρ c b)
      ∧ r.2.sem = fun _ => 0) := by
  refine Pipeline.θ_run_regions_kit_sems (pcfgs (F := Ideal)) adm (pdats m ρ) () cellOf_inj emb₁ defs₀ 𝒱₀ L lv m ρ main
    (segs m ρ) (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (T₀ := fun c => iprop(StableHlo.held (c : Thread nD τ) (Pipeline.ucRefs τ sig) (W0 m ρ c) ∗ R c)) (Tₙ := Tₙ m ρ)
    (QY := fun c s => ∀ b ∈ Pipeline.ucRefs τ sig, s.mem (((c : Thread nD τ)).1, b) = W5 m ρ c b)
    ?own ?chain ?start ?read ?done
  case own =>
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by
      rw [BI.bigSep_emp_const])
    iempintro
  case chain =>
    refine ⟨fun _ => .rfl, fun _ => .rfl, fun _ => .rfl, fun _ => .rfl, fun _ => .rfl, fun c => ?_⟩
    dsimp only [Pipeline.Seg.post, hseg, Pipeline.HostSeg.ofOps]
    iintro ⟨Hh, Hp, HO⟩
    isplitl [Hh Hp]
    · isplitl [Hh]; · iexact Hh
      iexact Hp
    iexact HO
  case start =>
    refine Pipeline.initEach L lv fun c => ?_
    rw [show unscopedBufs c (fun b => m ((c : Thread nD τ).loc b))
        = StableHlo.held (c : Thread nD τ) (Pipeline.ucRefs τ sig) (W0 m ρ c) from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case read =>
    intro c s'
    iintro ⟨⟨Hh, -⟩, HSI⟩
    unfold StableHlo.held
    imodintro
    iapply (pointsTo_read_all (Pipeline.ucRefs τ sig) (fun b => (((c : Thread nD τ)).1, b)) (W5 m ρ c) s')
    isplitl [Hh] <;> iassumption
  case done => exact fun s h hz => ⟨h, funext fun g => hz g (.inr (no_unscoped g.2))⟩

end Conv

end
-- ==== Proof.Conv.Reference.lean ====
/-
  The reference's results as expressions of the six arguments: each stage of its program, on whole matrices, is one of the
  matrix expressions.
-/
module

public import proofs.«01_k».proof.Proof.Conv.Args
public import proofs.«01_k».proof.Proof.Ffn.Algebra
public import proofs.«01_k».proof.Proof.Gen.ConvRefIdeal.Run
public import Idealize.ShloMosaic.Lib.KernelVsHost
public import Idealize.ShloMosaic.Lib.Claim

@[expose] public section

set_option maxRecDepth 16384

noncomputable section

namespace Conv.Ref

open Idealize.ShloMosaic Idealize.ShloMosaic.TcCoe Idealize.SL.Sem Ffn
open Cert.ConvRefIdeal Cert.ConvRefIdeal.Gen Cert.ConvRefIdeal.Value

/-! ## The stages of the reference's program -/

abbrev V4096 := FVec Ideal S4096x4096 .f32
abbrev V4099 := FVec Ideal S4099x4096 .f32
abbrev V2048 := FVec Ideal S4096x2048 .f32
abbrev V1024 := FVec Ideal S4096x1024 .f32
abbrev Wts := FVec Ideal S4x4096 .f32
abbrev Row := FVec Ideal S1x4096 .f32

/-- The input with three rows of zeros above it. -/
def longT (X : V4096) : V4099 :=
  concatenate S4099x4096 0 [⟨S3x4096, (broadcastInDim S3x4096 ![] bcast_S_S3x4096 (constant S_ .f32 0x00000000#32))⟩, ⟨S4096x4096, X⟩]
    concatenates_S3x4096_S4096x4096_S4099x4096_d0
/-- Its rows from row `k` on. -/
def lagT (k : ℕ) (hs : S4099x4096.Slices ![k, 0] S4096x4096) (X : V4096) : V4096 := extractStridedSlice S4096x4096 ![k, 0] (longT X) hs
/-- Row `k` of the weights, in every row. -/
def rowT (k : ℕ) (hs : S4x4096.Slices ![k, 0] S1x4096) (W : Wts) : V4096 :=
  broadcastInDim S4096x4096 ![0, 1] bcast_S1x4096_S4096x4096_0_1 (broadcastInDim S1x4096 ![1] bcast_S4096_S1x4096_1
    (shapeCast S4096 (extractStridedSlice S1x4096 ![k, 0] W hs) shapeCasts_S1x4096_S4096))
/-- The zero and the one, everywhere. -/
def zeroT : V4096 := broadcastInDim S4096x4096 ![] bcast_S_S4096x4096 (constant S_ .f32 0x00000000#32)
def oneT : V4096 := broadcastInDim S4096x4096 ![] bcast_S_S4096x4096 (constant S_ .f32 0x3F800000#32)
/-- The value before the activation. -/
def preT (X : V4096) (W : Wts) (B : Row) : V4096 :=
  addf (addf (addf (addf (addf zeroT (mulf (lagT 0 slices_S4099x4096_S4096x4096_0_0 X) (rowT 0 slices_S4x4096_S1x4096_0_0 W)))
    (mulf (lagT 1 slices_S4099x4096_S4096x4096_1_0 X) (rowT 1 slices_S4x4096_S1x4096_1_0 W)))
    (mulf (lagT 2 slices_S4099x4096_S4096x4096_2_0 X) (rowT 2 slices_S4x4096_S1x4096_2_0 W)))
    (mulf (lagT 3 slices_S4099x4096_S4096x4096_3_0 X) (rowT 3 slices_S4x4096_S1x4096_3_0 W)))
    (broadcastInDim S4096x4096 ![0, 1] bcast_S1x4096_S4096x4096_0_1 B)
/-- The logistic function of every entry. -/
def sigT (P : V4096) : V4096 := Host.divf oneT (addf oneT (Host.exp (Host.negf P)))
/-- The output. -/
def actT (P : V4096) : V4096 := mulf P (sigT P)
/-- The cotangent before the activation. -/
def dactT (P D : V4096) : V4096 := addf (mulf D (sigT P)) (mulf (mulf P D) (mulf (sigT P) (subf oneT (sigT P))))
/-- The cotangent of the output: the groups of columns side by side. -/
def sideT (D : V2048) (E F : V1024) : V4096 :=
  concatenate S4096x4096 1 [⟨S4096x2048, D⟩, ⟨S4096x1024, E⟩, ⟨S4096x1024, F⟩] concatenates_S4096x2048_S4096x1024_S4096x1024_S4096x4096_d1
/-- One weight's contribution to the gradient of the input, among zero rows. -/
def longDxT (lo hi k : ℕ) (hp : S4096x4096.Pads ![lo, 0] ![hi, 0] ![0, 0] S4099x4096) (hs : S4x4096.Slices ![k, 0] S1x4096) (W : Wts) (E : V4096) : V4099 :=
  pad S4099x4096 ![lo, 0] ![hi, 0] ![0, 0] (mulf E (rowT k hs W)) (constant S_ .f32 0x00000000#32) hp h_S_
/-- The gradient of the input. -/
def dxT (W : Wts) (E : V4096) : V4096 :=
  extractStridedSlice S4096x4096 ![3, 0] (addf (addf (addf (longDxT 3 0 3 pads_S4096x4096_S4099x4096_300_000 slices_S4x4096_S1x4096_3_0 W E)
    (longDxT 2 1 2 pads_S4096x4096_S4099x4096_210_000 slices_S4x4096_S1x4096_2_0 W E))
    (longDxT 1 2 1 pads_S4096x4096_S4099x4096_120_000 slices_S4x4096_S1x4096_1_0 W E))
    (longDxT 0 3 0 pads_S4096x4096_S4099x4096_030_000 slices_S4x4096_S1x4096_0_0 W E)) slices_S4099x4096_S4096x4096_3_0
/-- One row of the gradient of the weights. -/
def sumT (k : ℕ) (hs : S4099x4096.Slices ![k, 0] S4096x4096) (X E : V4096) : Row :=
  broadcastInDim S1x4096 ![1] bcast_S4096_S1x4096_1 (Host.reduceAdd (shapeCast S1x4096 (Host.reduceAdd (mulf (lagT k hs X) E)
    (constant S_ .f32 0x00000000#32) reducesTo_S4096x4096_S4096_d0 h_S_) shapeCasts_S4096_S1x4096)
    (constant S_ .f32 0x00000000#32) reducesTo_S1x4096_S4096_d0 h_S_)
/-- The gradient of the weights. -/
def dwT (X E : V4096) : Wts :=
  addf (addf (addf
    (pad S4x4096 ![3, 0] ![0, 0] ![0, 0] (sumT 3 slices_S4099x4096_S4096x4096_3_0 X E) (constant S_ .f32 0x00000000#32) pads_S1x4096_S4x4096_300_000 h_S_)
    (pad S4x4096 ![2, 0] ![1, 0] ![0, 0] (sumT 2 slices_S4099x4096_S4096x4096_2_0 X E) (constant S_ .f32 0x00000000#32) pads_S1x4096_S4x4096_210_000 h_S_))
    (pad S4x4096 ![1, 0] ![2, 0] ![0, 0] (sumT 1 slices_S4099x4096_S4096x4096_1_0 X E) (constant S_ .f32 0x00000000#32) pads_S1x4096_S4x4096_120_000 h_S_))
    (pad S4x4096 ![0, 0] ![3, 0] ![0, 0] (sumT 0 slices_S4099x4096_S4096x4096_0_0 X E) (constant S_ .f32 0x00000000#32) pads_S1x4096_S4x4096_030_000 h_S_)
/-- The gradient of the bias. -/
def dbT (E : V4096) : Row :=
  shapeCast S1x4096 (Host.reduceAdd E (constant S_ .f32 0x00000000#32) reducesTo_S4096x4096_S4096_d0 h_S_) shapeCasts_S4096_S1x4096

/-! ## The stages are the matrix expressions -/

theorem lagT_apply {k l : ℕ} (hk : k + l = 3) (hs : S4099x4096.Slices ![k, 0] S4096x4096) (X : V4096) (r s : Fin 4096) :
    lagT k hs X (ix2 r s) = back l (X : Mat 4096 4096) (ix2 r s) := by
  pointwise [lagT, longT]
  show _ = (if _h : l ≤ r.val then X (ix2 ⟨r.val - l, by omega⟩ s) else 0)
  by_cases h : l ≤ r.val
  · rw [dif_neg (show ¬ k + r.val < 3 by omega), dif_pos h]
    exact congrArg (fun q => X (ix2 q s)) (Fin.ext (show k + r.val - 3 = r.val - l by omega))
  · rw [dif_pos (show k + r.val < 3 by omega), dif_neg h]

theorem rowT_apply {k : ℕ} (hk : k < 4) (hs : S4x4096.Slices ![k, 0] S1x4096) (W : Wts) (r s : Fin 4096) :
    rowT k hs W (ix2 r s) = W (ix2 ⟨k, hk⟩ s) := by
  pointwise [rowT]

theorem sigT_apply (P : V4096) (r s : Fin 4096) : sigT P (ix2 r s) = Ideal.logistic (P (ix2 r s)) := by
  pointwise [sigT, oneT, Ideal.logistic]

theorem actT_eq (P : V4096) : actT P = act (P : Mat 4096 4096) := by
  refine Proj.ext2 fun r s => ?_
  show P (ix2 r s) * sigT P (ix2 r s) = _
  rw [sigT_apply]
  rfl

theorem dactT_eq (P D : V4096) : dactT P D = dact (P : Mat 4096 4096) (D : Mat 4096 4096) := by
  refine Proj.ext2 fun r s => ?_
  pointwise [dactT, oneT, dact, mk]
  simp only [sigT_apply]

theorem back_zero (X : Mat 4096 4096) (r s : Fin 4096) : back 0 X (ix2 r s) = X (ix2 r s) := by
  show (if _h : 0 ≤ r.val then X (ix2 ⟨r.val - 0, by omega⟩ s) else 0) = _
  rw [dif_pos (Nat.zero_le r.val)]
  rfl

theorem preT_eq (X : V4096) (W : Wts) (B : Row) : preT X W B = pre (X : Mat 4096 4096) (W : Mat 4 4096) (B : Mat 1 4096) := by
  refine Proj.ext2 fun r s => ?_
  show zeroT (ix2 r s) + lagT 0 _ X (ix2 r s) * rowT 0 _ W (ix2 r s) + lagT 1 _ X (ix2 r s) * rowT 1 _ W (ix2 r s)
    + lagT 2 _ X (ix2 r s) * rowT 2 _ W (ix2 r s) + lagT 3 _ X (ix2 r s) * rowT 3 _ W (ix2 r s)
    + broadcastInDim S4096x4096 ![0, 1] bcast_S1x4096_S4096x4096_0_1 B (ix2 r s)
    = X (ix2 r s) * W (ix2 3 s) + B (ix2 0 s) + back 1 X (ix2 r s) * W (ix2 2 s) + back 2 X (ix2 r s) * W (ix2 1 s)
      + back 3 X (ix2 r s) * W (ix2 0 s)
  rw [lagT_apply (l := 3) rfl, lagT_apply (l := 2) rfl, lagT_apply (l := 1) rfl, lagT_apply (l := 0) rfl,
    rowT_apply (by decide), rowT_apply (by decide), rowT_apply (by decide), rowT_apply (by decide),
    back_zero,
    show zeroT (ix2 r s) = 0 by pointwise [zeroT],
    show broadcastInDim S4096x4096 ![0, 1] bcast_S1x4096_S4096x4096_0_1 B (ix2 r s) = B (ix2 0 s) by pointwise, zero_add]
  show back 3 X (ix2 r s) * W (ix2 0 s) + back 2 X (ix2 r s) * W (ix2 1 s) + back 1 X (ix2 r s) * W (ix2 2 s)
    + X (ix2 r s) * W (ix2 3 s) + B (ix2 0 s) = _
  ac_rfl

theorem longDxT_apply {lo k l : ℕ} (hl : lo + l = 3) (hk : k < 4) (hp : S4096x4096.Pads ![lo, 0] ![l, 0] ![0, 0] S4099x4096)
    (hs : S4x4096.Slices ![k, 0] S1x4096) (W : Wts) (E : V4096) (r s : Fin 4096) (q : Fin 4099) (hq : q.val = 3 + r.val) :
    longDxT lo l k hp hs W E (ix2 q s) = ahead l (E : Mat 4096 4096) (ix2 r s) * W (ix2 ⟨k, hk⟩ s) := by
  show _ = (if h : r.val + l < 4096 then E (ix2 ⟨r.val + l, h⟩ s) else 0) * _
  pointwise [longDxT]
  by_cases h : r.val + l < 4096
  · have e : (⟨q.val - lo, by omega⟩ : Fin 4096) = ⟨r.val + l, h⟩ := Fin.ext (show q.val - lo = r.val + l by omega)
    rw [dif_pos (show lo ≤ q.val ∧ q.val - lo < 4096 by omega), dif_pos h, rowT_apply hk, e]
  · rw [dif_neg (show ¬ (lo ≤ q.val ∧ q.val - lo < 4096) by omega), dif_neg h, zero_mul]

theorem dxT_eq (W : Wts) (E : V4096) : dxT W E = dxm (W : Mat 4 4096) (E : Mat 4096 4096) := by
  refine Proj.ext2 fun r s => ?_
  pointwise [dxT]
  rw [longDxT_apply (l := 0) rfl (by decide) _ _ W E r s _ rfl, longDxT_apply (l := 1) rfl (by decide) _ _ W E r s _ rfl,
    longDxT_apply (l := 2) rfl (by decide) _ _ W E r s _ rfl, longDxT_apply (l := 3) rfl (by decide) _ _ W E r s _ rfl,
    show ahead 0 (E : Mat 4096 4096) (ix2 r s) = E (ix2 r s) from dif_pos r.isLt]
  rfl

theorem sumT_apply {k l : ℕ} (hk : k + l = 3) (hs : S4099x4096.Slices ![k, 0] S4096x4096) (X E : V4096) (u : Fin 1) (s : Fin 4096) :
    sumT k hs X E (ix2 u s) = dwRow (X : Mat 4096 4096) (E : Mat 4096 4096) l s := by
  rw [dwRow_eq]
  pointwise [sumT]
  simp only [lagT_apply hk]
  exact Fin.sum_univ_one _

theorem dwT_eq (X E : V4096) : dwT X E = dwm (X : Mat 4096 4096) (E : Mat 4096 4096) := by
  refine Proj.ext2 fun r s => ?_
  pointwise [dwT]
  show _ = dwRow X E (3 - r.val) s
  obtain ⟨r, hr⟩ := r
  interval_cases r
  · exact (by simp [sumT_apply (k := 0) (l := 3) rfl])
  · exact (by simp [sumT_apply (k := 1) (l := 2) rfl])
  · exact (by simp [sumT_apply (k := 2) (l := 1) rfl])
  · exact (by simp [sumT_apply (k := 3) (l := 0) rfl])

theorem dbT_eq (E : V4096) : dbT E = dbm (E : Mat 4096 4096) := by
  refine Proj.ext2 fun r s => ?_
  pointwise [dbT, dbm, mk]

/-- A group of columns cut out. -/
theorem cut_eq {lo n : ℕ} (h : lo + n ≤ 4096) (hs : S4096x4096.Slices ![0, lo] ⟨2, ![4096, n]⟩) (M : Mat 4096 4096) :
    extractStridedSlice (⟨2, ![4096, n]⟩ : Shape) ![0, lo] M hs = part lo n h M := by
  refine Proj.ext2 fun r s => ?_
  pointwise [part, mk]

theorem sideT_eq (a : Args) : sideT a.d0 a.d1 a.d2 = side a := by
  refine Proj.ext2 fun r s => ?_
  pointwise [sideT, side, mk]

theorem eT_eq (a : Args) : dactT (preT a.x a.w a.b) (sideT a.d0 a.d1 a.d2) = cE a := by
  rw [sideT_eq, dactT_eq, preT_eq]
  rfl

section
variable (m : (p : Loc nD τ sig) → Buf (Elt Ideal) p) (c : Dev nD)

/-- The arguments on a device. -/
def args : Args where
  x := m ((c.tc : Thread nD τ).loc main_arg0)
  w := m ((c.tc : Thread nD τ).loc main_arg1)
  b := m ((c.tc : Thread nD τ).loc main_arg2)
  d0 := m ((c.tc : Thread nD τ).loc main_arg3)
  d1 := m ((c.tc : Thread nD τ).loc main_arg4)
  d2 := m ((c.tc : Thread nD τ).loc main_arg5)

/-- A run ends with the six results as these expressions of the arguments. -/
theorem run_stages (ρ : Dev nD → PrngReg) :
    θ_run defs (onTc (τ := τ) (main (F := Ideal))) ⟨m, fun _ => 0, ρ⟩ fun r => ∀ c : Dev nD,
      r.2.mem ((c.tc : Thread nD τ).loc main_v34_0) = (cOut (args m c) : Mat 4096 4096)
      ∧ r.2.mem ((c.tc : Thread nD τ).loc main_v83) = (part 0 2048 (by decide) (cDx (args m c)) : Mat 4096 2048)
      ∧ r.2.mem ((c.tc : Thread nD τ).loc main_v84) = (part 2048 1024 (by decide) (cDx (args m c)) : Mat 4096 1024)
      ∧ r.2.mem ((c.tc : Thread nD τ).loc main_v85) = (part 3072 1024 (by decide) (cDx (args m c)) : Mat 4096 1024)
      ∧ r.2.mem ((c.tc : Thread nD τ).loc main_v78) = (cDw (args m c) : Mat 4 4096)
      ∧ r.2.mem ((c.tc : Thread nD τ).loc main_v38) = (cDb (args m c) : Mat 1 4096)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine θ_run_mono (Cert.ConvRefIdeal.Value.run m ρ) fun r h c => ?_
  obtain ⟨h0, h1, h2, h3, h4, h5, hargs⟩ := h c
  refine ⟨h0.trans ?_, h1.trans ?_, h2.trans ?_, h3.trans ?_, h4.trans ?_, h5.trans ?_, hargs⟩
  · show actT (preT (args m c).x (args m c).w (args m c).b) = _
    rw [actT_eq, preT_eq]
    rfl
  · refine (show res_main_v83 m c = extractStridedSlice S4096x2048 ![0, 0] (dxT (args m c).w
      (dactT (preT (args m c).x (args m c).w (args m c).b) (sideT (args m c).d0 (args m c).d1 (args m c).d2))) slices_S4096x4096_S4096x2048_0_0 from rfl).trans ?_
    rw [eT_eq, dxT_eq]
    exact cut_eq (by decide) _ _
  · refine (show res_main_v84 m c = extractStridedSlice S4096x1024 ![0, 2048] (dxT (args m c).w
      (dactT (preT (args m c).x (args m c).w (args m c).b) (sideT (args m c).d0 (args m c).d1 (args m c).d2))) slices_S4096x4096_S4096x1024_0_2048 from rfl).trans ?_
    rw [eT_eq, dxT_eq]
    exact cut_eq (by decide) _ _
  · refine (show res_main_v85 m c = extractStridedSlice S4096x1024 ![0, 3072] (dxT (args m c).w
      (dactT (preT (args m c).x (args m c).w (args m c).b) (sideT (args m c).d0 (args m c).d1 (args m c).d2))) slices_S4096x4096_S4096x1024_0_3072 from rfl).trans ?_
    rw [eT_eq, dxT_eq]
    exact cut_eq (by decide) _ _
  · refine (show res_main_v78 m c = dwT (args m c).x
      (dactT (preT (args m c).x (args m c).w (args m c).b) (sideT (args m c).d0 (args m c).d1 (args m c).d2)) from rfl).trans ?_
    rw [eT_eq, dwT_eq]
    rfl
  · refine (show res_main_v38 m c = dbT
      (dactT (preT (args m c).x (args m c).w (args m c).b) (sideT (args m c).d0 (args m c).d1 (args m c).d2)) from rfl).trans ?_
    rw [eT_eq, dbT_eq]
    rfl
end

end Conv.Ref

end
-- ==== Proof.Conv.Value.lean ====
/-
  The two programs of the convolution give the same six results, on any arguments.
-/
module

public import proofs.«01_k».proof.Defs
public import proofs.«01_k».proof.Proof.Conv.Fold
public import proofs.«01_k».proof.Proof.Conv.Run
public import proofs.«01_k».proof.Proof.Conv.Reference
public import Idealize.ShloMosaic.Lib.Claim

@[expose] public section

set_option maxRecDepth 16384

noncomputable section

namespace Conv

open Idealize.ShloMosaic Idealize.ShloMosaic.TcCoe Idealize.SL.Sem

open Cert.ConvIdeal.Gen in
/-- The kernel's six results are the reference's. -/
theorem algebraic : Cert.algebraic_ConvIdeal_ConvRefIdeal (hConvIdeal := Cert.ConvIdeal.Gen.facts)
    (hConvRefIdeal := Cert.ConvRefIdeal.Gen.facts) := by
  intro m g m' g' _ hag
  have same : ∀ c, Ref.args m' c = args m c := fun c => by
    obtain ⟨e0, e1, e2, e3, e4, e5⟩ := hag c
    have b0 : (Ref.args m' c).x = (args m c).x := e0
    have b1 : (Ref.args m' c).w = (args m c).w := e1
    have b2 : (Ref.args m' c).b = (args m c).b := e2
    have b3 : (Ref.args m' c).d0 = (args m c).d0 := e3
    have b4 : (Ref.args m' c).d1 = (args m c).d1 := e4
    have b5 : (Ref.args m' c).d2 = (args m c).d2 := e5
    generalize Ref.args m' c = P at *
    generalize args m c = R at *
    cases P
    cases R
    simp_all only
  refine ⟨fun c => cOut (args m c),
    fun c => part 0 2048 (by decide) (cDx (args m c)),
    fun c => part 2048 1024 (by decide) (cDx (args m c)),
    fun c => part 3072 1024 (by decide) (cDx (args m c)),
    fun c => cDw (args m c),
    fun c => cDb (args m c), ?_, ?_⟩
  · refine θ_run_mono (θ_run_and (Conv.run m g) (Cert.ConvIdeal.Gen.frame m g)) fun r h c => ?_
    have at_end := h.1.1 c
    exact ⟨(at_end _ (mem_uc Cert.ConvIdeal.main_v0 (by decide))).trans (v0_at5 m g c),
      (at_end _ (mem_uc Cert.ConvIdeal.main_v4 (by decide))).trans (v4_at5 m g c),
      (at_end _ (mem_uc Cert.ConvIdeal.main_v5 (by decide))).trans (v5_at5 m g c),
      (at_end _ (mem_uc Cert.ConvIdeal.main_v6 (by decide))).trans (v6_at5 m g c),
      (at_end _ (mem_uc Cert.ConvIdeal.main_v7 (by decide))).trans (v7_at5 m g c),
      (at_end _ (mem_uc Cert.ConvIdeal.main_v8 (by decide))).trans (v8_at5 m g c), h.2.1 c⟩
  · refine θ_run_mono (Ref.run_stages m' g') fun r h c => ?_
    have hc := h c
    rw [same c] at hc
    exact hc

end Conv

end
-- ==== Proof.Loss.Mat.lean ====
/-
  The loss of a device's rows against a target, and its gradients in the head's input and in the gain of the last
  normalisation, as expressions of whole matrices.
-/
module

public import proofs.«01_k».proof.Proof.Ffn.Algebra

@[expose] public section

noncomputable section

namespace Loss

open Idealize.ShloMosaic Ffn

variable {m n : ℕ}

/-- The head's output less the target. -/
def err (X T : Mat m n) (G : Mat 1 n) : Mat m n := mk fun r s => X (ix2 r s) * rs X r * G (ix2 0 s) - T (ix2 r s)

/-- The mean square of the error in row `r`. -/
def rowLoss (X T : Mat m n) (G : Mat 1 n) (r : Fin m) : EReal :=
  Ideal.div (∑ q : Fin n, err X T G (ix2 r q) * err X T G (ix2 r q)) (Ideal.ofBits .f32 0x44800000#32)

/-- The loss: half of the sum of the rows' mean squares. -/
def loss (X T : Mat m n) (G : Mat 1 n) : Mat 1 1 := mk fun _ _ => half * ∑ r : Fin m, rowLoss X T G r

/-- The cotangent of a row's sum of squares. -/
def unit : EReal := Ideal.div (half * Ideal.ofBits .f32 0x3F800000#32) (Ideal.ofBits .f32 0x44800000#32)

/-- The cotangent of the head's output, as the kernel computes it. -/
def cot (X T : Mat m n) (G : Mat 1 n) : Mat m n := mk fun r s => err X T G (ix2 r s) * unit + unit * err X T G (ix2 r s)

/-- The gradient of the head's input from the cotangent `H` of its output. -/
def back (X H : Mat m n) (G : Mat 1 n) : Mat m n := mk fun r s =>
  H (ix2 r s) * G (ix2 0 s) * rs X r + X (ix2 r s) * coef X H G r + coef X H G r * X (ix2 r s)

theorem twice (e : EReal) : Ideal.ofBits .f32 0x40000000#32 * e = e + e := by
  have h : Ideal.ofBits .f32 0x40000000#32 = ((1 : ℝ) : EReal) + ((1 : ℝ) : EReal) := by
    rw [← EReal.coe_add]
    simp [Ideal.ofBits, Ideal.ieee, -EReal.coe_mul, -EReal.coe_add]; norm_num
  rw [h, EReal.right_distrib_of_nonneg (by norm_num) (by norm_num), EReal.coe_one, one_mul]

theorem unit_real : ∃ u : ℝ, 0 < u ∧ unit = (u : EReal) := by
  have h1 : Ideal.ofBits .f32 0x3F800000#32 = ((1 : ℝ) : EReal) := by
    simp [Ideal.ofBits, Ideal.ieee, -EReal.coe_mul]; norm_num
  refine ⟨1 / 2 * 1 * (1 / 1024), by norm_num, ?_⟩
  rw [unit, h1, count_eq, half_eq, Ideal.div_coe (by norm_num), ← EReal.coe_mul, ← EReal.coe_mul]

/-- The two ways of differentiating a square agree. -/
theorem cot_apply (e : EReal) : unit * (Ideal.ofBits .f32 0x40000000#32 * e) = e * unit + unit * e := by
  obtain ⟨u, hu, h⟩ := unit_real
  rw [twice, h, EReal.left_distrib_of_nonneg_of_ne_top (by exact_mod_cast hu.le) (EReal.coe_ne_top _), mul_comm e]

end Loss

end
-- ==== Proof.Loss.Head.lean ====
/-
  What the call of the loss head leaves in its result arrays: the loss and the gradient of the gain, added up over the
  call's groups of rows, and the gradient of the head's input.
-/
module

public import proofs.«01_k».proof.Proof.Loss.Mat
public import proofs.«01_k».proof.Proof.Gen.LossIdeal.Frame
public import Idealize.ShloMosaic.Lib.Pipeline.ValueKit

@[expose] public section

set_option maxRecDepth 16384

noncomputable section

namespace Loss

open Idealize.ShloMosaic Idealize.ShloMosaic.TcCoe Idealize.SL.Sem Ffn
open Cert.LossIdeal Cert.LossIdeal.Gen

variable (m : (p : Loc nD τ sig) → Buf (Elt Ideal) p) (c : Dev nD)

theorem idx : ∀ t : Fin cfg0.N, win0_0.index t = ![t.val, 0] ∧ win0_1.index t = ![t.val, 0] ∧ win0_2.index t = ![0, 0]
    ∧ win0_3.index t = ![t.val, 0] ∧ win0_5.index t = ![0, 0] ∧ win0_6.index t = ![0, 0] :=
  (by decide +kernel : ∀ t : Fin grid0.N, _)

/-- The gradient of the input at a grid point, first or later: the same expression of the point's input blocks. -/
theorem out_dx (t : Fin cfg0.N) :
    (outsAt0 m c t.val t.isLt).1 = k0_pay1 (iblk m c 0 t) (k0_pay8 (iblk m c 0 t)) (k0_pay9 (iblk m c 0 t))
      (k0_pay13 (iblk m c 0 t) (iblk m c 1 t) (iblk m c 2 t)) (k0_pay15 (iblk m c 2 t)) := by
  by_cases h : t.val % 8 = 0
  · rw [outsAt0_A m c t h]; frame_out
  · rw [outsAt0_B m c t h]; frame_out

/-- The gradient of the head's input. -/
theorem dx_out : (dats m 0 c).arrAt 3 cfg0.N
    = (back (V m c main_arg0) (cot (V m c main_arg0) (V m c main_arg1) (V m c main_arg2)) (V m c main_arg2) : Mat 4096 1024) := by
  refine (dats m 0 c).arrAt_eq_of_covers 3 _ (by decide +kernel) fun t hf y => ?_
  blk_simp
  rw [after0_3, out_dx]
  pointwise [k0_pay1, k0_pay7, k0_pay8, k0_pay9, k0_pay10, k0_pay11, k0_pay13, k0_pay15, back, cot, err, unit, coef, rs, msq, half, mk]
  blk_point [iblk, idx t]

theorem loss_step (x t : Vec Ideal S512x1024 .f32) (g : Vec Ideal S1x1024 .f32) (v : Vec Ideal S1x1 .f32) (y : S1x1.Idx) :
    k0_pay5 (k0_pay12 x t g) v y = v y + half * ∑ r : Fin 512, rowLoss (x : Mat 512 1024) (t : Mat 512 1024) (g : Mat 1 1024) r := by
  pointwise [k0_pay5, k0_pay12, k0_pay11, k0_pay10, k0_pay8, k0_pay7, rowLoss, err, rs, msq, half, mk]

theorem loss_reset (y : S1x1.Idx) : k0_pay3 (F := Ideal) y = 0 := by
  pointwise [k0_pay3]

theorem dg_step (x t : Vec Ideal S512x1024 .f32) (g v : Vec Ideal S1x1024 .f32) (y : S1x1024.Idx) :
    k0_pay6 (k0_pay14 x t g) v y = v y + ∑ r : Fin 512,
      dgTerm (x : Mat 512 1024) (cot (x : Mat 512 1024) (t : Mat 512 1024) (g : Mat 1 1024)) r (y 1) := by
  pointwise [k0_pay6, k0_pay14, k0_pay13, k0_pay11, k0_pay10, k0_pay8, k0_pay7, dgTerm, cot, err, unit, rs, msq, half, mk]

theorem dg_reset (y : S1x1024.Idx) : k0_pay4 (F := Ideal) y = 0 := by
  pointwise [k0_pay4]

/-- The loss: each grid point adds its 512 rows. -/
theorem loss_out : (dats m 0 c).arrAt 5 cfg0.N = (loss (V m c main_arg0 : Mat 4096 1024) (V m c main_arg1) (V m c main_arg2) : Mat 1 1) := by
  refine (dats m 0 c).arrAt_eq_of_covers 5 _ (by decide +kernel) fun t hf y => ?_
  have ht : t.val + 1 = cfg0.N := by
    have := (flush0_5 t).mp hf
    have := t.isLt
    have hN : cfg0.N = 8 := by decide
    omega
  blk_simp
  rw [after0_5, Pipeline.eq_sum_fin_of_reset_step_apply_last (fun n h => (outsAt0 m c n h).2.2.1) 8 (fun _ => 0) _
    (fun t h j => by rw [outsAt0_A m c t h]; frame_out; rw [loss_step, loss_reset])
    (fun t h j => by rw [outsAt0_B m c t h]; frame_out; rw [loss_step])
    (by decide) t ht y, zero_add, ← half_mul_sum]
  pointwise [loss, mk]
  refine congrArg (half * ·) ?_
  pointwise [rowLoss, err, rs, msq, mk]
  refine Fin.sum_mul_add_congr fun p k hl => ?_
  blk_point [iblk, idx p, idx t]

/-- The gradient of the gain: each grid point adds its 512 rows. -/
theorem dg_out : (dats m 0 c).arrAt 6 cfg0.N
    = (dg (V m c main_arg0 : Mat 4096 1024) (cot (V m c main_arg0) (V m c main_arg1) (V m c main_arg2)) : Mat 1 1024) := by
  refine (dats m 0 c).arrAt_eq_of_covers 6 _ (by decide +kernel) fun t hf y => ?_
  have ht : t.val + 1 = cfg0.N := by
    have := (flush0_6 t).mp hf
    have := t.isLt
    have hN : cfg0.N = 8 := by decide
    omega
  blk_simp
  rw [after0_6, Pipeline.eq_sum_fin_of_reset_step_apply_last (fun n h => (outsAt0 m c n h).2.2.2) 8 (fun _ => 0) _
    (fun t h j => by rw [outsAt0_A m c t h]; frame_out; rw [dg_step, dg_reset])
    (fun t h j => by rw [outsAt0_B m c t h]; frame_out; rw [dg_step])
    (by decide) t ht y, zero_add]
  pointwise [dg, dgTerm, cot, err, rs, msq, mk]
  refine Fin.sum_mul_add_congr fun p k hl => ?_
  blk_point [iblk, idx p, idx t]

end Loss

end
-- ==== Proof.Loss.Reference.lean ====
/-
  The reference's three results as expressions of the three arguments: each stage of its program, on whole matrices, is
  one of the matrix expressions.
-/
module

public import proofs.«01_k».proof.Proof.Loss.Mat
public import proofs.«01_k».proof.Proof.Proj.Args
public import proofs.«01_k».proof.Proof.Gen.LossRefIdeal.Run
public import Idealize.ShloMosaic.Lib.Claim

@[expose] public section

set_option maxRecDepth 16384

noncomputable section

namespace Loss.Ref

open Idealize.ShloMosaic Idealize.ShloMosaic.TcCoe Idealize.SL.Sem Ffn
open Cert.LossRefIdeal Cert.LossRefIdeal.Gen Cert.LossRefIdeal.Value

abbrev V1024 := FVec Ideal S4096x1024 .f32
abbrev Gain := FVec Ideal S1x1024 .f32
abbrev Col := FVec Ideal S4096x1 .f32

/-- The shifted mean squares of the rows. -/
def msqT (X : V1024) : Col :=
  addf (Host.divf (broadcastInDim S4096x1 ![0] bcast_S4096_S4096x1_0 (Host.reduceAdd (mulf X X) (constant S_ .f32 0x00000000#32)
    reducesTo_S4096x1024_S4096_d1 h_S_)) (broadcastInDim S4096x1 ![] bcast_S_S4096x1 (constant S_ .f32 0x44800000#32)))
    (broadcastInDim S4096x1 ![] bcast_S_S4096x1 (constant S_ .f32 0x358637BD#32))
/-- The rows' scales, along every row. -/
def rsT (X : V1024) : V1024 := broadcastInDim S4096x1024 ![0, 1] bcast_S4096x1_S4096x1024_0_1 (Host.rsqrt (msqT X))
/-- The gain, in every row. -/
def gainT (G : Gain) : V1024 := broadcastInDim S4096x1024 ![0, 1] bcast_S1x1024_S4096x1024_0_1 G
/-- The head's output less the target. -/
def errT (X T : V1024) (G : Gain) : V1024 := subf (mulf (mulf X (rsT X)) (gainT G)) T
/-- The loss from the error. -/
def lossT (E : V1024) : FVec Ideal S1x1 .f32 :=
  shapeCast S1x1 (mulf (constant S_ .f32 0x3F000000#32) (Host.reduceAdd (Host.divf (Host.reduceAdd (mulf E E) (constant S_ .f32 0x00000000#32)
    reducesTo_S4096x1024_S4096_d1 h_S_) (broadcastInDim S4096 ![] bcast_S_S4096 (constant S_ .f32 0x44800000#32)))
    (constant S_ .f32 0x00000000#32) reducesTo_S4096_S_d0 h_S_)) shapeCasts_S_S1x1
/-- The cotangent of the head's output from the error. -/
def cotT (E : V1024) : V1024 :=
  mulf (broadcastInDim S4096x1024 ![0] bcast_S4096_S4096x1024_0 (Host.divf (broadcastInDim S4096 ![] bcast_S_S4096
    (mulf (constant S_ .f32 0x3F000000#32) (constant S_ .f32 0x3F800000#32))) (broadcastInDim S4096 ![] bcast_S_S4096 (constant S_ .f32 0x44800000#32))))
    (mulf (broadcastInDim S4096x1024 ![] bcast_S_S4096x1024 (constant S_ .f32 0x40000000#32)) E)
/-- The gradient of the gain. -/
def dgT (X H : V1024) : Gain :=
  shapeCast S1x1024 (Host.reduceAdd (mulf (mulf X (rsT X)) H) (constant S_ .f32 0x00000000#32) reducesTo_S4096x1024_S1024_d0 h_S_)
    shapeCasts_S1024_S1x1024
/-- The coefficients of the input in the gradient of the normalisation, along every row. -/
def coefT (X H : V1024) (G : Gain) : V1024 :=
  broadcastInDim S4096x1024 ![0] bcast_S4096_S4096x1024_0 (Host.reduceAdd (Host.divf (mulf
    (shapeCast S4096x1 (Host.reduceAdd (mulf X (mulf H (gainT G))) (constant S_ .f32 0x00000000#32) reducesTo_S4096x1024_S4096_d1 h_S_)
      shapeCasts_S4096_S4096x1)
    (mulf (broadcastInDim S4096x1 ![] bcast_S_S4096x1 (constant S_ .f32 0xBF000000#32)) (Host.divf (Host.rsqrt (msqT X)) (msqT X))))
    (broadcastInDim S4096x1 ![] bcast_S_S4096x1 (constant S_ .f32 0x44800000#32)))
    (constant S_ .f32 0x00000000#32) reducesTo_S4096x1_S4096_d1 h_S_)
/-- The gradient of the head's input. -/
def backT (X H : V1024) (G : Gain) : V1024 :=
  addf (addf (mulf (mulf H (gainT G)) (rsT X)) (mulf X (coefT X H G))) (mulf (coefT X H G) X)

theorem errT_eq (X T : V1024) (G : Gain) : errT X T G = err (X : Mat 4096 1024) (T : Mat 4096 1024) (G : Mat 1 1024) := by
  funext j
  pointwise [errT, rsT, gainT, msqT, err, rs, msq, mk]

theorem lossT_eq (X T : V1024) (G : Gain) : lossT (errT X T G) = loss (X : Mat 4096 1024) (T : Mat 4096 1024) (G : Mat 1 1024) := by
  rw [errT_eq]
  funext j
  pointwise [lossT, loss, rowLoss, half, mk]

theorem cotT_eq (X T : V1024) (G : Gain) : cotT (errT X T G) = cot (X : Mat 4096 1024) (T : Mat 4096 1024) (G : Mat 1 1024) := by
  rw [errT_eq]
  refine Proj.ext2 fun r s => (Eq.trans ?_ (cot_apply (err X T G (ix2 r s))))
  pointwise [cotT, unit, half]

theorem dgT_eq (X H : V1024) : dgT X H = dg (X : Mat 4096 1024) (H : Mat 4096 1024) := by
  funext j
  pointwise [dgT, rsT, msqT, dg, dgTerm, rs, msq, mk]

theorem backT_eq (X H : V1024) (G : Gain) : backT X H G = back (X : Mat 4096 1024) (H : Mat 4096 1024) (G : Mat 1 1024) := by
  funext j
  pointwise [backT, coefT, gainT, rsT, msqT, back, coef, rs, msq, mk]

variable (m : (p : Loc nD τ sig) → Buf (Elt Ideal) p) (c : Dev nD)

/-- The head's input. -/
def x : Mat 4096 1024 := m ((c.tc : Thread nD τ).loc main_arg0)
/-- The target. -/
def target : Mat 4096 1024 := m ((c.tc : Thread nD τ).loc main_arg1)
/-- The gain. -/
def gain : Mat 1 1024 := m ((c.tc : Thread nD τ).loc main_arg2)

/-- A run ends with the three results as these expressions of the arguments. -/
theorem run_stages (ρ : Dev nD → PrngReg) :
    θ_run defs (onTc (τ := τ) (main (F := Ideal))) ⟨m, fun _ => 0, ρ⟩ fun r => ∀ c : Dev nD,
      r.2.mem ((c.tc : Thread nD τ).loc main_v49) = (loss (x m c) (target m c) (gain m c) : Mat 1 1)
      ∧ r.2.mem ((c.tc : Thread nD τ).loc main_v48) = (back (x m c) (cot (x m c) (target m c) (gain m c)) (gain m c) : Mat 4096 1024)
      ∧ r.2.mem ((c.tc : Thread nD τ).loc main_v32) = (dg (x m c) (cot (x m c) (target m c) (gain m c)) : Mat 1 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine θ_run_mono (Cert.LossRefIdeal.Value.run m ρ) fun r h c => ?_
  obtain ⟨h0, h1, h2, hargs⟩ := h c
  refine ⟨h0.trans ?_, h1.trans ?_, h2.trans ?_, hargs⟩
  · show lossT (errT (x m c) (target m c) (gain m c)) = _
    exact lossT_eq _ _ _
  · show backT (x m c) (cotT (errT (x m c) (target m c) (gain m c))) (gain m c) = _
    rw [cotT_eq, backT_eq]
  · show dgT (x m c) (cotT (errT (x m c) (target m c) (gain m c))) = _
    rw [cotT_eq, dgT_eq]

end Loss.Ref

end
-- ==== Proof.Loss.Value.lean ====
/-
  The two programs of the loss head give the same three results, on any arguments.
-/
module

public import proofs.«01_k».proof.Defs
public import proofs.«01_k».proof.Proof.Loss.Head
public import proofs.«01_k».proof.Proof.Loss.Reference
public import Idealize.ShloMosaic.Lib.Claim

@[expose] public section

set_option maxRecDepth 16384

noncomputable section

namespace Loss

open Idealize.ShloMosaic Idealize.ShloMosaic.TcCoe Idealize.SL.Sem Ffn

open Cert.LossIdeal.Gen in
/-- The kernel's three results are the reference's. -/
theorem algebraic : Cert.algebraic_LossIdeal_LossRefIdeal (hLossIdeal := Cert.LossIdeal.Gen.facts)
    (hLossRefIdeal := Cert.LossRefIdeal.Gen.facts) := by
  intro m g m' g' _ hag
  have ex : ∀ c, Ref.x m' c = V m c Cert.LossIdeal.main_arg0 := fun c => (hag c).1
  have et : ∀ c, Ref.target m' c = V m c Cert.LossIdeal.main_arg1 := fun c => (hag c).2.1
  have eg : ∀ c, Ref.gain m' c = V m c Cert.LossIdeal.main_arg2 := fun c => (hag c).2.2
  refine ⟨fun c => (loss (Ref.x m' c) (Ref.target m' c) (Ref.gain m' c) : Mat 1 1),
    fun c => (back (Ref.x m' c) (cot (Ref.x m' c) (Ref.target m' c) (Ref.gain m' c)) (Ref.gain m' c) : Mat 4096 1024),
    fun c => (dg (Ref.x m' c) (cot (Ref.x m' c) (Ref.target m' c) (Ref.gain m' c)) : Mat 1 1024), ?_, Ref.run_stages m' g'⟩
  refine θ_run_mono (θ_run_and (run_main m g) (unchanged m g)) fun r h c => ?_
  have at_end := (h.1 c).1
  beta_reduce
  rw [ex c, et c, eg c]
  exact ⟨(at_end 5).trans (loss_out m c), (at_end 3).trans (dx_out m c), (at_end 6).trans (dg_out m c), h.2 c⟩

end Loss

end
-- ==== Proof.Adam.Step.lean ====
/-
  The optimiser's step on one weight: entry by entry, from the weight, its two moments and its gradient.
-/
module

public import proofs.«01_k».proof.Proof.Ffn.Mat

@[expose] public section

noncomputable section

namespace Adam

open Idealize.ShloMosaic Ffn

/-- A `1 × a × b` array of extended reals. -/
abbrev Ten (a b : ℕ) : Type := (⟨3, ![1, a, b]⟩ : Shape).Idx → EReal

variable {a b : ℕ}

/-- The new first moment: nine tenths of the old one and a tenth of the gradient. -/
def newM (M G : Ten a b) : Ten a b := fun j => Ideal.ofBits .f32 0x3F666666#32 * M j + Ideal.ofBits .f32 0x3DCCCCCD#32 * G j

/-- The new second moment, the same of the gradient's square, with other weights. -/
def newV (V G : Ten a b) : Ten a b := fun j => Ideal.ofBits .f32 0x3F7FBE77#32 * V j + Ideal.ofBits .f32 0x3A83126F#32 * (G j * G j)

/-- What the step adds to the weight. -/
def delta (W M V G : Ten a b) : Ten a b := fun j => Ideal.ofBits .f32 0xBA83126F#32 *
  (Ideal.div (Ideal.div (newM M G j) (Ideal.ofBits .f32 0x3F26BD02#32))
      (Ideal.sqrt (Ideal.div (newV V G j) (Ideal.ofBits .f32 0x3C231ACC#32)) + Ideal.ofBits .f32 0x322BCC77#32) +
    Ideal.ofBits .f32 0x3C23D70A#32 * W j)

/-- The sum of the two halves of a gradient. -/
def grad (A B : Mat a b) : Ten a b := fun j => A (ix2 (j 1) (j 2)) + B (ix2 (j 1) (j 2))

end Adam

end
-- ==== Proof.Adam.Call.lean ====
/-
  What the optimiser's call leaves in its four result arrays, as the step on whole arrays: a grid point's blocks first.
-/
module

public import proofs.«01_k».proof.Proof.Adam.Step
public import proofs.«01_k».proof.Proof.Gen.AdamIdeal.Frame
public import Idealize.ShloMosaic.Lib.Pipeline.ValueKit

@[expose] public section

set_option maxRecDepth 16384

noncomputable section

namespace Adam

open Idealize.ShloMosaic Idealize.ShloMosaic.TcCoe Idealize.SL.Sem Ffn
open Cert.AdamIdeal Cert.AdamIdeal.Gen

section Block

variable (x0 x1 x2 : Vec Ideal S1x352x1024 .f32) (x3 x4 : Vec Ideal S352x1024 .f32)

theorem blk_g : out0_5 x0 x1 x2 x3 x4 = (grad x3 x4 : Ten 352 1024) := by
  funext y
  frame_out
  pointwise [k0_pay1, k0_pay5, grad]

theorem blk_d : out0_6 x0 x1 x2 x3 x4 = (delta x0 x1 x2 (grad x3 x4) : Ten 352 1024) := by
  funext y
  frame_out
  pointwise [k0_pay2, k0_pay8, k0_pay7, k0_pay6, k0_pay5, delta, newM, newV, grad]

theorem blk_m : out0_7 x0 x1 x2 x3 x4 = (newM x1 (grad x3 x4) : Ten 352 1024) := by
  funext y
  frame_out
  pointwise [k0_pay3, k0_pay6, k0_pay5, newM, grad]

theorem blk_v : out0_8 x0 x1 x2 x3 x4 = (newV x2 (grad x3 x4) : Ten 352 1024) := by
  funext y
  frame_out
  pointwise [k0_pay4, k0_pay7, k0_pay5, newV, grad]

end Block

variable (m : (p : Loc nD τ sig) → Buf (Elt Ideal) p) (c : Dev nD)

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![t.val, 0] ∧ win0_5.index t = ![0, t.val, 0]
    ∧ win0_6.index t = ![0, t.val, 0] ∧ win0_7.index t = ![0, t.val, 0] ∧ win0_8.index t = ![0, t.val, 0] :=
  (by decide +kernel : ∀ t : Fin grid0.N, _)

/-- The sum of the gradient's halves. -/
theorem g_out : (dats m 0 c).arrAt 5 cfg0.N = (grad (V m c main_arg3) (V m c main_arg4) : Ten 704 1024) := by
  refine (dats m 0 c).arrAt_eq_of_covers 5 _ (by decide +kernel) fun t hf y => ?_
  blk_simp
  rw [after0_5, blk_g]
  simp only [grad]
  blk_point [iblk, idx t]

/-- The change of the weight. -/
theorem d_out : (dats m 0 c).arrAt 6 cfg0.N = (delta (V m c main_arg0) (V m c main_arg1) (V m c main_arg2) (grad (V m c main_arg3) (V m c main_arg4)) : Ten 704 1024) := by
  refine (dats m 0 c).arrAt_eq_of_covers 6 _ (by decide +kernel) fun t hf y => ?_
  blk_simp
  rw [after0_6, blk_d]
  simp only [delta, newM, newV, grad]
  blk_point [iblk, idx t]

/-- The new first moment. -/
theorem m_out : (dats m 0 c).arrAt 7 cfg0.N = (newM (V m c main_arg1) (grad (V m c main_arg3) (V m c main_arg4)) : Ten 704 1024) := by
  refine (dats m 0 c).arrAt_eq_of_covers 7 _ (by decide +kernel) fun t hf y => ?_
  blk_simp
  rw [after0_7, blk_m]
  simp only [newM, grad]
  blk_point [iblk, idx t]

/-- The new second moment. -/
theorem v_out : (dats m 0 c).arrAt 8 cfg0.N = (newV (V m c main_arg2) (grad (V m c main_arg3) (V m c main_arg4)) : Ten 704 1024) := by
  refine (dats m 0 c).arrAt_eq_of_covers 8 _ (by decide +kernel) fun t hf y => ?_
  blk_simp
  rw [after0_8, blk_v]
  simp only [newV, grad]
  blk_point [iblk, idx t]

end Adam

end
-- ==== Proof.Adam.Reference.lean ====
/-
  The reference's four results as the step on the arguments: the stages of its program, at any shape, are the expressions
  of the step.
-/
module

public import proofs.«01_k».proof.Proof.Adam.Step
public import proofs.«01_k».proof.Proof.Gen.AdamRefIdeal.Run
public import Idealize.ShloMosaic.Lib.Claim

@[expose] public section

set_option maxRecDepth 16384

noncomputable section

namespace Adam.Ref

open Idealize.ShloMosaic Idealize.ShloMosaic.TcCoe Idealize.SL.Sem Ffn
open Cert.AdamRefIdeal Cert.AdamRefIdeal.Gen Cert.AdamRefIdeal.Value

variable {a b : ℕ}

/-- A `1 × a × b` array of the reference's program. -/
abbrev Vec3 (a b : ℕ) := FVec Ideal (⟨3, ![1, a, b]⟩ : Shape) .f32

variable (h : S_.BroadcastsInDim (⟨3, ![1, a, b]⟩ : Shape) (![] : Fin 0 → Fin 3))

/-- A number, as an array. -/
def fill (x : BitVec 32) : Vec3 a b := broadcastInDim (⟨3, ![1, a, b]⟩ : Shape) ![] h (constant S_ .f32 x)
/-- The new first moment. -/
def newMT (M G : Vec3 a b) : Vec3 a b := addf (mulf (fill h 0x3F666666#32) M) (mulf (fill h 0x3DCCCCCD#32) G)
/-- The new second moment. -/
def newVT (V G : Vec3 a b) : Vec3 a b := addf (mulf (fill h 0x3F7FBE77#32) V) (mulf (fill h 0x3A83126F#32) (mulf G G))
/-- The change of the weight. -/
def deltaT (W M V G : Vec3 a b) : Vec3 a b :=
  mulf (fill h 0xBA83126F#32) (addf (Host.divf (Host.divf (newMT h M G) (fill h 0x3F26BD02#32))
    (addf (Host.sqrt (Host.divf (newVT h V G) (fill h 0x3C231ACC#32))) (fill h 0x322BCC77#32))) (mulf (fill h 0x3C23D70A#32) W))

theorem newMT_eq (M G : Vec3 a b) : newMT h M G = newM (M : Ten a b) (G : Ten a b) := by
  funext j
  pointwise [newMT, fill, newM]

theorem newVT_eq (V G : Vec3 a b) : newVT h V G = newV (V : Ten a b) (G : Ten a b) := by
  funext j
  pointwise [newVT, fill, newV]

theorem deltaT_eq (W M V G : Vec3 a b) : deltaT h W M V G = delta (W : Ten a b) (M : Ten a b) (V : Ten a b) (G : Ten a b) := by
  funext j
  pointwise [deltaT, newMT, newVT, fill, delta, newM, newV]

theorem grad_eq (A B : FVec Ideal S704x1024 .f32) :
    broadcastInDim S1x704x1024 ![1, 2] bcast_S704x1024_S1x704x1024_1_2 (addf A B) = (grad (A : Mat 704 1024) (B : Mat 704 1024)) := by
  funext j
  pointwise [grad]

variable (m : (p : Loc nD τ sig) → Buf (Elt Ideal) p) (c : Dev nD)

/-- The weight. -/
def w : Ten 704 1024 := m ((c.tc : Thread nD τ).loc main_arg0)
/-- Its first moment. -/
def mom : Ten 704 1024 := m ((c.tc : Thread nD τ).loc main_arg1)
/-- Its second moment. -/
def var : Ten 704 1024 := m ((c.tc : Thread nD τ).loc main_arg2)
/-- Its gradient, from the two halves. -/
def gr : Ten 704 1024 := grad (m ((c.tc : Thread nD τ).loc main_arg3)) (m ((c.tc : Thread nD τ).loc main_arg4))

/-- A run ends with the four results as these expressions of the arguments. -/
theorem run_stages (ρ : Dev nD → PrngReg) :
    θ_run defs (onTc (τ := τ) (main (F := Ideal))) ⟨m, fun _ => 0, ρ⟩ fun r => ∀ c : Dev nD,
      r.2.mem ((c.tc : Thread nD τ).loc main_v1) = gr m c
      ∧ r.2.mem ((c.tc : Thread nD τ).loc main_v25) = delta (w m c) (mom m c) (var m c) (gr m c)
      ∧ r.2.mem ((c.tc : Thread nD τ).loc main_v6) = newM (mom m c) (gr m c)
      ∧ r.2.mem ((c.tc : Thread nD τ).loc main_v12) = newV (var m c) (gr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine θ_run_mono (Cert.AdamRefIdeal.Value.run m ρ) fun r h c => ?_
  obtain ⟨h0, h1, h2, h3, hargs⟩ := h c
  rw [grad_eq] at h0 h1 h2 h3
  exact ⟨h0, h1.trans (deltaT_eq bcast_S_S1x704x1024 (w m c) (mom m c) (var m c) (gr m c)),
    h2.trans (newMT_eq bcast_S_S1x704x1024 (mom m c) (gr m c)), h3.trans (newVT_eq bcast_S_S1x704x1024 (var m c) (gr m c)), hargs⟩

end Adam.Ref

end
-- ==== Proof.Adam.Value.lean ====
/-
  The two programs of the optimiser's step give the same four results, on any arguments.
-/
module

public import proofs.«01_k».proof.Defs
public import proofs.«01_k».proof.Proof.Adam.Call
public import proofs.«01_k».proof.Proof.Adam.Reference
public import Idealize.ShloMosaic.Lib.Claim

@[expose] public section

set_option maxRecDepth 16384

noncomputable section

namespace Adam

open Idealize.ShloMosaic Idealize.ShloMosaic.TcCoe Idealize.SL.Sem Ffn

open Cert.AdamIdeal.Gen in
/-- The kernel's four results are the reference's. -/
theorem algebraic : Cert.algebraic_AdamIdeal_AdamRefIdeal (hAdamIdeal := Cert.AdamIdeal.Gen.facts)
    (hAdamRefIdeal := Cert.AdamRefIdeal.Gen.facts) := by
  intro m g m' g' _ hag
  have ew : ∀ c, Ref.w m' c = V m c Cert.AdamIdeal.main_arg0 := fun c => (hag c).1
  have em : ∀ c, Ref.mom m' c = V m c Cert.AdamIdeal.main_arg1 := fun c => (hag c).2.1
  have ev : ∀ c, Ref.var m' c = V m c Cert.AdamIdeal.main_arg2 := fun c => (hag c).2.2.1
  have eg : ∀ c, Ref.gr m' c = grad (V m c Cert.AdamIdeal.main_arg3) (V m c Cert.AdamIdeal.main_arg4) := fun c =>
    congrArg₂ (fun A B : Mat 704 1024 => grad A B) (hag c).2.2.2.1 (hag c).2.2.2.2
  refine ⟨fun c => Ref.gr m' c, fun c => delta (Ref.w m' c) (Ref.mom m' c) (Ref.var m' c) (Ref.gr m' c),
    fun c => newM (Ref.mom m' c) (Ref.gr m' c), fun c => newV (Ref.var m' c) (Ref.gr m' c), ?_, Ref.run_stages m' g'⟩
  refine θ_run_mono (θ_run_and (run_main m g) (unchanged m g)) fun r h c => ?_
  have at_end := (h.1 c).1
  beta_reduce
  rw [ew c, em c, ev c, eg c]
  exact ⟨(at_end 5).trans (g_out m c), (at_end 6).trans (d_out m c), (at_end 7).trans (m_out m c), (at_end 8).trans (v_out m c), h.2 c⟩

end Adam

end
-- ==== Proof.lean ====
/-
  The claims about the feed-forward block, the mixer's input projection, convolution and output, the loss head, and the
  optimiser's step on a weight: the programs' frames, and that each kernel computes the results of its reference over the extended reals.
-/
module

public import proofs.«01_k».proof.Defs
public import proofs.«01_k».proof.Proof.Gen.Kernel.Frame
public import proofs.«01_k».proof.Proof.Gen.Mixer.Frame
public import proofs.«01_k».proof.Proof.Gen.Proj.Frame
public import proofs.«01_k».proof.Proof.Gen.Conv.Frame
public import proofs.«01_k».proof.Proof.Ffn.Value
public import proofs.«01_k».proof.Proof.Mixer.Value
public import proofs.«01_k».proof.Proof.Proj.Value
public import proofs.«01_k».proof.Proof.Conv.Value
public import proofs.«01_k».proof.Proof.Gen.Loss.Frame
public import proofs.«01_k».proof.Proof.Loss.Value
public import proofs.«01_k».proof.Proof.Gen.Adam.Frame
public import proofs.«01_k».proof.Proof.Adam.Value

@[expose] public section

noncomputable section

namespace Cert.Proof

open Idealize.ShloMosaic Idealize.SL.Sem

/-- The reference ends with its arguments unchanged and every counter at zero (it has none). -/
theorem frame_reference (m : (p : Loc ReferenceIdeal.nD ReferenceIdeal.τ ReferenceIdeal.sig) → Buf (Elt Ideal) p)
    (g : Dev ReferenceIdeal.nD → PrngReg) :
    θ_run (ReferenceIdeal.defs (F := Ideal)) (onTc (τ := ReferenceIdeal.τ) (ReferenceIdeal.main (F := Ideal))) ⟨m, fun _ => 0, g⟩
      fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5))
        ∧ r.2.sem = fun _ => 0 :=
  θ_run_mono (ReferenceIdeal.Value.run m g) fun r h =>
    ⟨fun c => (h c).2.2.2.2.2.2, sem_eq_zero_of_no_sems (by decide) r.2⟩

/-- The mixer's reference ends with its arguments unchanged and every counter at zero (it has none). -/
theorem frame_mixer_reference (m : (p : Loc MixerRefIdeal.nD MixerRefIdeal.τ MixerRefIdeal.sig) → Buf (Elt Ideal) p)
    (g : Dev MixerRefIdeal.nD → PrngReg) :
    θ_run (MixerRefIdeal.defs (F := Ideal)) (onTc (τ := MixerRefIdeal.τ) (MixerRefIdeal.main (F := Ideal))) ⟨m, fun _ => 0, g⟩
      fun r => (∀ c : Dev MixerRefIdeal.nD,
        r.2.mem ((c.tc : Thread MixerRefIdeal.nD MixerRefIdeal.τ).loc MixerRefIdeal.main_arg0) = m ((c.tc : Thread MixerRefIdeal.nD MixerRefIdeal.τ).loc MixerRefIdeal.main_arg0)
        ∧ r.2.mem ((c.tc : Thread MixerRefIdeal.nD MixerRefIdeal.τ).loc MixerRefIdeal.main_arg1) = m ((c.tc : Thread MixerRefIdeal.nD MixerRefIdeal.τ).loc MixerRefIdeal.main_arg1)
        ∧ r.2.mem ((c.tc : Thread MixerRefIdeal.nD MixerRefIdeal.τ).loc MixerRefIdeal.main_arg2) = m ((c.tc : Thread MixerRefIdeal.nD MixerRefIdeal.τ).loc MixerRefIdeal.main_arg2)
        ∧ r.2.mem ((c.tc : Thread MixerRefIdeal.nD MixerRefIdeal.τ).loc MixerRefIdeal.main_arg3) = m ((c.tc : Thread MixerRefIdeal.nD MixerRefIdeal.τ).loc MixerRefIdeal.main_arg3)
        ∧ r.2.mem ((c.tc : Thread MixerRefIdeal.nD MixerRefIdeal.τ).loc MixerRefIdeal.main_arg4) = m ((c.tc : Thread MixerRefIdeal.nD MixerRefIdeal.τ).loc MixerRefIdeal.main_arg4)
        ∧ r.2.mem ((c.tc : Thread MixerRefIdeal.nD MixerRefIdeal.τ).loc MixerRefIdeal.main_arg5) = m ((c.tc : Thread MixerRefIdeal.nD MixerRefIdeal.τ).loc MixerRefIdeal.main_arg5)
        ∧ r.2.mem ((c.tc : Thread MixerRefIdeal.nD MixerRefIdeal.τ).loc MixerRefIdeal.main_arg6) = m ((c.tc : Thread MixerRefIdeal.nD MixerRefIdeal.τ).loc MixerRefIdeal.main_arg6)
        ∧ r.2.mem ((c.tc : Thread MixerRefIdeal.nD MixerRefIdeal.τ).loc MixerRefIdeal.main_arg7) = m ((c.tc : Thread MixerRefIdeal.nD MixerRefIdeal.τ).loc MixerRefIdeal.main_arg7)
        ∧ r.2.mem ((c.tc : Thread MixerRefIdeal.nD MixerRefIdeal.τ).loc MixerRefIdeal.main_arg8) = m ((c.tc : Thread MixerRefIdeal.nD MixerRefIdeal.τ).loc MixerRefIdeal.main_arg8)
        ∧ r.2.mem ((c.tc : Thread MixerRefIdeal.nD MixerRefIdeal.τ).loc MixerRefIdeal.main_arg9) = m ((c.tc : Thread MixerRefIdeal.nD MixerRefIdeal.τ).loc MixerRefIdeal.main_arg9)
        ∧ r.2.mem ((c.tc : Thread MixerRefIdeal.nD MixerRefIdeal.τ).loc MixerRefIdeal.main_arg10) = m ((c.tc : Thread MixerRefIdeal.nD MixerRefIdeal.τ).loc MixerRefIdeal.main_arg10)
        ∧ r.2.mem ((c.tc : Thread MixerRefIdeal.nD MixerRefIdeal.τ).loc MixerRefIdeal.main_arg11) = m ((c.tc : Thread MixerRefIdeal.nD MixerRefIdeal.τ).loc MixerRefIdeal.main_arg11)
        ∧ r.2.mem ((c.tc : Thread MixerRefIdeal.nD MixerRefIdeal.τ).loc MixerRefIdeal.main_arg12) = m ((c.tc : Thread MixerRefIdeal.nD MixerRefIdeal.τ).loc MixerRefIdeal.main_arg12)
        ∧ r.2.mem ((c.tc : Thread MixerRefIdeal.nD MixerRefIdeal.τ).loc MixerRefIdeal.main_arg13) = m ((c.tc : Thread MixerRefIdeal.nD MixerRefIdeal.τ).loc MixerRefIdeal.main_arg13))
        ∧ r.2.sem = fun _ => 0 :=
  θ_run_mono (MixerRefIdeal.Value.run m g) fun r h =>
    ⟨fun c => (h c).2.2.2.2.2.2.2.2.2.2.2.2.2, sem_eq_zero_of_no_sems (by decide) r.2⟩

/-- The projection's reference ends with its arguments unchanged and every counter at zero (it has none). -/
theorem frame_proj_reference (m : (p : Loc ProjRefIdeal.nD ProjRefIdeal.τ ProjRefIdeal.sig) → Buf (Elt Ideal) p)
    (g : Dev ProjRefIdeal.nD → PrngReg) :
    θ_run (ProjRefIdeal.defs (F := Ideal)) (onTc (τ := ProjRefIdeal.τ) (ProjRefIdeal.main (F := Ideal))) ⟨m, fun _ => 0, g⟩
      fun r => (∀ c : Dev ProjRefIdeal.nD,
        r.2.mem ((c.tc : Thread ProjRefIdeal.nD ProjRefIdeal.τ).loc ProjRefIdeal.main_arg0) = m ((c.tc : Thread ProjRefIdeal.nD ProjRefIdeal.τ).loc ProjRefIdeal.main_arg0)
        ∧ r.2.mem ((c.tc : Thread ProjRefIdeal.nD ProjRefIdeal.τ).loc ProjRefIdeal.main_arg1) = m ((c.tc : Thread ProjRefIdeal.nD ProjRefIdeal.τ).loc ProjRefIdeal.main_arg1)
        ∧ r.2.mem ((c.tc : Thread ProjRefIdeal.nD ProjRefIdeal.τ).loc ProjRefIdeal.main_arg2) = m ((c.tc : Thread ProjRefIdeal.nD ProjRefIdeal.τ).loc ProjRefIdeal.main_arg2)
        ∧ r.2.mem ((c.tc : Thread ProjRefIdeal.nD ProjRefIdeal.τ).loc ProjRefIdeal.main_arg3) = m ((c.tc : Thread ProjRefIdeal.nD ProjRefIdeal.τ).loc ProjRefIdeal.main_arg3)
        ∧ r.2.mem ((c.tc : Thread ProjRefIdeal.nD ProjRefIdeal.τ).loc ProjRefIdeal.main_arg4) = m ((c.tc : Thread ProjRefIdeal.nD ProjRefIdeal.τ).loc ProjRefIdeal.main_arg4)
        ∧ r.2.mem ((c.tc : Thread ProjRefIdeal.nD ProjRefIdeal.τ).loc ProjRefIdeal.main_arg5) = m ((c.tc : Thread ProjRefIdeal.nD ProjRefIdeal.τ).loc ProjRefIdeal.main_arg5)
        ∧ r.2.mem ((c.tc : Thread ProjRefIdeal.nD ProjRefIdeal.τ).loc ProjRefIdeal.main_arg6) = m ((c.tc : Thread ProjRefIdeal.nD ProjRefIdeal.τ).loc ProjRefIdeal.main_arg6)
        ∧ r.2.mem ((c.tc : Thread ProjRefIdeal.nD ProjRefIdeal.τ).loc ProjRefIdeal.main_arg7) = m ((c.tc : Thread ProjRefIdeal.nD ProjRefIdeal.τ).loc ProjRefIdeal.main_arg7)
        ∧ r.2.mem ((c.tc : Thread ProjRefIdeal.nD ProjRefIdeal.τ).loc ProjRefIdeal.main_arg8) = m ((c.tc : Thread ProjRefIdeal.nD ProjRefIdeal.τ).loc ProjRefIdeal.main_arg8)
        ∧ r.2.mem ((c.tc : Thread ProjRefIdeal.nD ProjRefIdeal.τ).loc ProjRefIdeal.main_arg9) = m ((c.tc : Thread ProjRefIdeal.nD ProjRefIdeal.τ).loc ProjRefIdeal.main_arg9)
        ∧ r.2.mem ((c.tc : Thread ProjRefIdeal.nD ProjRefIdeal.τ).loc ProjRefIdeal.main_arg10) = m ((c.tc : Thread ProjRefIdeal.nD ProjRefIdeal.τ).loc ProjRefIdeal.main_arg10))
        ∧ r.2.sem = fun _ => 0 :=
  θ_run_mono (ProjRefIdeal.Value.run m g) fun r h =>
    ⟨fun c => (h c).2.2.2.2.2.2.2.2, sem_eq_zero_of_no_sems (by decide) r.2⟩

/-- The convolution's reference ends with its arguments unchanged and every counter at zero (it has none). -/
theorem frame_conv_reference (m : (p : Loc ConvRefIdeal.nD ConvRefIdeal.τ ConvRefIdeal.sig) → Buf (Elt Ideal) p)
    (g : Dev ConvRefIdeal.nD → PrngReg) :
    θ_run (ConvRefIdeal.defs (F := Ideal)) (onTc (τ := ConvRefIdeal.τ) (ConvRefIdeal.main (F := Ideal))) ⟨m, fun _ => 0, g⟩
      fun r => (∀ c : Dev ConvRefIdeal.nD,
        r.2.mem ((c.tc : Thread ConvRefIdeal.nD ConvRefIdeal.τ).loc ConvRefIdeal.main_arg0) = m ((c.tc : Thread ConvRefIdeal.nD ConvRefIdeal.τ).loc ConvRefIdeal.main_arg0)
        ∧ r.2.mem ((c.tc : Thread ConvRefIdeal.nD ConvRefIdeal.τ).loc ConvRefIdeal.main_arg1) = m ((c.tc : Thread ConvRefIdeal.nD ConvRefIdeal.τ).loc ConvRefIdeal.main_arg1)
        ∧ r.2.mem ((c.tc : Thread ConvRefIdeal.nD ConvRefIdeal.τ).loc ConvRefIdeal.main_arg2) = m ((c.tc : Thread ConvRefIdeal.nD ConvRefIdeal.τ).loc ConvRefIdeal.main_arg2)
        ∧ r.2.mem ((c.tc : Thread ConvRefIdeal.nD ConvRefIdeal.τ).loc ConvRefIdeal.main_arg3) = m ((c.tc : Thread ConvRefIdeal.nD ConvRefIdeal.τ).loc ConvRefIdeal.main_arg3)
        ∧ r.2.mem ((c.tc : Thread ConvRefIdeal.nD ConvRefIdeal.τ).loc ConvRefIdeal.main_arg4) = m ((c.tc : Thread ConvRefIdeal.nD ConvRefIdeal.τ).loc ConvRefIdeal.main_arg4)
        ∧ r.2.mem ((c.tc : Thread ConvRefIdeal.nD ConvRefIdeal.τ).loc ConvRefIdeal.main_arg5) = m ((c.tc : Thread ConvRefIdeal.nD ConvRefIdeal.τ).loc ConvRefIdeal.main_arg5))
        ∧ r.2.sem = fun _ => 0 :=
  θ_run_mono (ConvRefIdeal.Value.run m g) fun r h =>
    ⟨fun c => (h c).2.2.2.2.2.2, sem_eq_zero_of_no_sems (by decide) r.2⟩

/-- The loss head's reference ends with its arguments unchanged and every counter at zero (it has none). -/
theorem frame_loss_reference (m : (p : Loc LossRefIdeal.nD LossRefIdeal.τ LossRefIdeal.sig) → Buf (Elt Ideal) p)
    (g : Dev LossRefIdeal.nD → PrngReg) :
    θ_run (LossRefIdeal.defs (F := Ideal)) (onTc (τ := LossRefIdeal.τ) (LossRefIdeal.main (F := Ideal))) ⟨m, fun _ => 0, g⟩
      fun r => (∀ c : Dev LossRefIdeal.nD,
        r.2.mem ((c.tc : Thread LossRefIdeal.nD LossRefIdeal.τ).loc LossRefIdeal.main_arg0) = m ((c.tc : Thread LossRefIdeal.nD LossRefIdeal.τ).loc LossRefIdeal.main_arg0)
        ∧ r.2.mem ((c.tc : Thread LossRefIdeal.nD LossRefIdeal.τ).loc LossRefIdeal.main_arg1) = m ((c.tc : Thread LossRefIdeal.nD LossRefIdeal.τ).loc LossRefIdeal.main_arg1)
        ∧ r.2.mem ((c.tc : Thread LossRefIdeal.nD LossRefIdeal.τ).loc LossRefIdeal.main_arg2) = m ((c.tc : Thread LossRefIdeal.nD LossRefIdeal.τ).loc LossRefIdeal.main_arg2))
        ∧ r.2.sem = fun _ => 0 :=
  θ_run_mono (LossRefIdeal.Value.run m g) fun r h =>
    ⟨fun c => (h c).2.2.2, sem_eq_zero_of_no_sems (by decide) r.2⟩

/-- The optimiser's reference ends with its arguments unchanged and every counter at zero (it has none). -/
theorem frame_adam_reference (m : (p : Loc AdamRefIdeal.nD AdamRefIdeal.τ AdamRefIdeal.sig) → Buf (Elt Ideal) p)
    (g : Dev AdamRefIdeal.nD → PrngReg) :
    θ_run (AdamRefIdeal.defs (F := Ideal)) (onTc (τ := AdamRefIdeal.τ) (AdamRefIdeal.main (F := Ideal))) ⟨m, fun _ => 0, g⟩
      fun r => (∀ c : Dev AdamRefIdeal.nD,
        r.2.mem ((c.tc : Thread AdamRefIdeal.nD AdamRefIdeal.τ).loc AdamRefIdeal.main_arg0) = m ((c.tc : Thread AdamRefIdeal.nD AdamRefIdeal.τ).loc AdamRefIdeal.main_arg0)
        ∧ r.2.mem ((c.tc : Thread AdamRefIdeal.nD AdamRefIdeal.τ).loc AdamRefIdeal.main_arg1) = m ((c.tc : Thread AdamRefIdeal.nD AdamRefIdeal.τ).loc AdamRefIdeal.main_arg1)
        ∧ r.2.mem ((c.tc : Thread AdamRefIdeal.nD AdamRefIdeal.τ).loc AdamRefIdeal.main_arg2) = m ((c.tc : Thread AdamRefIdeal.nD AdamRefIdeal.τ).loc AdamRefIdeal.main_arg2)
        ∧ r.2.mem ((c.tc : Thread AdamRefIdeal.nD AdamRefIdeal.τ).loc AdamRefIdeal.main_arg3) = m ((c.tc : Thread AdamRefIdeal.nD AdamRefIdeal.τ).loc AdamRefIdeal.main_arg3)
        ∧ r.2.mem ((c.tc : Thread AdamRefIdeal.nD AdamRefIdeal.τ).loc AdamRefIdeal.main_arg4) = m ((c.tc : Thread AdamRefIdeal.nD AdamRefIdeal.τ).loc AdamRefIdeal.main_arg4))
        ∧ r.2.sem = fun _ => 0 :=
  θ_run_mono (AdamRefIdeal.Value.run m g) fun r h =>
    ⟨fun c => (h c).2.2.2.2, sem_eq_zero_of_no_sems (by decide) r.2⟩

theorem claim : Cert.Claim :=
  ⟨Kernel.Gen.facts, KernelIdeal.Gen.facts, ReferenceIdeal.Gen.facts, Mixer.Gen.facts, MixerIdeal.Gen.facts,
    MixerRefIdeal.Gen.facts, Proj.Gen.facts, ProjIdeal.Gen.facts, ProjRefIdeal.Gen.facts, Conv.Gen.facts, ConvIdeal.Gen.facts,
    ConvRefIdeal.Gen.facts, Loss.Gen.facts, LossIdeal.Gen.facts,
    LossRefIdeal.Gen.facts, Adam.Gen.facts, AdamIdeal.Gen.facts, AdamRefIdeal.Gen.facts, Ffn.preFacts,
    fun m g _ => Kernel.Gen.frame m g, fun m g _ => KernelIdeal.Gen.frame m g, fun m g _ => KernelIdeal.Gen.frame m g,
    fun m g _ => frame_reference m g, fun m g _ => frame_reference m g,
    fun m g _ => Mixer.Gen.frame m g, fun m g _ => MixerIdeal.Gen.frame m g, fun m g _ => frame_mixer_reference m g,
    fun m g _ => Proj.Gen.frame m g, fun m g _ => ProjIdeal.Gen.frame m g, fun m g _ => frame_proj_reference m g,
    fun m g _ => Conv.Gen.frame m g, fun m g _ => ConvIdeal.Gen.frame m g, fun m g _ => frame_conv_reference m g,
    fun m g _ => Loss.Gen.frame m g, fun m g _ => LossIdeal.Gen.frame m g, fun m g _ => frame_loss_reference m g,
    fun m g _ => Adam.Gen.frame m g, fun m g _ => AdamIdeal.Gen.frame m g, fun m g _ => frame_adam_reference m g,
    trivial, Ffn.algebraic, trivial, Mix.algebraic, trivial, Proj.algebraic, trivial, Conv.algebraic,
    trivial, Loss.algebraic, trivial, Adam.algebraic⟩

end Cert.Proof

end
